-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_not_plus_infinity [hPre_not_plus_infinity : Cert.Pre_not_plus_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_not_plus_infinity.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_not_plus_infinity [hPre_not_plus_infinity : Cert.Pre_not_plus_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_not_plus_infinity.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_not_plus_infinity [hKernelIdeal : Cert.KernelIdeal.Facts] [hPre_not_plus_infinity : Cert.Pre_not_plus_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_not_plus_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_not_plus_infinity [hReferenceIdeal : Cert.ReferenceIdeal.Facts] [hPre_not_plus_infinity : Cert.Pre_not_plus_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_not_plus_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_not_plus_infinity [hKernelIdeal : Cert.KernelIdeal.Facts] [hReferenceIdeal : Cert.ReferenceIdeal.Facts] [hPre_not_plus_infinity : Cert.Pre_not_plus_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_not_plus_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_not_plus_infinity : Cert.Pre_not_plus_infinity.Facts),
    quiescent_Kernel (hKernel := hKernel)
    ∧ quiescent_KernelIdeal (hKernelIdeal := hKernelIdeal)
    ∧ quiescent_KernelIdeal_pre_not_plus_infinity (hKernelIdeal := hKernelIdeal) (hPre_not_plus_infinity := hPre_not_plus_infinity)
    ∧ quiescent_ReferenceIdeal (hReferenceIdeal := hReferenceIdeal)
    ∧ quiescent_ReferenceIdeal_pre_not_plus_infinity (hReferenceIdeal := hReferenceIdeal) (hPre_not_plus_infinity := hPre_not_plus_infinity)
    ∧ preserves_Kernel_KernelIdeal
    ∧ algebraic_KernelIdeal_ReferenceIdeal_pre_not_plus_infinity (hKernelIdeal := hKernelIdeal) (hReferenceIdeal := hReferenceIdeal) (hPre_not_plus_infinity := hPre_not_plus_infinity)
-- ==== Pre_not_plus_infinity.lean ====
abbrev S4x96x384x384 : Shape := ⟨4, ![4, 96, 384, 384]⟩
abbrev S_ : Shape := ⟨0, ![]⟩

class Facts : Prop where
  bcast_S_S4x96x384x384 : S_.BroadcastsInDim S4x96x384x384 (![] : Fin 0 → Fin S4x96x384x384.rank)
  reducesTo_S4x96x384x384_S_d0_1_2_3 : S4x96x384x384.ReducesTo [0, 1, 2, 3] S_
  h_S_ : 0 < S_.numel

variable [Facts]

def fn {F : FTy → Type} [FloatOps F] (main_arg0 : FVec F S4x96x384x384 .f32) : IVec S_ 1 :=
  let main_cst : FVec F S_ .f32 := constant S_ .f32 0x7F800000#32
  let main_v0 : FVec F S4x96x384x384 .f32 := broadcastInDim S4x96x384x384 ![] bcast_S_S4x96x384x384 main_cst
  let main_v1 : IVec S4x96x384x384 1 := cmpf .olt main_arg0 main_v0
  let main_c : IVec S_ 1 := constantI S_ 1 1#1
  let main_v2 : IVec S_ 1 := (fun x v => Host.reduce IntOp.andi x v reducesTo_S4x96x384x384_S_d0_1_2_3 h_S_) main_v1 main_c
  main_v2
-- ==== Kernel.lean ====
abbrev S4x96x384x384 : Shape := ⟨4, ![4, 96, 384, 384]⟩
abbrev S384x192 : Shape := ⟨2, ![384, 192]⟩
abbrev S1x960 : Shape := ⟨2, ![1, 960]⟩
abbrev S4x96x192x768 : Shape := ⟨4, ![4, 96, 192, 768]⟩
abbrev S_ : Shape := ⟨0, ![]⟩
abbrev S1 : Shape := ⟨1, ![1]⟩
abbrev S2 : Shape := ⟨1, ![2]⟩
abbrev S4x96x192x192 : Shape := ⟨4, ![4, 96, 192, 192]⟩
abbrev S1x1x192x768 : Shape := ⟨4, ![1, 1, 192, 768]⟩
abbrev S1x1x192x192 : Shape := ⟨4, ![1, 1, 192, 192]⟩
abbrev S192x960 : Shape := ⟨2, ![192, 960]⟩
abbrev S192x768 : Shape := ⟨2, ![192, 768]⟩
abbrev S192x384 : Shape := ⟨2, ![192, 384]⟩
abbrev S192x192 : Shape := ⟨2, ![192, 192]⟩
abbrev S1x1x192x384 : Shape := ⟨4, ![1, 1, 192, 384]⟩

abbrev nBuf : Space → Nat
  | .hbm => 258
  | .vmem => 11
  | .smem => 1
  | _ => 0

abbrev hbmTy0_0 (i : Nat) : BufTy := match i % 128 with
  | 0 => ⟨S4x96x384x384, .f32⟩
  | 1 => ⟨S384x192, .f32⟩
  | 2 => ⟨S384x192, .f32⟩
  | 3 => ⟨S1x960, .i32⟩
  | 4 => ⟨S4x96x192x768, .f32⟩
  | 5 => ⟨S_, .i32⟩
  | 6 => ⟨S_, .i32⟩
  | 7 => ⟨S_, .i32⟩
  | 8 => ⟨S_, .i32⟩
  | 9 => ⟨S1, .i32⟩
  | 10 => ⟨S_, .i32⟩
  | 11 => ⟨S_, .i32⟩
  | 12 => ⟨S_, .i32⟩
  | 13 => ⟨S1, .i32⟩
  | 14 => ⟨S2, .i32⟩
  | 15 => ⟨S_, .i32⟩
  | 16 => ⟨S_, .i32⟩
  | 17 => ⟨S_, .i32⟩
  | 18 => ⟨S1, .i32⟩
  | 19 => ⟨S_, .i32⟩
  | 20 => ⟨S_, .i32⟩
  | 21 => ⟨S1, .i32⟩
  | 22 => ⟨S2, .i32⟩
  | 23 => ⟨S1, .i32⟩
  | 24 => ⟨S_, .i32⟩
  | 25 => ⟨S1, .i32⟩
  | 26 => ⟨S_, .i32⟩
  | 27 => ⟨S1, .i32⟩
  | 28 => ⟨S1, .i32⟩
  | 29 => ⟨S_, .i32⟩
  | 30 => ⟨S_, .i32⟩
  | 31 => ⟨S_, .i32⟩
  | 32 => ⟨S1, .i32⟩
  | 33 => ⟨S1, .i32⟩
  | 34 => ⟨S1, .i32⟩
  | 35 => ⟨S1, .i32⟩
  | 36 => ⟨S1, .i32⟩
  | 37 => ⟨S_, .i32⟩
  | 38 => ⟨S1, .i32⟩
  | 39 => ⟨S1, .i32⟩
  | 40 => ⟨S_, .i32⟩
  | 41 => ⟨S1, .i32⟩
  | 42 => ⟨S1, .i32⟩
  | 43 => ⟨S1, .i32⟩
  | 44 => ⟨S1, .i32⟩
  | 45 => ⟨S1, .i32⟩
  | 46 => ⟨S_, .i32⟩
  | 47 => ⟨S1, .i32⟩
  | 48 => ⟨S1, .i32⟩
  | 49 => ⟨S_, .i32⟩
  | 50 => ⟨S1, .i32⟩
  | 51 => ⟨S1, .i32⟩
  | 52 => ⟨S1, .i32⟩
  | 53 => ⟨S1, .i32⟩
  | 54 => ⟨S1, .i32⟩
  | 55 => ⟨S_, .i32⟩
  | 56 => ⟨S1, .i32⟩
  | 57 => ⟨S1, .i32⟩
  | 58 => ⟨S_, .i32⟩
  | 59 => ⟨S1, .i32⟩
  | 60 => ⟨S1, .i32⟩
  | 61 => ⟨S1, .i32⟩
  | 62 => ⟨S1, .i32⟩
  | 63 => ⟨S1, .i32⟩
  | 64 => ⟨S_, .i32⟩
  | 65 => ⟨S1, .i32⟩
  | 66 => ⟨S1, .i32⟩
  | 67 => ⟨S_, .i32⟩
  | 68 => ⟨S1, .i32⟩
  | 69 => ⟨S1, .i32⟩
  | 70 => ⟨S1, .i32⟩
  | 71 => ⟨S1, .i32⟩
  | 72 => ⟨S1, .i32⟩
  | 73 => ⟨S1, .i32⟩
  | 74 => ⟨S1, .i32⟩
  | 75 => ⟨S1, .i32⟩
  | 76 => ⟨S_, .i32⟩
  | 77 => ⟨S1, .i32⟩
  | 78 => ⟨S1, .i32⟩
  | 79 => ⟨S1, .i32⟩
  | 80 => ⟨S_, .i32⟩
  | 81 => ⟨S1, .i32⟩
  | 82 => ⟨S1, .i32⟩
  | 83 => ⟨S_, .i32⟩
  | 84 => ⟨S1, .i32⟩
  | 85 => ⟨S1, .i32⟩
  | 86 => ⟨S1, .i32⟩
  | 87 => ⟨S1, .i32⟩
  | 88 => ⟨S1, .i32⟩
  | 89 => ⟨S_, .i32⟩
  | 90 => ⟨S1, .i32⟩
  | 91 => ⟨S1, .i32⟩
  | 92 => ⟨S_, .i32⟩
  | 93 => ⟨S1, .i32⟩
  | 94 => ⟨S1, .i32⟩
  | 95 => ⟨S1, .i32⟩
  | 96 => ⟨S1, .i32⟩
  | 97 => ⟨S1, .i32⟩
  | 98 => ⟨S_, .i32⟩
  | 99 => ⟨S1, .i32⟩
  | 100 => ⟨S1, .i32⟩
  | 101 => ⟨S_, .i32⟩
  | 102 => ⟨S1, .i32⟩
  | 103 => ⟨S1, .i32⟩
  | 104 => ⟨S1, .i32⟩
  | 105 => ⟨S1, .i32⟩
  | 106 => ⟨S1, .i32⟩
  | 107 => ⟨S_, .i32⟩
  | 108 => ⟨S1, .i32⟩
  | 109 => ⟨S1, .i32⟩
  | 110 => ⟨S_, .i32⟩
  | 111 => ⟨S1, .i32⟩
  | 112 => ⟨S1, .i32⟩
  | 113 => ⟨S1, .i32⟩
  | 114 => ⟨S1, .i32⟩
  | 115 => ⟨S1, .i32⟩
  | 116 => ⟨S1, .i32⟩
  | 117 => ⟨S1, .i32⟩
  | 118 => ⟨S1, .i32⟩
  | 119 => ⟨S_, .i32⟩
  | 120 => ⟨S1, .i32⟩
  | 121 => ⟨S1, .i32⟩
  | 122 => ⟨S1, .i32⟩
  | 123 => ⟨S_, .i32⟩
  | 124 => ⟨S1, .i32⟩
  | 125 => ⟨S1, .i32⟩
  | 126 => ⟨S_, .i32⟩
  | 127 => ⟨S1, .i32⟩
  | _ => ⟨S4x96x384x384, .f32⟩

abbrev hbmTy0_1 (i : Nat) : BufTy := match i % 128 with
  | 0 => ⟨S1, .i32⟩
  | 1 => ⟨S1, .i32⟩
  | 2 => ⟨S1, .i32⟩
  | 3 => ⟨S1, .i32⟩
  | 4 => ⟨S_, .i32⟩
  | 5 => ⟨S1, .i32⟩
  | 6 => ⟨S1, .i32⟩
  | 7 => ⟨S_, .i32⟩
  | 8 => ⟨S1, .i32⟩
  | 9 => ⟨S1, .i32⟩
  | 10 => ⟨S1, .i32⟩
  | 11 => ⟨S1, .i32⟩
  | 12 => ⟨S1, .i32⟩
  | 13 => ⟨S_, .i32⟩
  | 14 => ⟨S1, .i32⟩
  | 15 => ⟨S1, .i32⟩
  | 16 => ⟨S_, .i32⟩
  | 17 => ⟨S1, .i32⟩
  | 18 => ⟨S1, .i32⟩
  | 19 => ⟨S1, .i32⟩
  | 20 => ⟨S1, .i32⟩
  | 21 => ⟨S1, .i32⟩
  | 22 => ⟨S_, .i32⟩
  | 23 => ⟨S1, .i32⟩
  | 24 => ⟨S1, .i32⟩
  | 25 => ⟨S_, .i32⟩
  | 26 => ⟨S1, .i32⟩
  | 27 => ⟨S1, .i32⟩
  | 28 => ⟨S1, .i32⟩
  | 29 => ⟨S1, .i32⟩
  | 30 => ⟨S1, .i32⟩
  | 31 => ⟨S1, .i32⟩
  | 32 => ⟨S1, .i32⟩
  | 33 => ⟨S1, .i32⟩
  | 34 => ⟨S_, .i32⟩
  | 35 => ⟨S1, .i32⟩
  | 36 => ⟨S1, .i32⟩
  | 37 => ⟨S1, .i32⟩
  | 38 => ⟨S_, .i32⟩
  | 39 => ⟨S1, .i32⟩
  | 40 => ⟨S1, .i32⟩
  | 41 => ⟨S_, .i32⟩
  | 42 => ⟨S1, .i32⟩
  | 43 => ⟨S1, .i32⟩
  | 44 => ⟨S1, .i32⟩
  | 45 => ⟨S1, .i32⟩
  | 46 => ⟨S1, .i32⟩
  | 47 => ⟨S_, .i32⟩
  | 48 => ⟨S1, .i32⟩
  | 49 => ⟨S1, .i32⟩
  | 50 => ⟨S_, .i32⟩
  | 51 => ⟨S1, .i32⟩
  | 52 => ⟨S1, .i32⟩
  | 53 => ⟨S1, .i32⟩
  | 54 => ⟨S1, .i32⟩
  | 55 => ⟨S1, .i32⟩
  | 56 => ⟨S_, .i32⟩
  | 57 => ⟨S1, .i32⟩
  | 58 => ⟨S1, .i32⟩
  | 59 => ⟨S_, .i32⟩
  | 60 => ⟨S1, .i32⟩
  | 61 => ⟨S1, .i32⟩
  | 62 => ⟨S1, .i32⟩
  | 63 => ⟨S1, .i32⟩
  | 64 => ⟨S1, .i32⟩
  | 65 => ⟨S_, .i32⟩
  | 66 => ⟨S1, .i32⟩
  | 67 => ⟨S1, .i32⟩
  | 68 => ⟨S_, .i32⟩
  | 69 => ⟨S1, .i32⟩
  | 70 => ⟨S1, .i32⟩
  | 71 => ⟨S1, .i32⟩
  | 72 => ⟨S1, .i32⟩
  | 73 => ⟨S1, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S1, .i32⟩
  | 81 => ⟨S_, .i32⟩
  | 82 => ⟨S1, .i32⟩
  | 83 => ⟨S1, .i32⟩
  | 84 => ⟨S_, .i32⟩
  | 85 => ⟨S1, .i32⟩
  | 86 => ⟨S1, .i32⟩
  | 87 => ⟨S1, .i32⟩
  | 88 => ⟨S1, .i32⟩
  | 89 => ⟨S1, .i32⟩
  | 90 => ⟨S_, .i32⟩
  | 91 => ⟨S1, .i32⟩
  | 92 => ⟨S1, .i32⟩
  | 93 => ⟨S_, .i32⟩
  | 94 => ⟨S1, .i32⟩
  | 95 => ⟨S1, .i32⟩
  | 96 => ⟨S1, .i32⟩
  | 97 => ⟨S1, .i32⟩
  | 98 => ⟨S1, .i32⟩
  | 99 => ⟨S_, .i32⟩
  | 100 => ⟨S1, .i32⟩
  | 101 => ⟨S1, .i32⟩
  | 102 => ⟨S_, .i32⟩
  | 103 => ⟨S1, .i32⟩
  | 104 => ⟨S1, .i32⟩
  | 105 => ⟨S1, .i32⟩
  | 106 => ⟨S1, .i32⟩
  | 107 => ⟨S1, .i32⟩
  | 108 => ⟨S_, .i32⟩
  | 109 => ⟨S1, .i32⟩
  | 110 => ⟨S1, .i32⟩
  | 111 => ⟨S_, .i32⟩
  | 112 => ⟨S1, .i32⟩
  | 113 => ⟨S1, .i32⟩
  | 114 => ⟨S1, .i32⟩
  | 115 => ⟨S1, .i32⟩
  | 116 => ⟨S1, .i32⟩
  | 117 => ⟨S1, .i32⟩
  | 118 => ⟨S1, .i32⟩
  | 119 => ⟨S1, .i32⟩
  | 120 => ⟨S_, .i32⟩
  | 121 => ⟨S1, .i32⟩
  | 122 => ⟨S1, .i32⟩
  | 123 => ⟨S2, .i32⟩
  | 124 => ⟨S384x192, .bf16⟩
  | 125 => ⟨S384x192, .bf16⟩
  | 126 => ⟨S4x96x192x768, .f32⟩
  | 127 => ⟨S4x96x192x192, .f32⟩
  | _ => ⟨S4x96x384x384, .f32⟩

abbrev hbmTy0_2 (i : Nat) : BufTy := match i % 128 with
  | 0 => ⟨S4x96x192x192, .i32⟩
  | 1 => ⟨S4x96x384x384, .f32⟩
  | _ => ⟨S4x96x384x384, .f32⟩

abbrev hbmTy (i : Nat) : BufTy := match i / 128 with
  | 0 => hbmTy0_0 i
  | 1 => hbmTy0_1 i
  | 2 => hbmTy0_2 i
  | _ => ⟨S4x96x384x384, .f32⟩

abbrev bufTy : (tb : Table) → Fin (tcTables nBuf tb) → BufTy
  | .hbm, ⟨i, _⟩ => hbmTy i
  | .local _ .vmem, ⟨0, _⟩ => ⟨S1x1x192x768, .f32⟩
  | .local _ .vmem, ⟨1, _⟩ => ⟨S1x1x192x768, .f32⟩
  | .local _ .vmem, ⟨2, _⟩ => ⟨S384x192, .bf16⟩
  | .local _ .vmem, ⟨3, _⟩ => ⟨S384x192, .bf16⟩
  | .local _ .vmem, ⟨4, _⟩ => ⟨S1x960, .i32⟩
  | .local _ .vmem, ⟨5, _⟩ => ⟨S1x1x192x768, .f32⟩
  | .local _ .vmem, ⟨6, _⟩ => ⟨S1x1x192x768, .f32⟩
  | .local _ .vmem, ⟨7, _⟩ => ⟨S1x1x192x192, .f32⟩
  | .local _ .vmem, ⟨8, _⟩ => ⟨S1x1x192x192, .f32⟩
  | .local _ .vmem, ⟨9, _⟩ => ⟨S1x1x192x192, .i32⟩
  | .local _ .vmem, ⟨10, _⟩ => ⟨S1x1x192x192, .i32⟩
  | .local _ .smem, ⟨0, _⟩ => ⟨S2, .i32⟩
  | _, _ => ⟨S4x96x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_cst_0 : Ref sig .tc := ⟨.hbm, 2, rfl⟩
abbrev main_call0_c : Ref sig .tc := ⟨.hbm, 3, rfl⟩
abbrev main_call0_v0 : Ref sig .tc := ⟨.hbm, 4, rfl⟩
abbrev main_call0_c_1 : Ref sig .tc := ⟨.hbm, 5, rfl⟩
abbrev main_call0_c_2 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_c_3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_c_4 : Ref sig .tc := ⟨.hbm, 15, rfl⟩
abbrev main_call0_call0_c : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_c_0 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_call0_v0 : Ref sig .tc := ⟨.hbm, 29, rfl⟩
abbrev main_call0_call0_call0_c : Ref sig .tc := ⟨.hbm, 30, rfl⟩
abbrev main_call0_call0_call0_v1 : Ref sig .tc := ⟨.hbm, 31, rfl⟩
abbrev main_call0_call0_call0_v2 : Ref sig .tc := ⟨.hbm, 32, rfl⟩
abbrev main_call0_call0_call0_v3 : Ref sig .tc := ⟨.hbm, 33, rfl⟩
abbrev main_call0_call0_call0_v4 : Ref sig .tc := ⟨.hbm, 34, rfl⟩
abbrev main_call0_call0_call0_v5 : Ref sig .tc := ⟨.hbm, 35, rfl⟩
abbrev main_call0_call0_call0_v6 : Ref sig .tc := ⟨.hbm, 36, rfl⟩
abbrev main_call0_call0_call0_c_0 : Ref sig .tc := ⟨.hbm, 37, rfl⟩
abbrev main_call0_call0_call0_v7 : Ref sig .tc := ⟨.hbm, 38, rfl⟩
abbrev main_call0_call0_call0_v8 : Ref sig .tc := ⟨.hbm, 39, rfl⟩
abbrev main_call0_call0_call0_c_1 : Ref sig .tc := ⟨.hbm, 40, rfl⟩
abbrev main_call0_call0_call0_v9 : Ref sig .tc := ⟨.hbm, 41, rfl⟩
abbrev main_call0_call0_call0_v10 : Ref sig .tc := ⟨.hbm, 42, rfl⟩
abbrev main_call0_call0_call0_v11 : Ref sig .tc := ⟨.hbm, 43, rfl⟩
abbrev main_call0_call0_call0_v12 : Ref sig .tc := ⟨.hbm, 44, rfl⟩
abbrev main_call0_call0_call0_v13 : Ref sig .tc := ⟨.hbm, 45, rfl⟩
abbrev main_call0_call0_call0_c_2 : Ref sig .tc := ⟨.hbm, 46, rfl⟩
abbrev main_call0_call0_call0_v14 : Ref sig .tc := ⟨.hbm, 47, rfl⟩
abbrev main_call0_call0_call0_v15 : Ref sig .tc := ⟨.hbm, 48, rfl⟩
abbrev main_call0_call0_call0_c_3 : Ref sig .tc := ⟨.hbm, 49, rfl⟩
abbrev main_call0_call0_call0_v16 : Ref sig .tc := ⟨.hbm, 50, rfl⟩
abbrev main_call0_call0_call0_v17 : Ref sig .tc := ⟨.hbm, 51, rfl⟩
abbrev main_call0_call0_call0_v18 : Ref sig .tc := ⟨.hbm, 52, rfl⟩
abbrev main_call0_call0_call0_v19 : Ref sig .tc := ⟨.hbm, 53, rfl⟩
abbrev main_call0_call0_call0_v20 : Ref sig .tc := ⟨.hbm, 54, rfl⟩
abbrev main_call0_call0_call0_c_4 : Ref sig .tc := ⟨.hbm, 55, rfl⟩
abbrev main_call0_call0_call0_v21 : Ref sig .tc := ⟨.hbm, 56, rfl⟩
abbrev main_call0_call0_call0_v22 : Ref sig .tc := ⟨.hbm, 57, rfl⟩
abbrev main_call0_call0_call0_c_5 : Ref sig .tc := ⟨.hbm, 58, rfl⟩
abbrev main_call0_call0_call0_v23 : Ref sig .tc := ⟨.hbm, 59, rfl⟩
abbrev main_call0_call0_call0_v24 : Ref sig .tc := ⟨.hbm, 60, rfl⟩
abbrev main_call0_call0_call0_v25 : Ref sig .tc := ⟨.hbm, 61, rfl⟩
abbrev main_call0_call0_call0_v26 : Ref sig .tc := ⟨.hbm, 62, rfl⟩
abbrev main_call0_call0_call0_v27 : Ref sig .tc := ⟨.hbm, 63, rfl⟩
abbrev main_call0_call0_call0_c_6 : Ref sig .tc := ⟨.hbm, 64, rfl⟩
abbrev main_call0_call0_call0_v28 : Ref sig .tc := ⟨.hbm, 65, rfl⟩
abbrev main_call0_call0_call0_v29 : Ref sig .tc := ⟨.hbm, 66, rfl⟩
abbrev main_call0_call0_call0_c_7 : Ref sig .tc := ⟨.hbm, 67, rfl⟩
abbrev main_call0_call0_call0_v30 : Ref sig .tc := ⟨.hbm, 68, rfl⟩
abbrev main_call0_call0_call0_v31 : Ref sig .tc := ⟨.hbm, 69, rfl⟩
abbrev main_call0_call0_call0_v32 : Ref sig .tc := ⟨.hbm, 70, rfl⟩
abbrev main_call0_call0_call0_v33 : Ref sig .tc := ⟨.hbm, 71, rfl⟩
abbrev main_call0_call0_call0_v34 : Ref sig .tc := ⟨.hbm, 72, rfl⟩
abbrev main_call0_call0_call0_v35 : Ref sig .tc := ⟨.hbm, 73, rfl⟩
abbrev main_call0_call0_call0_v36 : Ref sig .tc := ⟨.hbm, 74, rfl⟩
abbrev main_call0_call0_call0_v37 : Ref sig .tc := ⟨.hbm, 75, rfl⟩
abbrev main_call0_call0_call0_c_8 : Ref sig .tc := ⟨.hbm, 76, rfl⟩
abbrev main_call0_call0_call0_v38 : Ref sig .tc := ⟨.hbm, 77, rfl⟩
abbrev main_call0_call0_call0_v39 : Ref sig .tc := ⟨.hbm, 78, rfl⟩
abbrev main_call0_call0_call0_v40 : Ref sig .tc := ⟨.hbm, 79, rfl⟩
abbrev main_call0_call0_call0_c_9 : Ref sig .tc := ⟨.hbm, 80, rfl⟩
abbrev main_call0_call0_call0_v41 : Ref sig .tc := ⟨.hbm, 81, rfl⟩
abbrev main_call0_call0_call0_v42 : Ref sig .tc := ⟨.hbm, 82, rfl⟩
abbrev main_call0_call0_call0_c_10 : Ref sig .tc := ⟨.hbm, 83, rfl⟩
abbrev main_call0_call0_call0_v43 : Ref sig .tc := ⟨.hbm, 84, rfl⟩
abbrev main_call0_call0_call0_v44 : Ref sig .tc := ⟨.hbm, 85, rfl⟩
abbrev main_call0_call0_call0_v45 : Ref sig .tc := ⟨.hbm, 86, rfl⟩
abbrev main_call0_call0_call0_v46 : Ref sig .tc := ⟨.hbm, 87, rfl⟩
abbrev main_call0_call0_call0_v47 : Ref sig .tc := ⟨.hbm, 88, rfl⟩
abbrev main_call0_call0_call0_c_11 : Ref sig .tc := ⟨.hbm, 89, rfl⟩
abbrev main_call0_call0_call0_v48 : Ref sig .tc := ⟨.hbm, 90, rfl⟩
abbrev main_call0_call0_call0_v49 : Ref sig .tc := ⟨.hbm, 91, rfl⟩
abbrev main_call0_call0_call0_c_12 : Ref sig .tc := ⟨.hbm, 92, rfl⟩
abbrev main_call0_call0_call0_v50 : Ref sig .tc := ⟨.hbm, 93, rfl⟩
abbrev main_call0_call0_call0_v51 : Ref sig .tc := ⟨.hbm, 94, rfl⟩
abbrev main_call0_call0_call0_v52 : Ref sig .tc := ⟨.hbm, 95, rfl⟩
abbrev main_call0_call0_call0_v53 : Ref sig .tc := ⟨.hbm, 96, rfl⟩
abbrev main_call0_call0_call0_v54 : Ref sig .tc := ⟨.hbm, 97, rfl⟩
abbrev main_call0_call0_call0_c_13 : Ref sig .tc := ⟨.hbm, 98, rfl⟩
abbrev main_call0_call0_call0_v55 : Ref sig .tc := ⟨.hbm, 99, rfl⟩
abbrev main_call0_call0_call0_v56 : Ref sig .tc := ⟨.hbm, 100, rfl⟩
abbrev main_call0_call0_call0_c_14 : Ref sig .tc := ⟨.hbm, 101, rfl⟩
abbrev main_call0_call0_call0_v57 : Ref sig .tc := ⟨.hbm, 102, rfl⟩
abbrev main_call0_call0_call0_v58 : Ref sig .tc := ⟨.hbm, 103, rfl⟩
abbrev main_call0_call0_call0_v59 : Ref sig .tc := ⟨.hbm, 104, rfl⟩
abbrev main_call0_call0_call0_v60 : Ref sig .tc := ⟨.hbm, 105, rfl⟩
abbrev main_call0_call0_call0_v61 : Ref sig .tc := ⟨.hbm, 106, rfl⟩
abbrev main_call0_call0_call0_c_15 : Ref sig .tc := ⟨.hbm, 107, rfl⟩
abbrev main_call0_call0_call0_v62 : Ref sig .tc := ⟨.hbm, 108, rfl⟩
abbrev main_call0_call0_call0_v63 : Ref sig .tc := ⟨.hbm, 109, rfl⟩
abbrev main_call0_call0_call0_c_16 : Ref sig .tc := ⟨.hbm, 110, rfl⟩
abbrev main_call0_call0_call0_v64 : Ref sig .tc := ⟨.hbm, 111, rfl⟩
abbrev main_call0_call0_call0_v65 : Ref sig .tc := ⟨.hbm, 112, rfl⟩
abbrev main_call0_call0_call0_v66 : Ref sig .tc := ⟨.hbm, 113, rfl⟩
abbrev main_call0_call0_call0_v67 : Ref sig .tc := ⟨.hbm, 114, rfl⟩
abbrev main_call0_call0_call0_v68 : Ref sig .tc := ⟨.hbm, 115, rfl⟩
abbrev main_call0_call0_call0_v69 : Ref sig .tc := ⟨.hbm, 116, rfl⟩
abbrev main_call0_call0_call0_v70 : Ref sig .tc := ⟨.hbm, 117, rfl⟩
abbrev main_call0_call0_call0_v71 : Ref sig .tc := ⟨.hbm, 118, rfl⟩
abbrev main_call0_call0_call0_c_17 : Ref sig .tc := ⟨.hbm, 119, rfl⟩
abbrev main_call0_call0_call0_v72 : Ref sig .tc := ⟨.hbm, 120, rfl⟩
abbrev main_call0_call0_call0_v73 : Ref sig .tc := ⟨.hbm, 121, rfl⟩
abbrev main_call0_call0_call0_v74 : Ref sig .tc := ⟨.hbm, 122, rfl⟩
abbrev main_call0_call0_call0_c_18 : Ref sig .tc := ⟨.hbm, 123, rfl⟩
abbrev main_call0_call0_call0_v75 : Ref sig .tc := ⟨.hbm, 124, rfl⟩
abbrev main_call0_call0_call0_v76 : Ref sig .tc := ⟨.hbm, 125, rfl⟩
abbrev main_call0_call0_call0_c_19 : Ref sig .tc := ⟨.hbm, 126, rfl⟩
abbrev main_call0_call0_call0_v77 : Ref sig .tc := ⟨.hbm, 127, rfl⟩
abbrev main_call0_call0_call0_v78 : Ref sig .tc := ⟨.hbm, 128, rfl⟩
abbrev main_call0_call0_call0_v79 : Ref sig .tc := ⟨.hbm, 129, rfl⟩
abbrev main_call0_call0_call0_v80 : Ref sig .tc := ⟨.hbm, 130, rfl⟩
abbrev main_call0_call0_call0_v81 : Ref sig .tc := ⟨.hbm, 131, rfl⟩
abbrev main_call0_call0_call0_c_20 : Ref sig .tc := ⟨.hbm, 132, rfl⟩
abbrev main_call0_call0_call0_v82 : Ref sig .tc := ⟨.hbm, 133, rfl⟩
abbrev main_call0_call0_call0_v83 : Ref sig .tc := ⟨.hbm, 134, rfl⟩
abbrev main_call0_call0_call0_c_21 : Ref sig .tc := ⟨.hbm, 135, rfl⟩
abbrev main_call0_call0_call0_v84 : Ref sig .tc := ⟨.hbm, 136, rfl⟩
abbrev main_call0_call0_call0_v85 : Ref sig .tc := ⟨.hbm, 137, rfl⟩
abbrev main_call0_call0_call0_v86 : Ref sig .tc := ⟨.hbm, 138, rfl⟩
abbrev main_call0_call0_call0_v87 : Ref sig .tc := ⟨.hbm, 139, rfl⟩
abbrev main_call0_call0_call0_v88 : Ref sig .tc := ⟨.hbm, 140, rfl⟩
abbrev main_call0_call0_call0_c_22 : Ref sig .tc := ⟨.hbm, 141, rfl⟩
abbrev main_call0_call0_call0_v89 : Ref sig .tc := ⟨.hbm, 142, rfl⟩
abbrev main_call0_call0_call0_v90 : Ref sig .tc := ⟨.hbm, 143, rfl⟩
abbrev main_call0_call0_call0_c_23 : Ref sig .tc := ⟨.hbm, 144, rfl⟩
abbrev main_call0_call0_call0_v91 : Ref sig .tc := ⟨.hbm, 145, rfl⟩
abbrev main_call0_call0_call0_v92 : Ref sig .tc := ⟨.hbm, 146, rfl⟩
abbrev main_call0_call0_call0_v93 : Ref sig .tc := ⟨.hbm, 147, rfl⟩
abbrev main_call0_call0_call0_v94 : Ref sig .tc := ⟨.hbm, 148, rfl⟩
abbrev main_call0_call0_call0_v95 : Ref sig .tc := ⟨.hbm, 149, rfl⟩
abbrev main_call0_call0_call0_c_24 : Ref sig .tc := ⟨.hbm, 150, rfl⟩
abbrev main_call0_call0_call0_v96 : Ref sig .tc := ⟨.hbm, 151, rfl⟩
abbrev main_call0_call0_call0_v97 : Ref sig .tc := ⟨.hbm, 152, rfl⟩
abbrev main_call0_call0_call0_c_25 : Ref sig .tc := ⟨.hbm, 153, rfl⟩
abbrev main_call0_call0_call0_v98 : Ref sig .tc := ⟨.hbm, 154, rfl⟩
abbrev main_call0_call0_call0_v99 : Ref sig .tc := ⟨.hbm, 155, rfl⟩
abbrev main_call0_call0_call0_v100 : Ref sig .tc := ⟨.hbm, 156, rfl⟩
abbrev main_call0_call0_call0_v101 : Ref sig .tc := ⟨.hbm, 157, rfl⟩
abbrev main_call0_call0_call0_v102 : Ref sig .tc := ⟨.hbm, 158, rfl⟩
abbrev main_call0_call0_call0_v103 : Ref sig .tc := ⟨.hbm, 159, rfl⟩
abbrev main_call0_call0_call0_v104 : Ref sig .tc := ⟨.hbm, 160, rfl⟩
abbrev main_call0_call0_call0_v105 : Ref sig .tc := ⟨.hbm, 161, rfl⟩
abbrev main_call0_call0_call0_c_26 : Ref sig .tc := ⟨.hbm, 162, rfl⟩
abbrev main_call0_call0_call0_v106 : Ref sig .tc := ⟨.hbm, 163, rfl⟩
abbrev main_call0_call0_call0_v107 : Ref sig .tc := ⟨.hbm, 164, rfl⟩
abbrev main_call0_call0_call0_v108 : Ref sig .tc := ⟨.hbm, 165, rfl⟩
abbrev main_call0_call0_call0_c_27 : Ref sig .tc := ⟨.hbm, 166, rfl⟩
abbrev main_call0_call0_call0_v109 : Ref sig .tc := ⟨.hbm, 167, rfl⟩
abbrev main_call0_call0_call0_v110 : Ref sig .tc := ⟨.hbm, 168, rfl⟩
abbrev main_call0_call0_call0_c_28 : Ref sig .tc := ⟨.hbm, 169, rfl⟩
abbrev main_call0_call0_call0_v111 : Ref sig .tc := ⟨.hbm, 170, rfl⟩
abbrev main_call0_call0_call0_v112 : Ref sig .tc := ⟨.hbm, 171, rfl⟩
abbrev main_call0_call0_call0_v113 : Ref sig .tc := ⟨.hbm, 172, rfl⟩
abbrev main_call0_call0_call0_v114 : Ref sig .tc := ⟨.hbm, 173, rfl⟩
abbrev main_call0_call0_call0_v115 : Ref sig .tc := ⟨.hbm, 174, rfl⟩
abbrev main_call0_call0_call0_c_29 : Ref sig .tc := ⟨.hbm, 175, rfl⟩
abbrev main_call0_call0_call0_v116 : Ref sig .tc := ⟨.hbm, 176, rfl⟩
abbrev main_call0_call0_call0_v117 : Ref sig .tc := ⟨.hbm, 177, rfl⟩
abbrev main_call0_call0_call0_c_30 : Ref sig .tc := ⟨.hbm, 178, rfl⟩
abbrev main_call0_call0_call0_v118 : Ref sig .tc := ⟨.hbm, 179, rfl⟩
abbrev main_call0_call0_call0_v119 : Ref sig .tc := ⟨.hbm, 180, rfl⟩
abbrev main_call0_call0_call0_v120 : Ref sig .tc := ⟨.hbm, 181, rfl⟩
abbrev main_call0_call0_call0_v121 : Ref sig .tc := ⟨.hbm, 182, rfl⟩
abbrev main_call0_call0_call0_v122 : Ref sig .tc := ⟨.hbm, 183, rfl⟩
abbrev main_call0_call0_call0_c_31 : Ref sig .tc := ⟨.hbm, 184, rfl⟩
abbrev main_call0_call0_call0_v123 : Ref sig .tc := ⟨.hbm, 185, rfl⟩
abbrev main_call0_call0_call0_v124 : Ref sig .tc := ⟨.hbm, 186, rfl⟩
abbrev main_call0_call0_call0_c_32 : Ref sig .tc := ⟨.hbm, 187, rfl⟩
abbrev main_call0_call0_call0_v125 : Ref sig .tc := ⟨.hbm, 188, rfl⟩
abbrev main_call0_call0_call0_v126 : Ref sig .tc := ⟨.hbm, 189, rfl⟩
abbrev main_call0_call0_call0_v127 : Ref sig .tc := ⟨.hbm, 190, rfl⟩
abbrev main_call0_call0_call0_v128 : Ref sig .tc := ⟨.hbm, 191, rfl⟩
abbrev main_call0_call0_call0_v129 : Ref sig .tc := ⟨.hbm, 192, rfl⟩
abbrev main_call0_call0_call0_c_33 : Ref sig .tc := ⟨.hbm, 193, rfl⟩
abbrev main_call0_call0_call0_v130 : Ref sig .tc := ⟨.hbm, 194, rfl⟩
abbrev main_call0_call0_call0_v131 : Ref sig .tc := ⟨.hbm, 195, rfl⟩
abbrev main_call0_call0_call0_c_34 : Ref sig .tc := ⟨.hbm, 196, rfl⟩
abbrev main_call0_call0_call0_v132 : Ref sig .tc := ⟨.hbm, 197, rfl⟩
abbrev main_call0_call0_call0_v133 : Ref sig .tc := ⟨.hbm, 198, rfl⟩
abbrev main_call0_call0_call0_v134 : Ref sig .tc := ⟨.hbm, 199, rfl⟩
abbrev main_call0_call0_call0_v135 : Ref sig .tc := ⟨.hbm, 200, rfl⟩
abbrev main_call0_call0_call0_v136 : Ref sig .tc := ⟨.hbm, 201, rfl⟩
abbrev main_call0_call0_call0_v137 : Ref sig .tc := ⟨.hbm, 202, rfl⟩
abbrev main_call0_call0_call0_v138 : Ref sig .tc := ⟨.hbm, 203, rfl⟩
abbrev main_call0_call0_call0_v139 : Ref sig .tc := ⟨.hbm, 204, rfl⟩
abbrev main_call0_call0_call0_c_35 : Ref sig .tc := ⟨.hbm, 205, rfl⟩
abbrev main_call0_call0_call0_v140 : Ref sig .tc := ⟨.hbm, 206, rfl⟩
abbrev main_call0_call0_call0_v141 : Ref sig .tc := ⟨.hbm, 207, rfl⟩
abbrev main_call0_call0_call0_v142 : Ref sig .tc := ⟨.hbm, 208, rfl⟩
abbrev main_call0_call0_call0_c_36 : Ref sig .tc := ⟨.hbm, 209, rfl⟩
abbrev main_call0_call0_call0_v143 : Ref sig .tc := ⟨.hbm, 210, rfl⟩
abbrev main_call0_call0_call0_v144 : Ref sig .tc := ⟨.hbm, 211, rfl⟩
abbrev main_call0_call0_call0_c_37 : Ref sig .tc := ⟨.hbm, 212, rfl⟩
abbrev main_call0_call0_call0_v145 : Ref sig .tc := ⟨.hbm, 213, rfl⟩
abbrev main_call0_call0_call0_v146 : Ref sig .tc := ⟨.hbm, 214, rfl⟩
abbrev main_call0_call0_call0_v147 : Ref sig .tc := ⟨.hbm, 215, rfl⟩
abbrev main_call0_call0_call0_v148 : Ref sig .tc := ⟨.hbm, 216, rfl⟩
abbrev main_call0_call0_call0_v149 : Ref sig .tc := ⟨.hbm, 217, rfl⟩
abbrev main_call0_call0_call0_c_38 : Ref sig .tc := ⟨.hbm, 218, rfl⟩
abbrev main_call0_call0_call0_v150 : Ref sig .tc := ⟨.hbm, 219, rfl⟩
abbrev main_call0_call0_call0_v151 : Ref sig .tc := ⟨.hbm, 220, rfl⟩
abbrev main_call0_call0_call0_c_39 : Ref sig .tc := ⟨.hbm, 221, rfl⟩
abbrev main_call0_call0_call0_v152 : Ref sig .tc := ⟨.hbm, 222, rfl⟩
abbrev main_call0_call0_call0_v153 : Ref sig .tc := ⟨.hbm, 223, rfl⟩
abbrev main_call0_call0_call0_v154 : Ref sig .tc := ⟨.hbm, 224, rfl⟩
abbrev main_call0_call0_call0_v155 : Ref sig .tc := ⟨.hbm, 225, rfl⟩
abbrev main_call0_call0_call0_v156 : Ref sig .tc := ⟨.hbm, 226, rfl⟩
abbrev main_call0_call0_call0_c_40 : Ref sig .tc := ⟨.hbm, 227, rfl⟩
abbrev main_call0_call0_call0_v157 : Ref sig .tc := ⟨.hbm, 228, rfl⟩
abbrev main_call0_call0_call0_v158 : Ref sig .tc := ⟨.hbm, 229, rfl⟩
abbrev main_call0_call0_call0_c_41 : Ref sig .tc := ⟨.hbm, 230, rfl⟩
abbrev main_call0_call0_call0_v159 : Ref sig .tc := ⟨.hbm, 231, rfl⟩
abbrev main_call0_call0_call0_v160 : Ref sig .tc := ⟨.hbm, 232, rfl⟩
abbrev main_call0_call0_call0_v161 : Ref sig .tc := ⟨.hbm, 233, rfl⟩
abbrev main_call0_call0_call0_v162 : Ref sig .tc := ⟨.hbm, 234, rfl⟩
abbrev main_call0_call0_call0_v163 : Ref sig .tc := ⟨.hbm, 235, rfl⟩
abbrev main_call0_call0_call0_c_42 : Ref sig .tc := ⟨.hbm, 236, rfl⟩
abbrev main_call0_call0_call0_v164 : Ref sig .tc := ⟨.hbm, 237, rfl⟩
abbrev main_call0_call0_call0_v165 : Ref sig .tc := ⟨.hbm, 238, rfl⟩
abbrev main_call0_call0_call0_c_43 : Ref sig .tc := ⟨.hbm, 239, rfl⟩
abbrev main_call0_call0_call0_v166 : Ref sig .tc := ⟨.hbm, 240, rfl⟩
abbrev main_call0_call0_call0_v167 : Ref sig .tc := ⟨.hbm, 241, rfl⟩
abbrev main_call0_call0_call0_v168 : Ref sig .tc := ⟨.hbm, 242, rfl⟩
abbrev main_call0_call0_call0_v169 : Ref sig .tc := ⟨.hbm, 243, rfl⟩
abbrev main_call0_call0_call0_v170 : Ref sig .tc := ⟨.hbm, 244, rfl⟩
abbrev main_call0_call0_v11_0 : Ref sig .tc := ⟨.hbm, 245, rfl⟩
abbrev main_call0_call0_call0_v172 : Ref sig .tc := ⟨.hbm, 246, rfl⟩
abbrev main_call0_call0_call0_v173 : Ref sig .tc := ⟨.hbm, 247, rfl⟩
abbrev main_call0_call0_call0_c_44 : Ref sig .tc := ⟨.hbm, 248, rfl⟩
abbrev main_call0_call0_call0_v174 : Ref sig .tc := ⟨.hbm, 249, rfl⟩
abbrev main_call0_call0_v11_1 : Ref sig .tc := ⟨.hbm, 250, rfl⟩
abbrev main_call0_v8 : Ref sig .tc := ⟨.hbm, 251, rfl⟩
abbrev main_call0_v10 : Ref sig .tc := ⟨.hbm, 252, rfl⟩
abbrev main_call0_v11 : Ref sig .tc := ⟨.hbm, 253, rfl⟩
abbrev main_call0_v12_0 : Ref sig .tc := ⟨.hbm, 254, rfl⟩
abbrev main_v0_1 : Ref sig .tc := ⟨.hbm, 255, rfl⟩
abbrev main_v0_2 : Ref sig .tc := ⟨.hbm, 256, rfl⟩
abbrev main_v0_0 : Ref sig .tc := ⟨.hbm, 257, rfl⟩
abbrev main_call0_v9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![4, 96, 1], ![false, false, false]⟩

abbrev pre0 : Pipeline.Prefetch sig := ⟨1, ![main_call0_v9.idx], fun | 0 => main_call0_v9.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x192x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S384x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S384x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x960 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1x192x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x192x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x192x192 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S4x96x384x384 : Shape := ⟨4, ![4, 96, 384, 384]⟩
abbrev S4x96x192x2x192x2 : Shape := ⟨6, ![4, 96, 192, 2, 192, 2]⟩
abbrev S4x96x192x192x2x2 : Shape := ⟨6, ![4, 96, 192, 192, 2, 2]⟩
abbrev S4x96x36864x4 : Shape := ⟨4, ![4, 96, 36864, 4]⟩
abbrev S_ : Shape := ⟨0, ![]⟩
abbrev S4x96x36864x1 : Shape := ⟨4, ![4, 96, 36864, 1]⟩
abbrev S4x96x36864x5 : Shape := ⟨4, ![4, 96, 36864, 5]⟩
abbrev S4x96x36864 : Shape := ⟨3, ![4, 96, 36864]⟩
abbrev S1 : Shape := ⟨1, ![1]⟩
abbrev S2 : Shape := ⟨1, ![2]⟩
abbrev S1x1x1x1 : Shape := ⟨4, ![1, 1, 1, 1]⟩
abbrev S4x96x36864x1x1 : Shape := ⟨5, ![4, 96, 36864, 1, 1]⟩
abbrev S1x1x1x1x1 : Shape := ⟨5, ![1, 1, 1, 1, 1]⟩
abbrev S1x1x1x4 : Shape := ⟨4, ![1, 1, 1, 4]⟩
abbrev S4x96x192x192 : Shape := ⟨4, ![4, 96, 192, 192]⟩

abbrev nBuf : Space → Nat
  | .hbm => 603
  | .vmem => 0
  | .smem => 0
  | _ => 0

abbrev hbmTy0_0 (i : Nat) : BufTy := match i % 128 with
  | 0 => ⟨S4x96x384x384, .f32⟩
  | 1 => ⟨S4x96x192x2x192x2, .f32⟩
  | 2 => ⟨S4x96x192x192x2x2, .f32⟩
  | 3 => ⟨S4x96x36864x4, .f32⟩
  | 4 => ⟨S_, .f32⟩
  | 5 => ⟨S4x96x36864x1, .f32⟩
  | 6 => ⟨S4x96x36864x5, .f32⟩
  | 7 => ⟨S_, .f32⟩
  | 8 => ⟨S4x96x36864, .f32⟩
  | 9 => ⟨S4x96x36864x1, .f32⟩
  | 10 => ⟨S4x96x36864x5, .f32⟩
  | 11 => ⟨S4x96x36864x5, .f32⟩
  | 12 => ⟨S4x96x36864x5, .f32⟩
  | 13 => ⟨S_, .f32⟩
  | 14 => ⟨S4x96x36864, .f32⟩
  | 15 => ⟨S4x96x36864x1, .f32⟩
  | 16 => ⟨S_, .f32⟩
  | 17 => ⟨S4x96x36864x1, .f32⟩
  | 18 => ⟨S4x96x36864x1, .f32⟩
  | 19 => ⟨S4x96x36864x5, .f32⟩
  | 20 => ⟨S4x96x36864x5, .f32⟩
  | 21 => ⟨S_, .i32⟩
  | 22 => ⟨S_, .i32⟩
  | 23 => ⟨S_, .i32⟩
  | 24 => ⟨S_, .i32⟩
  | 25 => ⟨S1, .i32⟩
  | 26 => ⟨S_, .i32⟩
  | 27 => ⟨S_, .i32⟩
  | 28 => ⟨S_, .i32⟩
  | 29 => ⟨S1, .i32⟩
  | 30 => ⟨S2, .i32⟩
  | 31 => ⟨S_, .i32⟩
  | 32 => ⟨S_, .i32⟩
  | 33 => ⟨S_, .i32⟩
  | 34 => ⟨S1, .i32⟩
  | 35 => ⟨S_, .i32⟩
  | 36 => ⟨S_, .i32⟩
  | 37 => ⟨S1, .i32⟩
  | 38 => ⟨S2, .i32⟩
  | 39 => ⟨S1, .i32⟩
  | 40 => ⟨S_, .i32⟩
  | 41 => ⟨S1, .i32⟩
  | 42 => ⟨S_, .i32⟩
  | 43 => ⟨S1, .i32⟩
  | 44 => ⟨S1, .i32⟩
  | 45 => ⟨S_, .i32⟩
  | 46 => ⟨S_, .i32⟩
  | 47 => ⟨S_, .i32⟩
  | 48 => ⟨S1, .i32⟩
  | 49 => ⟨S1, .i32⟩
  | 50 => ⟨S1, .i32⟩
  | 51 => ⟨S1, .i32⟩
  | 52 => ⟨S1, .i32⟩
  | 53 => ⟨S_, .i32⟩
  | 54 => ⟨S1, .i32⟩
  | 55 => ⟨S1, .i32⟩
  | 56 => ⟨S_, .i32⟩
  | 57 => ⟨S1, .i32⟩
  | 58 => ⟨S1, .i32⟩
  | 59 => ⟨S1, .i32⟩
  | 60 => ⟨S1, .i32⟩
  | 61 => ⟨S1, .i32⟩
  | 62 => ⟨S_, .i32⟩
  | 63 => ⟨S1, .i32⟩
  | 64 => ⟨S1, .i32⟩
  | 65 => ⟨S_, .i32⟩
  | 66 => ⟨S1, .i32⟩
  | 67 => ⟨S1, .i32⟩
  | 68 => ⟨S1, .i32⟩
  | 69 => ⟨S1, .i32⟩
  | 70 => ⟨S1, .i32⟩
  | 71 => ⟨S_, .i32⟩
  | 72 => ⟨S1, .i32⟩
  | 73 => ⟨S1, .i32⟩
  | 74 => ⟨S_, .i32⟩
  | 75 => ⟨S1, .i32⟩
  | 76 => ⟨S1, .i32⟩
  | 77 => ⟨S1, .i32⟩
  | 78 => ⟨S1, .i32⟩
  | 79 => ⟨S1, .i32⟩
  | 80 => ⟨S_, .i32⟩
  | 81 => ⟨S1, .i32⟩
  | 82 => ⟨S1, .i32⟩
  | 83 => ⟨S_, .i32⟩
  | 84 => ⟨S1, .i32⟩
  | 85 => ⟨S1, .i32⟩
  | 86 => ⟨S1, .i32⟩
  | 87 => ⟨S1, .i32⟩
  | 88 => ⟨S1, .i32⟩
  | 89 => ⟨S1, .i32⟩
  | 90 => ⟨S1, .i32⟩
  | 91 => ⟨S1, .i32⟩
  | 92 => ⟨S_, .i32⟩
  | 93 => ⟨S1, .i32⟩
  | 94 => ⟨S1, .i32⟩
  | 95 => ⟨S1, .i32⟩
  | 96 => ⟨S_, .i32⟩
  | 97 => ⟨S1, .i32⟩
  | 98 => ⟨S1, .i32⟩
  | 99 => ⟨S_, .i32⟩
  | 100 => ⟨S1, .i32⟩
  | 101 => ⟨S1, .i32⟩
  | 102 => ⟨S1, .i32⟩
  | 103 => ⟨S1, .i32⟩
  | 104 => ⟨S1, .i32⟩
  | 105 => ⟨S_, .i32⟩
  | 106 => ⟨S1, .i32⟩
  | 107 => ⟨S1, .i32⟩
  | 108 => ⟨S_, .i32⟩
  | 109 => ⟨S1, .i32⟩
  | 110 => ⟨S1, .i32⟩
  | 111 => ⟨S1, .i32⟩
  | 112 => ⟨S1, .i32⟩
  | 113 => ⟨S1, .i32⟩
  | 114 => ⟨S_, .i32⟩
  | 115 => ⟨S1, .i32⟩
  | 116 => ⟨S1, .i32⟩
  | 117 => ⟨S_, .i32⟩
  | 118 => ⟨S1, .i32⟩
  | 119 => ⟨S1, .i32⟩
  | 120 => ⟨S1, .i32⟩
  | 121 => ⟨S1, .i32⟩
  | 122 => ⟨S1, .i32⟩
  | 123 => ⟨S_, .i32⟩
  | 124 => ⟨S1, .i32⟩
  | 125 => ⟨S1, .i32⟩
  | 126 => ⟨S_, .i32⟩
  | 127 => ⟨S1, .i32⟩
  | _ => ⟨S4x96x384x384, .f32⟩

abbrev hbmTy0_1 (i : Nat) : BufTy := match i % 128 with
  | 0 => ⟨S1, .i32⟩
  | 1 => ⟨S1, .i32⟩
  | 2 => ⟨S1, .i32⟩
  | 3 => ⟨S1, .i32⟩
  | 4 => ⟨S1, .i32⟩
  | 5 => ⟨S1, .i32⟩
  | 6 => ⟨S1, .i32⟩
  | 7 => ⟨S_, .i32⟩
  | 8 => ⟨S1, .i32⟩
  | 9 => ⟨S1, .i32⟩
  | 10 => ⟨S1, .i32⟩
  | 11 => ⟨S_, .i32⟩
  | 12 => ⟨S1, .i32⟩
  | 13 => ⟨S1, .i32⟩
  | 14 => ⟨S_, .i32⟩
  | 15 => ⟨S1, .i32⟩
  | 16 => ⟨S1, .i32⟩
  | 17 => ⟨S1, .i32⟩
  | 18 => ⟨S1, .i32⟩
  | 19 => ⟨S1, .i32⟩
  | 20 => ⟨S_, .i32⟩
  | 21 => ⟨S1, .i32⟩
  | 22 => ⟨S1, .i32⟩
  | 23 => ⟨S_, .i32⟩
  | 24 => ⟨S1, .i32⟩
  | 25 => ⟨S1, .i32⟩
  | 26 => ⟨S1, .i32⟩
  | 27 => ⟨S1, .i32⟩
  | 28 => ⟨S1, .i32⟩
  | 29 => ⟨S_, .i32⟩
  | 30 => ⟨S1, .i32⟩
  | 31 => ⟨S1, .i32⟩
  | 32 => ⟨S_, .i32⟩
  | 33 => ⟨S1, .i32⟩
  | 34 => ⟨S1, .i32⟩
  | 35 => ⟨S1, .i32⟩
  | 36 => ⟨S1, .i32⟩
  | 37 => ⟨S1, .i32⟩
  | 38 => ⟨S_, .i32⟩
  | 39 => ⟨S1, .i32⟩
  | 40 => ⟨S1, .i32⟩
  | 41 => ⟨S_, .i32⟩
  | 42 => ⟨S1, .i32⟩
  | 43 => ⟨S1, .i32⟩
  | 44 => ⟨S1, .i32⟩
  | 45 => ⟨S1, .i32⟩
  | 46 => ⟨S1, .i32⟩
  | 47 => ⟨S1, .i32⟩
  | 48 => ⟨S1, .i32⟩
  | 49 => ⟨S1, .i32⟩
  | 50 => ⟨S_, .i32⟩
  | 51 => ⟨S1, .i32⟩
  | 52 => ⟨S1, .i32⟩
  | 53 => ⟨S1, .i32⟩
  | 54 => ⟨S_, .i32⟩
  | 55 => ⟨S1, .i32⟩
  | 56 => ⟨S1, .i32⟩
  | 57 => ⟨S_, .i32⟩
  | 58 => ⟨S1, .i32⟩
  | 59 => ⟨S1, .i32⟩
  | 60 => ⟨S1, .i32⟩
  | 61 => ⟨S1, .i32⟩
  | 62 => ⟨S1, .i32⟩
  | 63 => ⟨S_, .i32⟩
  | 64 => ⟨S1, .i32⟩
  | 65 => ⟨S1, .i32⟩
  | 66 => ⟨S_, .i32⟩
  | 67 => ⟨S1, .i32⟩
  | 68 => ⟨S1, .i32⟩
  | 69 => ⟨S1, .i32⟩
  | 70 => ⟨S1, .i32⟩
  | 71 => ⟨S1, .i32⟩
  | 72 => ⟨S_, .i32⟩
  | 73 => ⟨S1, .i32⟩
  | 74 => ⟨S1, .i32⟩
  | 75 => ⟨S_, .i32⟩
  | 76 => ⟨S1, .i32⟩
  | 77 => ⟨S1, .i32⟩
  | 78 => ⟨S1, .i32⟩
  | 79 => ⟨S1, .i32⟩
  | 80 => ⟨S1, .i32⟩
  | 81 => ⟨S_, .i32⟩
  | 82 => ⟨S1, .i32⟩
  | 83 => ⟨S1, .i32⟩
  | 84 => ⟨S_, .i32⟩
  | 85 => ⟨S1, .i32⟩
  | 86 => ⟨S1, .i32⟩
  | 87 => ⟨S1, .i32⟩
  | 88 => ⟨S1, .i32⟩
  | 89 => ⟨S1, .i32⟩
  | 90 => ⟨S1, .i32⟩
  | 91 => ⟨S1, .i32⟩
  | 92 => ⟨S1, .i32⟩
  | 93 => ⟨S_, .i32⟩
  | 94 => ⟨S1, .i32⟩
  | 95 => ⟨S1, .i32⟩
  | 96 => ⟨S1, .i32⟩
  | 97 => ⟨S_, .i32⟩
  | 98 => ⟨S1, .i32⟩
  | 99 => ⟨S1, .i32⟩
  | 100 => ⟨S_, .i32⟩
  | 101 => ⟨S1, .i32⟩
  | 102 => ⟨S1, .i32⟩
  | 103 => ⟨S1, .i32⟩
  | 104 => ⟨S1, .i32⟩
  | 105 => ⟨S1, .i32⟩
  | 106 => ⟨S_, .i32⟩
  | 107 => ⟨S1, .i32⟩
  | 108 => ⟨S1, .i32⟩
  | 109 => ⟨S_, .i32⟩
  | 110 => ⟨S1, .i32⟩
  | 111 => ⟨S1, .i32⟩
  | 112 => ⟨S1, .i32⟩
  | 113 => ⟨S1, .i32⟩
  | 114 => ⟨S1, .i32⟩
  | 115 => ⟨S_, .i32⟩
  | 116 => ⟨S1, .i32⟩
  | 117 => ⟨S1, .i32⟩
  | 118 => ⟨S_, .i32⟩
  | 119 => ⟨S1, .i32⟩
  | 120 => ⟨S1, .i32⟩
  | 121 => ⟨S1, .i32⟩
  | 122 => ⟨S1, .i32⟩
  | 123 => ⟨S1, .i32⟩
  | 124 => ⟨S_, .i32⟩
  | 125 => ⟨S1, .i32⟩
  | 126 => ⟨S1, .i32⟩
  | 127 => ⟨S_, .i32⟩
  | _ => ⟨S4x96x384x384, .f32⟩

abbrev hbmTy0_2 (i : Nat) : BufTy := match i % 128 with
  | 0 => ⟨S1, .i32⟩
  | 1 => ⟨S1, .i32⟩
  | 2 => ⟨S1, .i32⟩
  | 3 => ⟨S1, .i32⟩
  | 4 => ⟨S1, .i32⟩
  | 5 => ⟨S1, .i32⟩
  | 6 => ⟨S1, .i32⟩
  | 7 => ⟨S1, .i32⟩
  | 8 => ⟨S_, .i32⟩
  | 9 => ⟨S1, .i32⟩
  | 10 => ⟨S1, .i32⟩
  | 11 => ⟨S2, .i32⟩
  | 12 => ⟨S_, .f32⟩
  | 13 => ⟨S_, .f32⟩
  | 14 => ⟨S_, .f32⟩
  | 15 => ⟨S_, .f32⟩
  | 16 => ⟨S1x1x1x1, .f32⟩
  | 17 => ⟨S1x1x1x1, .f32⟩
  | 18 => ⟨S1, .i32⟩
  | 19 => ⟨S_, .i32⟩
  | 20 => ⟨S1, .i32⟩
  | 21 => ⟨S_, .i32⟩
  | 22 => ⟨S4x96x36864x5, .i64⟩
  | 23 => ⟨S4x96x36864x5, .i64⟩
  | 24 => ⟨S4x96x36864x5, .i64⟩
  | 25 => ⟨S4x96x36864x5, .i64⟩
  | 26 => ⟨S_, .i64⟩
  | 27 => ⟨S4x96x36864x5, .i64⟩
  | 28 => ⟨S4x96x36864x5, .i64⟩
  | 29 => ⟨S_, .i64⟩
  | 30 => ⟨S4x96x36864x5, .i64⟩
  | 31 => ⟨S4x96x36864x5, .i64⟩
  | 32 => ⟨S_, .i64⟩
  | 33 => ⟨S4x96x36864x5, .i64⟩
  | 34 => ⟨S4x96x36864x5, .i64⟩
  | 35 => ⟨S_, .i64⟩
  | 36 => ⟨S4x96x36864x5, .i64⟩
  | 37 => ⟨S4x96x36864x5, .i64⟩
  | 38 => ⟨S4x96x36864x5, .i64⟩
  | 39 => ⟨S4x96x36864x5, .i64⟩
  | 40 => ⟨S4x96x36864x5, .i64⟩
  | 41 => ⟨S_, .i64⟩
  | 42 => ⟨S4x96x36864x5, .i64⟩
  | 43 => ⟨S4x96x36864x5, .i64⟩
  | 44 => ⟨S4x96x36864x5, .i32⟩
  | 45 => ⟨S4x96x36864x5, .i32⟩
  | 46 => ⟨S_, .i32⟩
  | 47 => ⟨S_, .i32⟩
  | 48 => ⟨S_, .i32⟩
  | 49 => ⟨S4x96x36864x5, .i32⟩
  | 50 => ⟨S4x96x36864x5, .i32⟩
  | 51 => ⟨S4x96x36864x5, .i32⟩
  | 52 => ⟨S4x96x36864x5, .i32⟩
  | 53 => ⟨S4x96x36864x5, .i32⟩
  | 54 => ⟨S_, .i32⟩
  | 55 => ⟨S4x96x36864x5, .i32⟩
  | 56 => ⟨S4x96x36864x5, .i32⟩
  | 57 => ⟨S_, .i32⟩
  | 58 => ⟨S4x96x36864x5, .i32⟩
  | 59 => ⟨S4x96x36864x5, .i32⟩
  | 60 => ⟨S4x96x36864x5, .i32⟩
  | 61 => ⟨S4x96x36864x5, .i32⟩
  | 62 => ⟨S4x96x36864x5, .i32⟩
  | 63 => ⟨S_, .i32⟩
  | 64 => ⟨S4x96x36864x5, .i32⟩
  | 65 => ⟨S4x96x36864x5, .i32⟩
  | 66 => ⟨S_, .i32⟩
  | 67 => ⟨S4x96x36864x5, .i32⟩
  | 68 => ⟨S4x96x36864x5, .i32⟩
  | 69 => ⟨S4x96x36864x5, .i32⟩
  | 70 => ⟨S4x96x36864x5, .i32⟩
  | 71 => ⟨S4x96x36864x5, .i32⟩
  | 72 => ⟨S_, .i32⟩
  | 73 => ⟨S4x96x36864x5, .i32⟩
  | 74 => ⟨S4x96x36864x5, .i32⟩
  | 75 => ⟨S_, .i32⟩
  | 76 => ⟨S4x96x36864x5, .i32⟩
  | 77 => ⟨S4x96x36864x5, .i32⟩
  | 78 => ⟨S4x96x36864x5, .i32⟩
  | 79 => ⟨S4x96x36864x5, .i32⟩
  | 80 => ⟨S4x96x36864x5, .i32⟩
  | 81 => ⟨S_, .i32⟩
  | 82 => ⟨S4x96x36864x5, .i32⟩
  | 83 => ⟨S4x96x36864x5, .i32⟩
  | 84 => ⟨S_, .i32⟩
  | 85 => ⟨S4x96x36864x5, .i32⟩
  | 86 => ⟨S4x96x36864x5, .i32⟩
  | 87 => ⟨S4x96x36864x5, .i32⟩
  | 88 => ⟨S4x96x36864x5, .i32⟩
  | 89 => ⟨S4x96x36864x5, .i32⟩
  | 90 => ⟨S4x96x36864x5, .i32⟩
  | 91 => ⟨S4x96x36864x5, .i32⟩
  | 92 => ⟨S4x96x36864x5, .i32⟩
  | 93 => ⟨S_, .i32⟩
  | 94 => ⟨S4x96x36864x5, .i32⟩
  | 95 => ⟨S4x96x36864x5, .i32⟩
  | 96 => ⟨S4x96x36864x5, .i32⟩
  | 97 => ⟨S_, .i32⟩
  | 98 => ⟨S4x96x36864x5, .i32⟩
  | 99 => ⟨S4x96x36864x5, .i32⟩
  | 100 => ⟨S_, .i32⟩
  | 101 => ⟨S4x96x36864x5, .i32⟩
  | 102 => ⟨S4x96x36864x5, .i32⟩
  | 103 => ⟨S4x96x36864x5, .i32⟩
  | 104 => ⟨S4x96x36864x5, .i32⟩
  | 105 => ⟨S4x96x36864x5, .i32⟩
  | 106 => ⟨S_, .i32⟩
  | 107 => ⟨S4x96x36864x5, .i32⟩
  | 108 => ⟨S4x96x36864x5, .i32⟩
  | 109 => ⟨S_, .i32⟩
  | 110 => ⟨S4x96x36864x5, .i32⟩
  | 111 => ⟨S4x96x36864x5, .i32⟩
  | 112 => ⟨S4x96x36864x5, .i32⟩
  | 113 => ⟨S4x96x36864x5, .i32⟩
  | 114 => ⟨S4x96x36864x5, .i32⟩
  | 115 => ⟨S_, .i32⟩
  | 116 => ⟨S4x96x36864x5, .i32⟩
  | 117 => ⟨S4x96x36864x5, .i32⟩
  | 118 => ⟨S_, .i32⟩
  | 119 => ⟨S4x96x36864x5, .i32⟩
  | 120 => ⟨S4x96x36864x5, .i32⟩
  | 121 => ⟨S4x96x36864x5, .i32⟩
  | 122 => ⟨S4x96x36864x5, .i32⟩
  | 123 => ⟨S4x96x36864x5, .i32⟩
  | 124 => ⟨S_, .i32⟩
  | 125 => ⟨S4x96x36864x5, .i32⟩
  | 126 => ⟨S4x96x36864x5, .i32⟩
  | 127 => ⟨S_, .i32⟩
  | _ => ⟨S4x96x384x384, .f32⟩

abbrev hbmTy0_3 (i : Nat) : BufTy := match i % 128 with
  | 0 => ⟨S4x96x36864x5, .i32⟩
  | 1 => ⟨S4x96x36864x5, .i32⟩
  | 2 => ⟨S4x96x36864x5, .i32⟩
  | 3 => ⟨S4x96x36864x5, .i32⟩
  | 4 => ⟨S4x96x36864x5, .i32⟩
  | 5 => ⟨S4x96x36864x5, .i32⟩
  | 6 => ⟨S4x96x36864x5, .i32⟩
  | 7 => ⟨S4x96x36864x5, .i32⟩
  | 8 => ⟨S_, .i32⟩
  | 9 => ⟨S4x96x36864x5, .i32⟩
  | 10 => ⟨S4x96x36864x5, .i32⟩
  | 11 => ⟨S4x96x36864x5, .i32⟩
  | 12 => ⟨S_, .i32⟩
  | 13 => ⟨S4x96x36864x5, .i32⟩
  | 14 => ⟨S4x96x36864x5, .i32⟩
  | 15 => ⟨S_, .i32⟩
  | 16 => ⟨S4x96x36864x5, .i32⟩
  | 17 => ⟨S4x96x36864x5, .i32⟩
  | 18 => ⟨S4x96x36864x5, .i32⟩
  | 19 => ⟨S4x96x36864x5, .i32⟩
  | 20 => ⟨S4x96x36864x5, .i32⟩
  | 21 => ⟨S_, .i32⟩
  | 22 => ⟨S4x96x36864x5, .i32⟩
  | 23 => ⟨S4x96x36864x5, .i32⟩
  | 24 => ⟨S_, .i32⟩
  | 25 => ⟨S4x96x36864x5, .i32⟩
  | 26 => ⟨S4x96x36864x5, .i32⟩
  | 27 => ⟨S4x96x36864x5, .i32⟩
  | 28 => ⟨S4x96x36864x5, .i32⟩
  | 29 => ⟨S4x96x36864x5, .i32⟩
  | 30 => ⟨S_, .i32⟩
  | 31 => ⟨S4x96x36864x5, .i32⟩
  | 32 => ⟨S4x96x36864x5, .i32⟩
  | 33 => ⟨S_, .i32⟩
  | 34 => ⟨S4x96x36864x5, .i32⟩
  | 35 => ⟨S4x96x36864x5, .i32⟩
  | 36 => ⟨S4x96x36864x5, .i32⟩
  | 37 => ⟨S4x96x36864x5, .i32⟩
  | 38 => ⟨S4x96x36864x5, .i32⟩
  | 39 => ⟨S_, .i32⟩
  | 40 => ⟨S4x96x36864x5, .i32⟩
  | 41 => ⟨S4x96x36864x5, .i32⟩
  | 42 => ⟨S_, .i32⟩
  | 43 => ⟨S4x96x36864x5, .i32⟩
  | 44 => ⟨S4x96x36864x5, .i32⟩
  | 45 => ⟨S4x96x36864x5, .i32⟩
  | 46 => ⟨S4x96x36864x5, .i32⟩
  | 47 => ⟨S4x96x36864x5, .i32⟩
  | 48 => ⟨S4x96x36864x5, .i32⟩
  | 49 => ⟨S4x96x36864x5, .i32⟩
  | 50 => ⟨S4x96x36864x5, .i32⟩
  | 51 => ⟨S_, .i32⟩
  | 52 => ⟨S4x96x36864x5, .i32⟩
  | 53 => ⟨S4x96x36864x5, .i32⟩
  | 54 => ⟨S4x96x36864x5, .i32⟩
  | 55 => ⟨S_, .i32⟩
  | 56 => ⟨S4x96x36864x5, .i32⟩
  | 57 => ⟨S4x96x36864x5, .i32⟩
  | 58 => ⟨S_, .i32⟩
  | 59 => ⟨S4x96x36864x5, .i32⟩
  | 60 => ⟨S4x96x36864x5, .i32⟩
  | 61 => ⟨S4x96x36864x5, .i32⟩
  | 62 => ⟨S4x96x36864x5, .i32⟩
  | 63 => ⟨S4x96x36864x5, .i32⟩
  | 64 => ⟨S_, .i32⟩
  | 65 => ⟨S4x96x36864x5, .i32⟩
  | 66 => ⟨S4x96x36864x5, .i32⟩
  | 67 => ⟨S_, .i32⟩
  | 68 => ⟨S4x96x36864x5, .i32⟩
  | 69 => ⟨S4x96x36864x5, .i32⟩
  | 70 => ⟨S4x96x36864x5, .i32⟩
  | 71 => ⟨S4x96x36864x5, .i32⟩
  | 72 => ⟨S4x96x36864x5, .i32⟩
  | 73 => ⟨S_, .i32⟩
  | 74 => ⟨S4x96x36864x5, .i32⟩
  | 75 => ⟨S4x96x36864x5, .i32⟩
  | 76 => ⟨S_, .i32⟩
  | 77 => ⟨S4x96x36864x5, .i32⟩
  | 78 => ⟨S4x96x36864x5, .i32⟩
  | 79 => ⟨S4x96x36864x5, .i32⟩
  | 80 => ⟨S4x96x36864x5, .i32⟩
  | 81 => ⟨S4x96x36864x5, .i32⟩
  | 82 => ⟨S_, .i32⟩
  | 83 => ⟨S4x96x36864x5, .i32⟩
  | 84 => ⟨S4x96x36864x5, .i32⟩
  | 85 => ⟨S_, .i32⟩
  | 86 => ⟨S4x96x36864x5, .i32⟩
  | 87 => ⟨S4x96x36864x5, .i32⟩
  | 88 => ⟨S4x96x36864x5, .i32⟩
  | 89 => ⟨S4x96x36864x5, .i32⟩
  | 90 => ⟨S4x96x36864x5, .i32⟩
  | 91 => ⟨S4x96x36864x5, .i32⟩
  | 92 => ⟨S4x96x36864x5, .i32⟩
  | 93 => ⟨S4x96x36864x5, .i32⟩
  | 94 => ⟨S_, .i32⟩
  | 95 => ⟨S4x96x36864x5, .i32⟩
  | 96 => ⟨S4x96x36864x5, .i32⟩
  | 97 => ⟨S4x96x36864x5, .i32⟩
  | 98 => ⟨S_, .i32⟩
  | 99 => ⟨S4x96x36864x5, .i32⟩
  | 100 => ⟨S4x96x36864x5, .i32⟩
  | 101 => ⟨S_, .i32⟩
  | 102 => ⟨S4x96x36864x5, .i32⟩
  | 103 => ⟨S4x96x36864x5, .i32⟩
  | 104 => ⟨S4x96x36864x5, .i32⟩
  | 105 => ⟨S4x96x36864x5, .i32⟩
  | 106 => ⟨S4x96x36864x5, .i32⟩
  | 107 => ⟨S_, .i32⟩
  | 108 => ⟨S4x96x36864x5, .i32⟩
  | 109 => ⟨S4x96x36864x5, .i32⟩
  | 110 => ⟨S_, .i32⟩
  | 111 => ⟨S4x96x36864x5, .i32⟩
  | 112 => ⟨S4x96x36864x5, .i32⟩
  | 113 => ⟨S4x96x36864x5, .i32⟩
  | 114 => ⟨S4x96x36864x5, .i32⟩
  | 115 => ⟨S4x96x36864x5, .i32⟩
  | 116 => ⟨S_, .i32⟩
  | 117 => ⟨S4x96x36864x5, .i32⟩
  | 118 => ⟨S4x96x36864x5, .i32⟩
  | 119 => ⟨S_, .i32⟩
  | 120 => ⟨S4x96x36864x5, .i32⟩
  | 121 => ⟨S4x96x36864x5, .i32⟩
  | 122 => ⟨S4x96x36864x5, .i32⟩
  | 123 => ⟨S4x96x36864x5, .i32⟩
  | 124 => ⟨S4x96x36864x5, .i32⟩
  | 125 => ⟨S_, .i32⟩
  | 126 => ⟨S4x96x36864x5, .i32⟩
  | 127 => ⟨S4x96x36864x5, .i32⟩
  | _ => ⟨S4x96x384x384, .f32⟩

abbrev hbmTy0_4 (i : Nat) : BufTy := match i % 128 with
  | 0 => ⟨S_, .i32⟩
  | 1 => ⟨S4x96x36864x5, .i32⟩
  | 2 => ⟨S4x96x36864x5, .i32⟩
  | 3 => ⟨S4x96x36864x5, .i32⟩
  | 4 => ⟨S4x96x36864x5, .i32⟩
  | 5 => ⟨S4x96x36864x5, .i32⟩
  | 6 => ⟨S4x96x36864x5, .i32⟩
  | 7 => ⟨S4x96x36864x5, .i32⟩
  | 8 => ⟨S4x96x36864x5, .i32⟩
  | 9 => ⟨S_, .i32⟩
  | 10 => ⟨S4x96x36864x5, .i32⟩
  | 11 => ⟨S4x96x36864x5, .i32⟩
  | 12 => ⟨S4x96x36864x5, .i32⟩
  | 13 => ⟨S_, .i32⟩
  | 14 => ⟨S4x96x36864x5, .i32⟩
  | 15 => ⟨S4x96x36864x5, .i32⟩
  | 16 => ⟨S_, .i32⟩
  | 17 => ⟨S4x96x36864x5, .i32⟩
  | 18 => ⟨S4x96x36864x5, .i32⟩
  | 19 => ⟨S4x96x36864x5, .f32⟩
  | 20 => ⟨S_, .f32⟩
  | 21 => ⟨S4x96x36864x5, .f32⟩
  | 22 => ⟨S4x96x36864x5, .f32⟩
  | 23 => ⟨S1x1x1x1, .f32⟩
  | 24 => ⟨S4x96x36864x5, .f32⟩
  | 25 => ⟨S4x96x36864x5, .f32⟩
  | 26 => ⟨S4x96x36864x5, .f32⟩
  | 27 => ⟨S4x96x36864x5, .f32⟩
  | 28 => ⟨S4x96x36864x5, .f32⟩
  | 29 => ⟨S4x96x36864x5, .f32⟩
  | 30 => ⟨S_, .f32⟩
  | 31 => ⟨S4x96x36864x5, .f32⟩
  | 32 => ⟨S4x96x36864x5, .f32⟩
  | 33 => ⟨S4x96x36864x5, .f32⟩
  | 34 => ⟨S4x96x36864x5, .f32⟩
  | 35 => ⟨S_, .f32⟩
  | 36 => ⟨S4x96x36864x5, .f32⟩
  | 37 => ⟨S4x96x36864x5, .f32⟩
  | 38 => ⟨S4x96x36864x5, .f32⟩
  | 39 => ⟨S4x96x36864x5, .f32⟩
  | 40 => ⟨S_, .f32⟩
  | 41 => ⟨S4x96x36864x5, .f32⟩
  | 42 => ⟨S4x96x36864x5, .f32⟩
  | 43 => ⟨S4x96x36864x5, .f32⟩
  | 44 => ⟨S4x96x36864x5, .f32⟩
  | 45 => ⟨S4x96x36864x5, .i32⟩
  | 46 => ⟨S_, .f32⟩
  | 47 => ⟨S_, .i32⟩
  | 48 => ⟨S4x96x36864, .f32⟩
  | 49 => ⟨S4x96x36864, .i32⟩
  | 50 => ⟨S4x96x36864x1, .i32⟩
  | 51 => ⟨S_, .i32⟩
  | 52 => ⟨S4x96x36864x1, .i32⟩
  | 53 => ⟨S4x96x36864x1, .i1⟩
  | 54 => ⟨S_, .i32⟩
  | 55 => ⟨S4x96x36864x1, .i32⟩
  | 56 => ⟨S4x96x36864x1, .i32⟩
  | 57 => ⟨S4x96x36864x1, .i32⟩
  | 58 => ⟨S4x96x36864x1x1, .i32⟩
  | 59 => ⟨S1, .i32⟩
  | 60 => ⟨S_, .i32⟩
  | 61 => ⟨S4x96x36864x1x1, .i32⟩
  | 62 => ⟨S4x96x36864x1x1, .i1⟩
  | 63 => ⟨S1x1x1x1x1, .i32⟩
  | 64 => ⟨S4x96x36864x1x1, .i32⟩
  | 65 => ⟨S4x96x36864x1x1, .i1⟩
  | 66 => ⟨S4x96x36864x1x1, .i1⟩
  | 67 => ⟨S_, .i1⟩
  | 68 => ⟨S4x96x36864x1, .i1⟩
  | 69 => ⟨S4x96x36864x1, .f32⟩
  | 70 => ⟨S_, .f32⟩
  | 71 => ⟨S4x96x36864x1, .f32⟩
  | 72 => ⟨S4x96x36864x1, .f32⟩
  | 73 => ⟨S4x96x36864, .f32⟩
  | 74 => ⟨S4x96x36864x1, .i32⟩
  | 75 => ⟨S1x1x1x4, .i32⟩
  | 76 => ⟨S4x96x36864x4, .i32⟩
  | 77 => ⟨S4x96x36864x4, .i32⟩
  | 78 => ⟨S4x96x36864x4, .i1⟩
  | 79 => ⟨S4x96x36864x4, .f32⟩
  | 80 => ⟨S4x96x36864x1, .f32⟩
  | 81 => ⟨S4x96x36864x4, .f32⟩
  | 82 => ⟨S4x96x36864x4, .f32⟩
  | 83 => ⟨S4x96x192x192x2x2, .f32⟩
  | 84 => ⟨S4x96x192x2x192x2, .f32⟩
  | 85 => ⟨S4x96x384x384, .f32⟩
  | 86 => ⟨S4x96x36864x4, .f32⟩
  | 87 => ⟨S_, .f32⟩
  | 88 => ⟨S4x96x36864, .f32⟩
  | 89 => ⟨S4x96x192x192, .f32⟩
  | 90 => ⟨S4x96x192x192, .i32⟩
  | _ => ⟨S4x96x384x384, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x96x384x384, .f32⟩

abbrev bufTy : (tb : Table) → Fin (tcTables nBuf tb) → BufTy
  | .hbm, ⟨i, _⟩ => hbmTy i
  | _, _ => ⟨S4x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_c_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_5 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_call0_v0 : Ref sig .tc := ⟨.hbm, 45, rfl⟩
abbrev main_call0_call0_c : Ref sig .tc := ⟨.hbm, 46, rfl⟩
abbrev main_call0_call0_v1 : Ref sig .tc := ⟨.hbm, 47, rfl⟩
abbrev main_call0_call0_v2 : Ref sig .tc := ⟨.hbm, 48, rfl⟩
abbrev main_call0_call0_v3 : Ref sig .tc := ⟨.hbm, 49, rfl⟩
abbrev main_call0_call0_v4 : Ref sig .tc := ⟨.hbm, 50, rfl⟩
abbrev main_call0_call0_v5 : Ref sig .tc := ⟨.hbm, 51, rfl⟩
abbrev main_call0_call0_v6 : Ref sig .tc := ⟨.hbm, 52, rfl⟩
abbrev main_call0_call0_c_0 : Ref sig .tc := ⟨.hbm, 53, rfl⟩
abbrev main_call0_call0_v7 : Ref sig .tc := ⟨.hbm, 54, rfl⟩
abbrev main_call0_call0_v8 : Ref sig .tc := ⟨.hbm, 55, rfl⟩
abbrev main_call0_call0_c_1 : Ref sig .tc := ⟨.hbm, 56, rfl⟩
abbrev main_call0_call0_v9 : Ref sig .tc := ⟨.hbm, 57, rfl⟩
abbrev main_call0_call0_v10 : Ref sig .tc := ⟨.hbm, 58, rfl⟩
abbrev main_call0_call0_v11 : Ref sig .tc := ⟨.hbm, 59, rfl⟩
abbrev main_call0_call0_v12 : Ref sig .tc := ⟨.hbm, 60, rfl⟩
abbrev main_call0_call0_v13 : Ref sig .tc := ⟨.hbm, 61, rfl⟩
abbrev main_call0_call0_c_2 : Ref sig .tc := ⟨.hbm, 62, rfl⟩
abbrev main_call0_call0_v14 : Ref sig .tc := ⟨.hbm, 63, rfl⟩
abbrev main_call0_call0_v15 : Ref sig .tc := ⟨.hbm, 64, rfl⟩
abbrev main_call0_call0_c_3 : Ref sig .tc := ⟨.hbm, 65, rfl⟩
abbrev main_call0_call0_v16 : Ref sig .tc := ⟨.hbm, 66, rfl⟩
abbrev main_call0_call0_v17 : Ref sig .tc := ⟨.hbm, 67, rfl⟩
abbrev main_call0_call0_v18 : Ref sig .tc := ⟨.hbm, 68, rfl⟩
abbrev main_call0_call0_v19 : Ref sig .tc := ⟨.hbm, 69, rfl⟩
abbrev main_call0_call0_v20 : Ref sig .tc := ⟨.hbm, 70, rfl⟩
abbrev main_call0_call0_c_4 : Ref sig .tc := ⟨.hbm, 71, rfl⟩
abbrev main_call0_call0_v21 : Ref sig .tc := ⟨.hbm, 72, rfl⟩
abbrev main_call0_call0_v22 : Ref sig .tc := ⟨.hbm, 73, rfl⟩
abbrev main_call0_call0_c_5 : Ref sig .tc := ⟨.hbm, 74, rfl⟩
abbrev main_call0_call0_v23 : Ref sig .tc := ⟨.hbm, 75, rfl⟩
abbrev main_call0_call0_v24 : Ref sig .tc := ⟨.hbm, 76, rfl⟩
abbrev main_call0_call0_v25 : Ref sig .tc := ⟨.hbm, 77, rfl⟩
abbrev main_call0_call0_v26 : Ref sig .tc := ⟨.hbm, 78, rfl⟩
abbrev main_call0_call0_v27 : Ref sig .tc := ⟨.hbm, 79, rfl⟩
abbrev main_call0_call0_c_6 : Ref sig .tc := ⟨.hbm, 80, rfl⟩
abbrev main_call0_call0_v28 : Ref sig .tc := ⟨.hbm, 81, rfl⟩
abbrev main_call0_call0_v29 : Ref sig .tc := ⟨.hbm, 82, rfl⟩
abbrev main_call0_call0_c_7 : Ref sig .tc := ⟨.hbm, 83, rfl⟩
abbrev main_call0_call0_v30 : Ref sig .tc := ⟨.hbm, 84, rfl⟩
abbrev main_call0_call0_v31 : Ref sig .tc := ⟨.hbm, 85, rfl⟩
abbrev main_call0_call0_v32 : Ref sig .tc := ⟨.hbm, 86, rfl⟩
abbrev main_call0_call0_v33 : Ref sig .tc := ⟨.hbm, 87, rfl⟩
abbrev main_call0_call0_v34 : Ref sig .tc := ⟨.hbm, 88, rfl⟩
abbrev main_call0_call0_v35 : Ref sig .tc := ⟨.hbm, 89, rfl⟩
abbrev main_call0_call0_v36 : Ref sig .tc := ⟨.hbm, 90, rfl⟩
abbrev main_call0_call0_v37 : Ref sig .tc := ⟨.hbm, 91, rfl⟩
abbrev main_call0_call0_c_8 : Ref sig .tc := ⟨.hbm, 92, rfl⟩
abbrev main_call0_call0_v38 : Ref sig .tc := ⟨.hbm, 93, rfl⟩
abbrev main_call0_call0_v39 : Ref sig .tc := ⟨.hbm, 94, rfl⟩
abbrev main_call0_call0_v40 : Ref sig .tc := ⟨.hbm, 95, rfl⟩
abbrev main_call0_call0_c_9 : Ref sig .tc := ⟨.hbm, 96, rfl⟩
abbrev main_call0_call0_v41 : Ref sig .tc := ⟨.hbm, 97, rfl⟩
abbrev main_call0_call0_v42 : Ref sig .tc := ⟨.hbm, 98, rfl⟩
abbrev main_call0_call0_c_10 : Ref sig .tc := ⟨.hbm, 99, rfl⟩
abbrev main_call0_call0_v43 : Ref sig .tc := ⟨.hbm, 100, rfl⟩
abbrev main_call0_call0_v44 : Ref sig .tc := ⟨.hbm, 101, rfl⟩
abbrev main_call0_call0_v45 : Ref sig .tc := ⟨.hbm, 102, rfl⟩
abbrev main_call0_call0_v46 : Ref sig .tc := ⟨.hbm, 103, rfl⟩
abbrev main_call0_call0_v47 : Ref sig .tc := ⟨.hbm, 104, rfl⟩
abbrev main_call0_call0_c_11 : Ref sig .tc := ⟨.hbm, 105, rfl⟩
abbrev main_call0_call0_v48 : Ref sig .tc := ⟨.hbm, 106, rfl⟩
abbrev main_call0_call0_v49 : Ref sig .tc := ⟨.hbm, 107, rfl⟩
abbrev main_call0_call0_c_12 : Ref sig .tc := ⟨.hbm, 108, rfl⟩
abbrev main_call0_call0_v50 : Ref sig .tc := ⟨.hbm, 109, rfl⟩
abbrev main_call0_call0_v51 : Ref sig .tc := ⟨.hbm, 110, rfl⟩
abbrev main_call0_call0_v52 : Ref sig .tc := ⟨.hbm, 111, rfl⟩
abbrev main_call0_call0_v53 : Ref sig .tc := ⟨.hbm, 112, rfl⟩
abbrev main_call0_call0_v54 : Ref sig .tc := ⟨.hbm, 113, rfl⟩
abbrev main_call0_call0_c_13 : Ref sig .tc := ⟨.hbm, 114, rfl⟩
abbrev main_call0_call0_v55 : Ref sig .tc := ⟨.hbm, 115, rfl⟩
abbrev main_call0_call0_v56 : Ref sig .tc := ⟨.hbm, 116, rfl⟩
abbrev main_call0_call0_c_14 : Ref sig .tc := ⟨.hbm, 117, rfl⟩
abbrev main_call0_call0_v57 : Ref sig .tc := ⟨.hbm, 118, rfl⟩
abbrev main_call0_call0_v58 : Ref sig .tc := ⟨.hbm, 119, rfl⟩
abbrev main_call0_call0_v59 : Ref sig .tc := ⟨.hbm, 120, rfl⟩
abbrev main_call0_call0_v60 : Ref sig .tc := ⟨.hbm, 121, rfl⟩
abbrev main_call0_call0_v61 : Ref sig .tc := ⟨.hbm, 122, rfl⟩
abbrev main_call0_call0_c_15 : Ref sig .tc := ⟨.hbm, 123, rfl⟩
abbrev main_call0_call0_v62 : Ref sig .tc := ⟨.hbm, 124, rfl⟩
abbrev main_call0_call0_v63 : Ref sig .tc := ⟨.hbm, 125, rfl⟩
abbrev main_call0_call0_c_16 : Ref sig .tc := ⟨.hbm, 126, rfl⟩
abbrev main_call0_call0_v64 : Ref sig .tc := ⟨.hbm, 127, rfl⟩
abbrev main_call0_call0_v65 : Ref sig .tc := ⟨.hbm, 128, rfl⟩
abbrev main_call0_call0_v66 : Ref sig .tc := ⟨.hbm, 129, rfl⟩
abbrev main_call0_call0_v67 : Ref sig .tc := ⟨.hbm, 130, rfl⟩
abbrev main_call0_call0_v68 : Ref sig .tc := ⟨.hbm, 131, rfl⟩
abbrev main_call0_call0_v69 : Ref sig .tc := ⟨.hbm, 132, rfl⟩
abbrev main_call0_call0_v70 : Ref sig .tc := ⟨.hbm, 133, rfl⟩
abbrev main_call0_call0_v71 : Ref sig .tc := ⟨.hbm, 134, rfl⟩
abbrev main_call0_call0_c_17 : Ref sig .tc := ⟨.hbm, 135, rfl⟩
abbrev main_call0_call0_v72 : Ref sig .tc := ⟨.hbm, 136, rfl⟩
abbrev main_call0_call0_v73 : Ref sig .tc := ⟨.hbm, 137, rfl⟩
abbrev main_call0_call0_v74 : Ref sig .tc := ⟨.hbm, 138, rfl⟩
abbrev main_call0_call0_c_18 : Ref sig .tc := ⟨.hbm, 139, rfl⟩
abbrev main_call0_call0_v75 : Ref sig .tc := ⟨.hbm, 140, rfl⟩
abbrev main_call0_call0_v76 : Ref sig .tc := ⟨.hbm, 141, rfl⟩
abbrev main_call0_call0_c_19 : Ref sig .tc := ⟨.hbm, 142, rfl⟩
abbrev main_call0_call0_v77 : Ref sig .tc := ⟨.hbm, 143, rfl⟩
abbrev main_call0_call0_v78 : Ref sig .tc := ⟨.hbm, 144, rfl⟩
abbrev main_call0_call0_v79 : Ref sig .tc := ⟨.hbm, 145, rfl⟩
abbrev main_call0_call0_v80 : Ref sig .tc := ⟨.hbm, 146, rfl⟩
abbrev main_call0_call0_v81 : Ref sig .tc := ⟨.hbm, 147, rfl⟩
abbrev main_call0_call0_c_20 : Ref sig .tc := ⟨.hbm, 148, rfl⟩
abbrev main_call0_call0_v82 : Ref sig .tc := ⟨.hbm, 149, rfl⟩
abbrev main_call0_call0_v83 : Ref sig .tc := ⟨.hbm, 150, rfl⟩
abbrev main_call0_call0_c_21 : Ref sig .tc := ⟨.hbm, 151, rfl⟩
abbrev main_call0_call0_v84 : Ref sig .tc := ⟨.hbm, 152, rfl⟩
abbrev main_call0_call0_v85 : Ref sig .tc := ⟨.hbm, 153, rfl⟩
abbrev main_call0_call0_v86 : Ref sig .tc := ⟨.hbm, 154, rfl⟩
abbrev main_call0_call0_v87 : Ref sig .tc := ⟨.hbm, 155, rfl⟩
abbrev main_call0_call0_v88 : Ref sig .tc := ⟨.hbm, 156, rfl⟩
abbrev main_call0_call0_c_22 : Ref sig .tc := ⟨.hbm, 157, rfl⟩
abbrev main_call0_call0_v89 : Ref sig .tc := ⟨.hbm, 158, rfl⟩
abbrev main_call0_call0_v90 : Ref sig .tc := ⟨.hbm, 159, rfl⟩
abbrev main_call0_call0_c_23 : Ref sig .tc := ⟨.hbm, 160, rfl⟩
abbrev main_call0_call0_v91 : Ref sig .tc := ⟨.hbm, 161, rfl⟩
abbrev main_call0_call0_v92 : Ref sig .tc := ⟨.hbm, 162, rfl⟩
abbrev main_call0_call0_v93 : Ref sig .tc := ⟨.hbm, 163, rfl⟩
abbrev main_call0_call0_v94 : Ref sig .tc := ⟨.hbm, 164, rfl⟩
abbrev main_call0_call0_v95 : Ref sig .tc := ⟨.hbm, 165, rfl⟩
abbrev main_call0_call0_c_24 : Ref sig .tc := ⟨.hbm, 166, rfl⟩
abbrev main_call0_call0_v96 : Ref sig .tc := ⟨.hbm, 167, rfl⟩
abbrev main_call0_call0_v97 : Ref sig .tc := ⟨.hbm, 168, rfl⟩
abbrev main_call0_call0_c_25 : Ref sig .tc := ⟨.hbm, 169, rfl⟩
abbrev main_call0_call0_v98 : Ref sig .tc := ⟨.hbm, 170, rfl⟩
abbrev main_call0_call0_v99 : Ref sig .tc := ⟨.hbm, 171, rfl⟩
abbrev main_call0_call0_v100 : Ref sig .tc := ⟨.hbm, 172, rfl⟩
abbrev main_call0_call0_v101 : Ref sig .tc := ⟨.hbm, 173, rfl⟩
abbrev main_call0_call0_v102 : Ref sig .tc := ⟨.hbm, 174, rfl⟩
abbrev main_call0_call0_v103 : Ref sig .tc := ⟨.hbm, 175, rfl⟩
abbrev main_call0_call0_v104 : Ref sig .tc := ⟨.hbm, 176, rfl⟩
abbrev main_call0_call0_v105 : Ref sig .tc := ⟨.hbm, 177, rfl⟩
abbrev main_call0_call0_c_26 : Ref sig .tc := ⟨.hbm, 178, rfl⟩
abbrev main_call0_call0_v106 : Ref sig .tc := ⟨.hbm, 179, rfl⟩
abbrev main_call0_call0_v107 : Ref sig .tc := ⟨.hbm, 180, rfl⟩
abbrev main_call0_call0_v108 : Ref sig .tc := ⟨.hbm, 181, rfl⟩
abbrev main_call0_call0_c_27 : Ref sig .tc := ⟨.hbm, 182, rfl⟩
abbrev main_call0_call0_v109 : Ref sig .tc := ⟨.hbm, 183, rfl⟩
abbrev main_call0_call0_v110 : Ref sig .tc := ⟨.hbm, 184, rfl⟩
abbrev main_call0_call0_c_28 : Ref sig .tc := ⟨.hbm, 185, rfl⟩
abbrev main_call0_call0_v111 : Ref sig .tc := ⟨.hbm, 186, rfl⟩
abbrev main_call0_call0_v112 : Ref sig .tc := ⟨.hbm, 187, rfl⟩
abbrev main_call0_call0_v113 : Ref sig .tc := ⟨.hbm, 188, rfl⟩
abbrev main_call0_call0_v114 : Ref sig .tc := ⟨.hbm, 189, rfl⟩
abbrev main_call0_call0_v115 : Ref sig .tc := ⟨.hbm, 190, rfl⟩
abbrev main_call0_call0_c_29 : Ref sig .tc := ⟨.hbm, 191, rfl⟩
abbrev main_call0_call0_v116 : Ref sig .tc := ⟨.hbm, 192, rfl⟩
abbrev main_call0_call0_v117 : Ref sig .tc := ⟨.hbm, 193, rfl⟩
abbrev main_call0_call0_c_30 : Ref sig .tc := ⟨.hbm, 194, rfl⟩
abbrev main_call0_call0_v118 : Ref sig .tc := ⟨.hbm, 195, rfl⟩
abbrev main_call0_call0_v119 : Ref sig .tc := ⟨.hbm, 196, rfl⟩
abbrev main_call0_call0_v120 : Ref sig .tc := ⟨.hbm, 197, rfl⟩
abbrev main_call0_call0_v121 : Ref sig .tc := ⟨.hbm, 198, rfl⟩
abbrev main_call0_call0_v122 : Ref sig .tc := ⟨.hbm, 199, rfl⟩
abbrev main_call0_call0_c_31 : Ref sig .tc := ⟨.hbm, 200, rfl⟩
abbrev main_call0_call0_v123 : Ref sig .tc := ⟨.hbm, 201, rfl⟩
abbrev main_call0_call0_v124 : Ref sig .tc := ⟨.hbm, 202, rfl⟩
abbrev main_call0_call0_c_32 : Ref sig .tc := ⟨.hbm, 203, rfl⟩
abbrev main_call0_call0_v125 : Ref sig .tc := ⟨.hbm, 204, rfl⟩
abbrev main_call0_call0_v126 : Ref sig .tc := ⟨.hbm, 205, rfl⟩
abbrev main_call0_call0_v127 : Ref sig .tc := ⟨.hbm, 206, rfl⟩
abbrev main_call0_call0_v128 : Ref sig .tc := ⟨.hbm, 207, rfl⟩
abbrev main_call0_call0_v129 : Ref sig .tc := ⟨.hbm, 208, rfl⟩
abbrev main_call0_call0_c_33 : Ref sig .tc := ⟨.hbm, 209, rfl⟩
abbrev main_call0_call0_v130 : Ref sig .tc := ⟨.hbm, 210, rfl⟩
abbrev main_call0_call0_v131 : Ref sig .tc := ⟨.hbm, 211, rfl⟩
abbrev main_call0_call0_c_34 : Ref sig .tc := ⟨.hbm, 212, rfl⟩
abbrev main_call0_call0_v132 : Ref sig .tc := ⟨.hbm, 213, rfl⟩
abbrev main_call0_call0_v133 : Ref sig .tc := ⟨.hbm, 214, rfl⟩
abbrev main_call0_call0_v134 : Ref sig .tc := ⟨.hbm, 215, rfl⟩
abbrev main_call0_call0_v135 : Ref sig .tc := ⟨.hbm, 216, rfl⟩
abbrev main_call0_call0_v136 : Ref sig .tc := ⟨.hbm, 217, rfl⟩
abbrev main_call0_call0_v137 : Ref sig .tc := ⟨.hbm, 218, rfl⟩
abbrev main_call0_call0_v138 : Ref sig .tc := ⟨.hbm, 219, rfl⟩
abbrev main_call0_call0_v139 : Ref sig .tc := ⟨.hbm, 220, rfl⟩
abbrev main_call0_call0_c_35 : Ref sig .tc := ⟨.hbm, 221, rfl⟩
abbrev main_call0_call0_v140 : Ref sig .tc := ⟨.hbm, 222, rfl⟩
abbrev main_call0_call0_v141 : Ref sig .tc := ⟨.hbm, 223, rfl⟩
abbrev main_call0_call0_v142 : Ref sig .tc := ⟨.hbm, 224, rfl⟩
abbrev main_call0_call0_c_36 : Ref sig .tc := ⟨.hbm, 225, rfl⟩
abbrev main_call0_call0_v143 : Ref sig .tc := ⟨.hbm, 226, rfl⟩
abbrev main_call0_call0_v144 : Ref sig .tc := ⟨.hbm, 227, rfl⟩
abbrev main_call0_call0_c_37 : Ref sig .tc := ⟨.hbm, 228, rfl⟩
abbrev main_call0_call0_v145 : Ref sig .tc := ⟨.hbm, 229, rfl⟩
abbrev main_call0_call0_v146 : Ref sig .tc := ⟨.hbm, 230, rfl⟩
abbrev main_call0_call0_v147 : Ref sig .tc := ⟨.hbm, 231, rfl⟩
abbrev main_call0_call0_v148 : Ref sig .tc := ⟨.hbm, 232, rfl⟩
abbrev main_call0_call0_v149 : Ref sig .tc := ⟨.hbm, 233, rfl⟩
abbrev main_call0_call0_c_38 : Ref sig .tc := ⟨.hbm, 234, rfl⟩
abbrev main_call0_call0_v150 : Ref sig .tc := ⟨.hbm, 235, rfl⟩
abbrev main_call0_call0_v151 : Ref sig .tc := ⟨.hbm, 236, rfl⟩
abbrev main_call0_call0_c_39 : Ref sig .tc := ⟨.hbm, 237, rfl⟩
abbrev main_call0_call0_v152 : Ref sig .tc := ⟨.hbm, 238, rfl⟩
abbrev main_call0_call0_v153 : Ref sig .tc := ⟨.hbm, 239, rfl⟩
abbrev main_call0_call0_v154 : Ref sig .tc := ⟨.hbm, 240, rfl⟩
abbrev main_call0_call0_v155 : Ref sig .tc := ⟨.hbm, 241, rfl⟩
abbrev main_call0_call0_v156 : Ref sig .tc := ⟨.hbm, 242, rfl⟩
abbrev main_call0_call0_c_40 : Ref sig .tc := ⟨.hbm, 243, rfl⟩
abbrev main_call0_call0_v157 : Ref sig .tc := ⟨.hbm, 244, rfl⟩
abbrev main_call0_call0_v158 : Ref sig .tc := ⟨.hbm, 245, rfl⟩
abbrev main_call0_call0_c_41 : Ref sig .tc := ⟨.hbm, 246, rfl⟩
abbrev main_call0_call0_v159 : Ref sig .tc := ⟨.hbm, 247, rfl⟩
abbrev main_call0_call0_v160 : Ref sig .tc := ⟨.hbm, 248, rfl⟩
abbrev main_call0_call0_v161 : Ref sig .tc := ⟨.hbm, 249, rfl⟩
abbrev main_call0_call0_v162 : Ref sig .tc := ⟨.hbm, 250, rfl⟩
abbrev main_call0_call0_v163 : Ref sig .tc := ⟨.hbm, 251, rfl⟩
abbrev main_call0_call0_c_42 : Ref sig .tc := ⟨.hbm, 252, rfl⟩
abbrev main_call0_call0_v164 : Ref sig .tc := ⟨.hbm, 253, rfl⟩
abbrev main_call0_call0_v165 : Ref sig .tc := ⟨.hbm, 254, rfl⟩
abbrev main_call0_call0_c_43 : Ref sig .tc := ⟨.hbm, 255, rfl⟩
abbrev main_call0_call0_v166 : Ref sig .tc := ⟨.hbm, 256, rfl⟩
abbrev main_call0_call0_v167 : Ref sig .tc := ⟨.hbm, 257, rfl⟩
abbrev main_call0_call0_v168 : Ref sig .tc := ⟨.hbm, 258, rfl⟩
abbrev main_call0_call0_v169 : Ref sig .tc := ⟨.hbm, 259, rfl⟩
abbrev main_call0_call0_v170 : Ref sig .tc := ⟨.hbm, 260, rfl⟩
abbrev main_call0_v11_0 : Ref sig .tc := ⟨.hbm, 261, rfl⟩
abbrev main_call0_call0_v172 : Ref sig .tc := ⟨.hbm, 262, rfl⟩
abbrev main_call0_call0_v173 : Ref sig .tc := ⟨.hbm, 263, rfl⟩
abbrev main_call0_call0_c_44 : Ref sig .tc := ⟨.hbm, 264, rfl⟩
abbrev main_call0_call0_v174 : Ref sig .tc := ⟨.hbm, 265, rfl⟩
abbrev main_call0_v11_1 : Ref sig .tc := ⟨.hbm, 266, rfl⟩
abbrev main_v23 : Ref sig .tc := ⟨.hbm, 267, rfl⟩
abbrev main_cst_6 : Ref sig .tc := ⟨.hbm, 268, rfl⟩
abbrev main_cst_7 : Ref sig .tc := ⟨.hbm, 269, rfl⟩
abbrev main_call1_v0 : Ref sig .tc := ⟨.hbm, 270, rfl⟩
abbrev main_call1_v1 : Ref sig .tc := ⟨.hbm, 271, rfl⟩
abbrev main_call1_v2 : Ref sig .tc := ⟨.hbm, 272, rfl⟩
abbrev main_call1_v3 : Ref sig .tc := ⟨.hbm, 273, rfl⟩
abbrev main_call1_v4 : Ref sig .tc := ⟨.hbm, 274, rfl⟩
abbrev main_call1_v5 : Ref sig .tc := ⟨.hbm, 275, rfl⟩
abbrev main_call1_v6 : Ref sig .tc := ⟨.hbm, 276, rfl⟩
abbrev main_call1_v7 : Ref sig .tc := ⟨.hbm, 277, rfl⟩
abbrev main_call1_v8 : Ref sig .tc := ⟨.hbm, 278, rfl⟩
abbrev main_call1_v9 : Ref sig .tc := ⟨.hbm, 279, rfl⟩
abbrev main_call1_v10 : Ref sig .tc := ⟨.hbm, 280, rfl⟩
abbrev main_call1_v11 : Ref sig .tc := ⟨.hbm, 281, rfl⟩
abbrev main_call1_c : Ref sig .tc := ⟨.hbm, 282, rfl⟩
abbrev main_call1_v12 : Ref sig .tc := ⟨.hbm, 283, rfl⟩
abbrev main_call1_v13 : Ref sig .tc := ⟨.hbm, 284, rfl⟩
abbrev main_call1_c_0 : Ref sig .tc := ⟨.hbm, 285, rfl⟩
abbrev main_call1_v14 : Ref sig .tc := ⟨.hbm, 286, rfl⟩
abbrev main_call1_v15 : Ref sig .tc := ⟨.hbm, 287, rfl⟩
abbrev main_call1_c_1 : Ref sig .tc := ⟨.hbm, 288, rfl⟩
abbrev main_call1_v16 : Ref sig .tc := ⟨.hbm, 289, rfl⟩
abbrev main_call1_v17 : Ref sig .tc := ⟨.hbm, 290, rfl⟩
abbrev main_call1_c_2 : Ref sig .tc := ⟨.hbm, 291, rfl⟩
abbrev main_call1_v18 : Ref sig .tc := ⟨.hbm, 292, rfl⟩
abbrev main_call1_v19 : Ref sig .tc := ⟨.hbm, 293, rfl⟩
abbrev main_call1_v20 : Ref sig .tc := ⟨.hbm, 294, rfl⟩
abbrev main_call1_v21 : Ref sig .tc := ⟨.hbm, 295, rfl⟩
abbrev main_call1_v22 : Ref sig .tc := ⟨.hbm, 296, rfl⟩
abbrev main_call1_c_3 : Ref sig .tc := ⟨.hbm, 297, rfl⟩
abbrev main_call1_v23 : Ref sig .tc := ⟨.hbm, 298, rfl⟩
abbrev main_call1_v24 : Ref sig .tc := ⟨.hbm, 299, rfl⟩
abbrev main_call1_v25 : Ref sig .tc := ⟨.hbm, 300, rfl⟩
abbrev main_call1_v26 : Ref sig .tc := ⟨.hbm, 301, rfl⟩
abbrev main_call1_call0_v0 : Ref sig .tc := ⟨.hbm, 302, rfl⟩
abbrev main_call1_call0_c : Ref sig .tc := ⟨.hbm, 303, rfl⟩
abbrev main_call1_call0_v1 : Ref sig .tc := ⟨.hbm, 304, rfl⟩
abbrev main_call1_call0_v2 : Ref sig .tc := ⟨.hbm, 305, rfl⟩
abbrev main_call1_call0_v3 : Ref sig .tc := ⟨.hbm, 306, rfl⟩
abbrev main_call1_call0_v4 : Ref sig .tc := ⟨.hbm, 307, rfl⟩
abbrev main_call1_call0_v5 : Ref sig .tc := ⟨.hbm, 308, rfl⟩
abbrev main_call1_call0_v6 : Ref sig .tc := ⟨.hbm, 309, rfl⟩
abbrev main_call1_call0_c_0 : Ref sig .tc := ⟨.hbm, 310, rfl⟩
abbrev main_call1_call0_v7 : Ref sig .tc := ⟨.hbm, 311, rfl⟩
abbrev main_call1_call0_v8 : Ref sig .tc := ⟨.hbm, 312, rfl⟩
abbrev main_call1_call0_c_1 : Ref sig .tc := ⟨.hbm, 313, rfl⟩
abbrev main_call1_call0_v9 : Ref sig .tc := ⟨.hbm, 314, rfl⟩
abbrev main_call1_call0_v10 : Ref sig .tc := ⟨.hbm, 315, rfl⟩
abbrev main_call1_call0_v11 : Ref sig .tc := ⟨.hbm, 316, rfl⟩
abbrev main_call1_call0_v12 : Ref sig .tc := ⟨.hbm, 317, rfl⟩
abbrev main_call1_call0_v13 : Ref sig .tc := ⟨.hbm, 318, rfl⟩
abbrev main_call1_call0_c_2 : Ref sig .tc := ⟨.hbm, 319, rfl⟩
abbrev main_call1_call0_v14 : Ref sig .tc := ⟨.hbm, 320, rfl⟩
abbrev main_call1_call0_v15 : Ref sig .tc := ⟨.hbm, 321, rfl⟩
abbrev main_call1_call0_c_3 : Ref sig .tc := ⟨.hbm, 322, rfl⟩
abbrev main_call1_call0_v16 : Ref sig .tc := ⟨.hbm, 323, rfl⟩
abbrev main_call1_call0_v17 : Ref sig .tc := ⟨.hbm, 324, rfl⟩
abbrev main_call1_call0_v18 : Ref sig .tc := ⟨.hbm, 325, rfl⟩
abbrev main_call1_call0_v19 : Ref sig .tc := ⟨.hbm, 326, rfl⟩
abbrev main_call1_call0_v20 : Ref sig .tc := ⟨.hbm, 327, rfl⟩
abbrev main_call1_call0_c_4 : Ref sig .tc := ⟨.hbm, 328, rfl⟩
abbrev main_call1_call0_v21 : Ref sig .tc := ⟨.hbm, 329, rfl⟩
abbrev main_call1_call0_v22 : Ref sig .tc := ⟨.hbm, 330, rfl⟩
abbrev main_call1_call0_c_5 : Ref sig .tc := ⟨.hbm, 331, rfl⟩
abbrev main_call1_call0_v23 : Ref sig .tc := ⟨.hbm, 332, rfl⟩
abbrev main_call1_call0_v24 : Ref sig .tc := ⟨.hbm, 333, rfl⟩
abbrev main_call1_call0_v25 : Ref sig .tc := ⟨.hbm, 334, rfl⟩
abbrev main_call1_call0_v26 : Ref sig .tc := ⟨.hbm, 335, rfl⟩
abbrev main_call1_call0_v27 : Ref sig .tc := ⟨.hbm, 336, rfl⟩
abbrev main_call1_call0_c_6 : Ref sig .tc := ⟨.hbm, 337, rfl⟩
abbrev main_call1_call0_v28 : Ref sig .tc := ⟨.hbm, 338, rfl⟩
abbrev main_call1_call0_v29 : Ref sig .tc := ⟨.hbm, 339, rfl⟩
abbrev main_call1_call0_c_7 : Ref sig .tc := ⟨.hbm, 340, rfl⟩
abbrev main_call1_call0_v30 : Ref sig .tc := ⟨.hbm, 341, rfl⟩
abbrev main_call1_call0_v31 : Ref sig .tc := ⟨.hbm, 342, rfl⟩
abbrev main_call1_call0_v32 : Ref sig .tc := ⟨.hbm, 343, rfl⟩
abbrev main_call1_call0_v33 : Ref sig .tc := ⟨.hbm, 344, rfl⟩
abbrev main_call1_call0_v34 : Ref sig .tc := ⟨.hbm, 345, rfl⟩
abbrev main_call1_call0_v35 : Ref sig .tc := ⟨.hbm, 346, rfl⟩
abbrev main_call1_call0_v36 : Ref sig .tc := ⟨.hbm, 347, rfl⟩
abbrev main_call1_call0_v37 : Ref sig .tc := ⟨.hbm, 348, rfl⟩
abbrev main_call1_call0_c_8 : Ref sig .tc := ⟨.hbm, 349, rfl⟩
abbrev main_call1_call0_v38 : Ref sig .tc := ⟨.hbm, 350, rfl⟩
abbrev main_call1_call0_v39 : Ref sig .tc := ⟨.hbm, 351, rfl⟩
abbrev main_call1_call0_v40 : Ref sig .tc := ⟨.hbm, 352, rfl⟩
abbrev main_call1_call0_c_9 : Ref sig .tc := ⟨.hbm, 353, rfl⟩
abbrev main_call1_call0_v41 : Ref sig .tc := ⟨.hbm, 354, rfl⟩
abbrev main_call1_call0_v42 : Ref sig .tc := ⟨.hbm, 355, rfl⟩
abbrev main_call1_call0_c_10 : Ref sig .tc := ⟨.hbm, 356, rfl⟩
abbrev main_call1_call0_v43 : Ref sig .tc := ⟨.hbm, 357, rfl⟩
abbrev main_call1_call0_v44 : Ref sig .tc := ⟨.hbm, 358, rfl⟩
abbrev main_call1_call0_v45 : Ref sig .tc := ⟨.hbm, 359, rfl⟩
abbrev main_call1_call0_v46 : Ref sig .tc := ⟨.hbm, 360, rfl⟩
abbrev main_call1_call0_v47 : Ref sig .tc := ⟨.hbm, 361, rfl⟩
abbrev main_call1_call0_c_11 : Ref sig .tc := ⟨.hbm, 362, rfl⟩
abbrev main_call1_call0_v48 : Ref sig .tc := ⟨.hbm, 363, rfl⟩
abbrev main_call1_call0_v49 : Ref sig .tc := ⟨.hbm, 364, rfl⟩
abbrev main_call1_call0_c_12 : Ref sig .tc := ⟨.hbm, 365, rfl⟩
abbrev main_call1_call0_v50 : Ref sig .tc := ⟨.hbm, 366, rfl⟩
abbrev main_call1_call0_v51 : Ref sig .tc := ⟨.hbm, 367, rfl⟩
abbrev main_call1_call0_v52 : Ref sig .tc := ⟨.hbm, 368, rfl⟩
abbrev main_call1_call0_v53 : Ref sig .tc := ⟨.hbm, 369, rfl⟩
abbrev main_call1_call0_v54 : Ref sig .tc := ⟨.hbm, 370, rfl⟩
abbrev main_call1_call0_c_13 : Ref sig .tc := ⟨.hbm, 371, rfl⟩
abbrev main_call1_call0_v55 : Ref sig .tc := ⟨.hbm, 372, rfl⟩
abbrev main_call1_call0_v56 : Ref sig .tc := ⟨.hbm, 373, rfl⟩
abbrev main_call1_call0_c_14 : Ref sig .tc := ⟨.hbm, 374, rfl⟩
abbrev main_call1_call0_v57 : Ref sig .tc := ⟨.hbm, 375, rfl⟩
abbrev main_call1_call0_v58 : Ref sig .tc := ⟨.hbm, 376, rfl⟩
abbrev main_call1_call0_v59 : Ref sig .tc := ⟨.hbm, 377, rfl⟩
abbrev main_call1_call0_v60 : Ref sig .tc := ⟨.hbm, 378, rfl⟩
abbrev main_call1_call0_v61 : Ref sig .tc := ⟨.hbm, 379, rfl⟩
abbrev main_call1_call0_c_15 : Ref sig .tc := ⟨.hbm, 380, rfl⟩
abbrev main_call1_call0_v62 : Ref sig .tc := ⟨.hbm, 381, rfl⟩
abbrev main_call1_call0_v63 : Ref sig .tc := ⟨.hbm, 382, rfl⟩
abbrev main_call1_call0_c_16 : Ref sig .tc := ⟨.hbm, 383, rfl⟩
abbrev main_call1_call0_v64 : Ref sig .tc := ⟨.hbm, 384, rfl⟩
abbrev main_call1_call0_v65 : Ref sig .tc := ⟨.hbm, 385, rfl⟩
abbrev main_call1_call0_v66 : Ref sig .tc := ⟨.hbm, 386, rfl⟩
abbrev main_call1_call0_v67 : Ref sig .tc := ⟨.hbm, 387, rfl⟩
abbrev main_call1_call0_v68 : Ref sig .tc := ⟨.hbm, 388, rfl⟩
abbrev main_call1_call0_v69 : Ref sig .tc := ⟨.hbm, 389, rfl⟩
abbrev main_call1_call0_v70 : Ref sig .tc := ⟨.hbm, 390, rfl⟩
abbrev main_call1_call0_v71 : Ref sig .tc := ⟨.hbm, 391, rfl⟩
abbrev main_call1_call0_c_17 : Ref sig .tc := ⟨.hbm, 392, rfl⟩
abbrev main_call1_call0_v72 : Ref sig .tc := ⟨.hbm, 393, rfl⟩
abbrev main_call1_call0_v73 : Ref sig .tc := ⟨.hbm, 394, rfl⟩
abbrev main_call1_call0_v74 : Ref sig .tc := ⟨.hbm, 395, rfl⟩
abbrev main_call1_call0_c_18 : Ref sig .tc := ⟨.hbm, 396, rfl⟩
abbrev main_call1_call0_v75 : Ref sig .tc := ⟨.hbm, 397, rfl⟩
abbrev main_call1_call0_v76 : Ref sig .tc := ⟨.hbm, 398, rfl⟩
abbrev main_call1_call0_c_19 : Ref sig .tc := ⟨.hbm, 399, rfl⟩
abbrev main_call1_call0_v77 : Ref sig .tc := ⟨.hbm, 400, rfl⟩
abbrev main_call1_call0_v78 : Ref sig .tc := ⟨.hbm, 401, rfl⟩
abbrev main_call1_call0_v79 : Ref sig .tc := ⟨.hbm, 402, rfl⟩
abbrev main_call1_call0_v80 : Ref sig .tc := ⟨.hbm, 403, rfl⟩
abbrev main_call1_call0_v81 : Ref sig .tc := ⟨.hbm, 404, rfl⟩
abbrev main_call1_call0_c_20 : Ref sig .tc := ⟨.hbm, 405, rfl⟩
abbrev main_call1_call0_v82 : Ref sig .tc := ⟨.hbm, 406, rfl⟩
abbrev main_call1_call0_v83 : Ref sig .tc := ⟨.hbm, 407, rfl⟩
abbrev main_call1_call0_c_21 : Ref sig .tc := ⟨.hbm, 408, rfl⟩
abbrev main_call1_call0_v84 : Ref sig .tc := ⟨.hbm, 409, rfl⟩
abbrev main_call1_call0_v85 : Ref sig .tc := ⟨.hbm, 410, rfl⟩
abbrev main_call1_call0_v86 : Ref sig .tc := ⟨.hbm, 411, rfl⟩
abbrev main_call1_call0_v87 : Ref sig .tc := ⟨.hbm, 412, rfl⟩
abbrev main_call1_call0_v88 : Ref sig .tc := ⟨.hbm, 413, rfl⟩
abbrev main_call1_call0_c_22 : Ref sig .tc := ⟨.hbm, 414, rfl⟩
abbrev main_call1_call0_v89 : Ref sig .tc := ⟨.hbm, 415, rfl⟩
abbrev main_call1_call0_v90 : Ref sig .tc := ⟨.hbm, 416, rfl⟩
abbrev main_call1_call0_c_23 : Ref sig .tc := ⟨.hbm, 417, rfl⟩
abbrev main_call1_call0_v91 : Ref sig .tc := ⟨.hbm, 418, rfl⟩
abbrev main_call1_call0_v92 : Ref sig .tc := ⟨.hbm, 419, rfl⟩
abbrev main_call1_call0_v93 : Ref sig .tc := ⟨.hbm, 420, rfl⟩
abbrev main_call1_call0_v94 : Ref sig .tc := ⟨.hbm, 421, rfl⟩
abbrev main_call1_call0_v95 : Ref sig .tc := ⟨.hbm, 422, rfl⟩
abbrev main_call1_call0_c_24 : Ref sig .tc := ⟨.hbm, 423, rfl⟩
abbrev main_call1_call0_v96 : Ref sig .tc := ⟨.hbm, 424, rfl⟩
abbrev main_call1_call0_v97 : Ref sig .tc := ⟨.hbm, 425, rfl⟩
abbrev main_call1_call0_c_25 : Ref sig .tc := ⟨.hbm, 426, rfl⟩
abbrev main_call1_call0_v98 : Ref sig .tc := ⟨.hbm, 427, rfl⟩
abbrev main_call1_call0_v99 : Ref sig .tc := ⟨.hbm, 428, rfl⟩
abbrev main_call1_call0_v100 : Ref sig .tc := ⟨.hbm, 429, rfl⟩
abbrev main_call1_call0_v101 : Ref sig .tc := ⟨.hbm, 430, rfl⟩
abbrev main_call1_call0_v102 : Ref sig .tc := ⟨.hbm, 431, rfl⟩
abbrev main_call1_call0_v103 : Ref sig .tc := ⟨.hbm, 432, rfl⟩
abbrev main_call1_call0_v104 : Ref sig .tc := ⟨.hbm, 433, rfl⟩
abbrev main_call1_call0_v105 : Ref sig .tc := ⟨.hbm, 434, rfl⟩
abbrev main_call1_call0_c_26 : Ref sig .tc := ⟨.hbm, 435, rfl⟩
abbrev main_call1_call0_v106 : Ref sig .tc := ⟨.hbm, 436, rfl⟩
abbrev main_call1_call0_v107 : Ref sig .tc := ⟨.hbm, 437, rfl⟩
abbrev main_call1_call0_v108 : Ref sig .tc := ⟨.hbm, 438, rfl⟩
abbrev main_call1_call0_c_27 : Ref sig .tc := ⟨.hbm, 439, rfl⟩
abbrev main_call1_call0_v109 : Ref sig .tc := ⟨.hbm, 440, rfl⟩
abbrev main_call1_call0_v110 : Ref sig .tc := ⟨.hbm, 441, rfl⟩
abbrev main_call1_call0_c_28 : Ref sig .tc := ⟨.hbm, 442, rfl⟩
abbrev main_call1_call0_v111 : Ref sig .tc := ⟨.hbm, 443, rfl⟩
abbrev main_call1_call0_v112 : Ref sig .tc := ⟨.hbm, 444, rfl⟩
abbrev main_call1_call0_v113 : Ref sig .tc := ⟨.hbm, 445, rfl⟩
abbrev main_call1_call0_v114 : Ref sig .tc := ⟨.hbm, 446, rfl⟩
abbrev main_call1_call0_v115 : Ref sig .tc := ⟨.hbm, 447, rfl⟩
abbrev main_call1_call0_c_29 : Ref sig .tc := ⟨.hbm, 448, rfl⟩
abbrev main_call1_call0_v116 : Ref sig .tc := ⟨.hbm, 449, rfl⟩
abbrev main_call1_call0_v117 : Ref sig .tc := ⟨.hbm, 450, rfl⟩
abbrev main_call1_call0_c_30 : Ref sig .tc := ⟨.hbm, 451, rfl⟩
abbrev main_call1_call0_v118 : Ref sig .tc := ⟨.hbm, 452, rfl⟩
abbrev main_call1_call0_v119 : Ref sig .tc := ⟨.hbm, 453, rfl⟩
abbrev main_call1_call0_v120 : Ref sig .tc := ⟨.hbm, 454, rfl⟩
abbrev main_call1_call0_v121 : Ref sig .tc := ⟨.hbm, 455, rfl⟩
abbrev main_call1_call0_v122 : Ref sig .tc := ⟨.hbm, 456, rfl⟩
abbrev main_call1_call0_c_31 : Ref sig .tc := ⟨.hbm, 457, rfl⟩
abbrev main_call1_call0_v123 : Ref sig .tc := ⟨.hbm, 458, rfl⟩
abbrev main_call1_call0_v124 : Ref sig .tc := ⟨.hbm, 459, rfl⟩
abbrev main_call1_call0_c_32 : Ref sig .tc := ⟨.hbm, 460, rfl⟩
abbrev main_call1_call0_v125 : Ref sig .tc := ⟨.hbm, 461, rfl⟩
abbrev main_call1_call0_v126 : Ref sig .tc := ⟨.hbm, 462, rfl⟩
abbrev main_call1_call0_v127 : Ref sig .tc := ⟨.hbm, 463, rfl⟩
abbrev main_call1_call0_v128 : Ref sig .tc := ⟨.hbm, 464, rfl⟩
abbrev main_call1_call0_v129 : Ref sig .tc := ⟨.hbm, 465, rfl⟩
abbrev main_call1_call0_c_33 : Ref sig .tc := ⟨.hbm, 466, rfl⟩
abbrev main_call1_call0_v130 : Ref sig .tc := ⟨.hbm, 467, rfl⟩
abbrev main_call1_call0_v131 : Ref sig .tc := ⟨.hbm, 468, rfl⟩
abbrev main_call1_call0_c_34 : Ref sig .tc := ⟨.hbm, 469, rfl⟩
abbrev main_call1_call0_v132 : Ref sig .tc := ⟨.hbm, 470, rfl⟩
abbrev main_call1_call0_v133 : Ref sig .tc := ⟨.hbm, 471, rfl⟩
abbrev main_call1_call0_v134 : Ref sig .tc := ⟨.hbm, 472, rfl⟩
abbrev main_call1_call0_v135 : Ref sig .tc := ⟨.hbm, 473, rfl⟩
abbrev main_call1_call0_v136 : Ref sig .tc := ⟨.hbm, 474, rfl⟩
abbrev main_call1_call0_v137 : Ref sig .tc := ⟨.hbm, 475, rfl⟩
abbrev main_call1_call0_v138 : Ref sig .tc := ⟨.hbm, 476, rfl⟩
abbrev main_call1_call0_v139 : Ref sig .tc := ⟨.hbm, 477, rfl⟩
abbrev main_call1_call0_c_35 : Ref sig .tc := ⟨.hbm, 478, rfl⟩
abbrev main_call1_call0_v140 : Ref sig .tc := ⟨.hbm, 479, rfl⟩
abbrev main_call1_call0_v141 : Ref sig .tc := ⟨.hbm, 480, rfl⟩
abbrev main_call1_call0_v142 : Ref sig .tc := ⟨.hbm, 481, rfl⟩
abbrev main_call1_call0_c_36 : Ref sig .tc := ⟨.hbm, 482, rfl⟩
abbrev main_call1_call0_v143 : Ref sig .tc := ⟨.hbm, 483, rfl⟩
abbrev main_call1_call0_v144 : Ref sig .tc := ⟨.hbm, 484, rfl⟩
abbrev main_call1_call0_c_37 : Ref sig .tc := ⟨.hbm, 485, rfl⟩
abbrev main_call1_call0_v145 : Ref sig .tc := ⟨.hbm, 486, rfl⟩
abbrev main_call1_call0_v146 : Ref sig .tc := ⟨.hbm, 487, rfl⟩
abbrev main_call1_call0_v147 : Ref sig .tc := ⟨.hbm, 488, rfl⟩
abbrev main_call1_call0_v148 : Ref sig .tc := ⟨.hbm, 489, rfl⟩
abbrev main_call1_call0_v149 : Ref sig .tc := ⟨.hbm, 490, rfl⟩
abbrev main_call1_call0_c_38 : Ref sig .tc := ⟨.hbm, 491, rfl⟩
abbrev main_call1_call0_v150 : Ref sig .tc := ⟨.hbm, 492, rfl⟩
abbrev main_call1_call0_v151 : Ref sig .tc := ⟨.hbm, 493, rfl⟩
abbrev main_call1_call0_c_39 : Ref sig .tc := ⟨.hbm, 494, rfl⟩
abbrev main_call1_call0_v152 : Ref sig .tc := ⟨.hbm, 495, rfl⟩
abbrev main_call1_call0_v153 : Ref sig .tc := ⟨.hbm, 496, rfl⟩
abbrev main_call1_call0_v154 : Ref sig .tc := ⟨.hbm, 497, rfl⟩
abbrev main_call1_call0_v155 : Ref sig .tc := ⟨.hbm, 498, rfl⟩
abbrev main_call1_call0_v156 : Ref sig .tc := ⟨.hbm, 499, rfl⟩
abbrev main_call1_call0_c_40 : Ref sig .tc := ⟨.hbm, 500, rfl⟩
abbrev main_call1_call0_v157 : Ref sig .tc := ⟨.hbm, 501, rfl⟩
abbrev main_call1_call0_v158 : Ref sig .tc := ⟨.hbm, 502, rfl⟩
abbrev main_call1_call0_c_41 : Ref sig .tc := ⟨.hbm, 503, rfl⟩
abbrev main_call1_call0_v159 : Ref sig .tc := ⟨.hbm, 504, rfl⟩
abbrev main_call1_call0_v160 : Ref sig .tc := ⟨.hbm, 505, rfl⟩
abbrev main_call1_call0_v161 : Ref sig .tc := ⟨.hbm, 506, rfl⟩
abbrev main_call1_call0_v162 : Ref sig .tc := ⟨.hbm, 507, rfl⟩
abbrev main_call1_call0_v163 : Ref sig .tc := ⟨.hbm, 508, rfl⟩
abbrev main_call1_call0_c_42 : Ref sig .tc := ⟨.hbm, 509, rfl⟩
abbrev main_call1_call0_v164 : Ref sig .tc := ⟨.hbm, 510, rfl⟩
abbrev main_call1_call0_v165 : Ref sig .tc := ⟨.hbm, 511, rfl⟩
abbrev main_call1_call0_c_43 : Ref sig .tc := ⟨.hbm, 512, rfl⟩
abbrev main_call1_call0_v166 : Ref sig .tc := ⟨.hbm, 513, rfl⟩
abbrev main_call1_call0_v167 : Ref sig .tc := ⟨.hbm, 514, rfl⟩
abbrev main_call1_call0_v168 : Ref sig .tc := ⟨.hbm, 515, rfl⟩
abbrev main_call1_call0_v169 : Ref sig .tc := ⟨.hbm, 516, rfl⟩
abbrev main_call1_call0_v170 : Ref sig .tc := ⟨.hbm, 517, rfl⟩
abbrev main_call1_v27_0 : Ref sig .tc := ⟨.hbm, 518, rfl⟩
abbrev main_call1_call0_v172 : Ref sig .tc := ⟨.hbm, 519, rfl⟩
abbrev main_call1_call0_v173 : Ref sig .tc := ⟨.hbm, 520, rfl⟩
abbrev main_call1_call0_c_44 : Ref sig .tc := ⟨.hbm, 521, rfl⟩
abbrev main_call1_call0_v174 : Ref sig .tc := ⟨.hbm, 522, rfl⟩
abbrev main_call1_v27_1 : Ref sig .tc := ⟨.hbm, 523, rfl⟩
abbrev main_call1_v28 : Ref sig .tc := ⟨.hbm, 524, rfl⟩
abbrev main_call1_c_4 : Ref sig .tc := ⟨.hbm, 525, rfl⟩
abbrev main_call1_v29 : Ref sig .tc := ⟨.hbm, 526, rfl⟩
abbrev main_call1_v30 : Ref sig .tc := ⟨.hbm, 527, rfl⟩
abbrev main_call1_c_5 : Ref sig .tc := ⟨.hbm, 528, rfl⟩
abbrev main_call1_v31 : Ref sig .tc := ⟨.hbm, 529, rfl⟩
abbrev main_call1_v32 : Ref sig .tc := ⟨.hbm, 530, rfl⟩
abbrev main_call1_v33 : Ref sig .tc := ⟨.hbm, 531, rfl⟩
abbrev main_call1_cst : Ref sig .tc := ⟨.hbm, 532, rfl⟩
abbrev main_call1_v34 : Ref sig .tc := ⟨.hbm, 533, rfl⟩
abbrev main_call1_v35 : Ref sig .tc := ⟨.hbm, 534, rfl⟩
abbrev main_call1_v36 : Ref sig .tc := ⟨.hbm, 535, rfl⟩
abbrev main_call1_v37 : Ref sig .tc := ⟨.hbm, 536, rfl⟩
abbrev main_call1_v38 : Ref sig .tc := ⟨.hbm, 537, rfl⟩
abbrev main_call1_v39 : Ref sig .tc := ⟨.hbm, 538, rfl⟩
abbrev main_call1_v40 : Ref sig .tc := ⟨.hbm, 539, rfl⟩
abbrev main_call1_v41 : Ref sig .tc := ⟨.hbm, 540, rfl⟩
abbrev main_v24 : Ref sig .tc := ⟨.hbm, 541, rfl⟩
abbrev main_cst_8 : Ref sig .tc := ⟨.hbm, 542, rfl⟩
abbrev main_v25 : Ref sig .tc := ⟨.hbm, 543, rfl⟩
abbrev main_v26 : Ref sig .tc := ⟨.hbm, 544, rfl⟩
abbrev main_v27 : Ref sig .tc := ⟨.hbm, 545, rfl⟩
abbrev main_v28 : Ref sig .tc := ⟨.hbm, 546, rfl⟩
abbrev main_cst_9 : Ref sig .tc := ⟨.hbm, 547, rfl⟩
abbrev main_v29 : Ref sig .tc := ⟨.hbm, 548, rfl⟩
abbrev main_v30 : Ref sig .tc := ⟨.hbm, 549, rfl⟩
abbrev main_v31 : Ref sig .tc := ⟨.hbm, 550, rfl⟩
abbrev main_v32 : Ref sig .tc := ⟨.hbm, 551, rfl⟩
abbrev main_cst_10 : Ref sig .tc := ⟨.hbm, 552, rfl⟩
abbrev main_v33 : Ref sig .tc := ⟨.hbm, 553, rfl⟩
abbrev main_v34 : Ref sig .tc := ⟨.hbm, 554, rfl⟩
abbrev main_v35 : Ref sig .tc := ⟨.hbm, 555, rfl⟩
abbrev main_v36 : Ref sig .tc := ⟨.hbm, 556, rfl⟩
abbrev main_call2_v0 : Ref sig .tc := ⟨.hbm, 557, rfl⟩
abbrev main_call2_cst : Ref sig .tc := ⟨.hbm, 558, rfl⟩
abbrev main_call2_c : Ref sig .tc := ⟨.hbm, 559, rfl⟩
abbrev main_call2_v1_0 : Ref sig .tc := ⟨.hbm, 560, rfl⟩
abbrev main_v37 : Ref sig .tc := ⟨.hbm, 561, rfl⟩
abbrev main_v38 : Ref sig .tc := ⟨.hbm, 562, rfl⟩
abbrev main_call3_c : Ref sig .tc := ⟨.hbm, 563, rfl⟩
abbrev main_call3_v0 : Ref sig .tc := ⟨.hbm, 564, rfl⟩
abbrev main_call3_v1 : Ref sig .tc := ⟨.hbm, 565, rfl⟩
abbrev main_call3_c_0 : Ref sig .tc := ⟨.hbm, 566, rfl⟩
abbrev main_call3_v2 : Ref sig .tc := ⟨.hbm, 567, rfl⟩
abbrev main_call3_v3 : Ref sig .tc := ⟨.hbm, 568, rfl⟩
abbrev main_call3_v4 : Ref sig .tc := ⟨.hbm, 569, rfl⟩
abbrev main_call3_v5 : Ref sig .tc := ⟨.hbm, 570, rfl⟩
abbrev main_call3_c_1 : Ref sig .tc := ⟨.hbm, 571, rfl⟩
abbrev main_call3_c_2 : Ref sig .tc := ⟨.hbm, 572, rfl⟩
abbrev main_call3_v6 : Ref sig .tc := ⟨.hbm, 573, rfl⟩
abbrev main_call3_v7 : Ref sig .tc := ⟨.hbm, 574, rfl⟩
abbrev main_call3_v8 : Ref sig .tc := ⟨.hbm, 575, rfl⟩
abbrev main_call3_v9 : Ref sig .tc := ⟨.hbm, 576, rfl⟩
abbrev main_call3_v10 : Ref sig .tc := ⟨.hbm, 577, rfl⟩
abbrev main_call3_v11 : Ref sig .tc := ⟨.hbm, 578, rfl⟩
abbrev main_call3_c_3 : Ref sig .tc := ⟨.hbm, 579, rfl⟩
abbrev main_call3_v12 : Ref sig .tc := ⟨.hbm, 580, rfl⟩
abbrev main_call3_v13 : Ref sig .tc := ⟨.hbm, 581, rfl⟩
abbrev main_call3_cst : Ref sig .tc := ⟨.hbm, 582, rfl⟩
abbrev main_call3_v14 : Ref sig .tc := ⟨.hbm, 583, rfl⟩
abbrev main_v39 : Ref sig .tc := ⟨.hbm, 584, rfl⟩
abbrev main_v40 : Ref sig .tc := ⟨.hbm, 585, rfl⟩
abbrev main_call4_v0 : Ref sig .tc := ⟨.hbm, 586, rfl⟩
abbrev main_call4_v1 : Ref sig .tc := ⟨.hbm, 587, rfl⟩
abbrev main_call4_v2 : Ref sig .tc := ⟨.hbm, 588, rfl⟩
abbrev main_call4_v3 : Ref sig .tc := ⟨.hbm, 589, rfl⟩
abbrev main_call4_v4 : Ref sig .tc := ⟨.hbm, 590, rfl⟩
abbrev main_v41 : Ref sig .tc := ⟨.hbm, 591, rfl⟩
abbrev main_v42 : Ref sig .tc := ⟨.hbm, 592, rfl⟩
abbrev main_v43 : Ref sig .tc := ⟨.hbm, 593, rfl⟩
abbrev main_v44 : Ref sig .tc := ⟨.hbm, 594, rfl⟩
abbrev main_v45 : Ref sig .tc := ⟨.hbm, 595, rfl⟩
abbrev main_v46 : Ref sig .tc := ⟨.hbm, 596, rfl⟩
abbrev main_v47 : Ref sig .tc := ⟨.hbm, 597, rfl⟩
abbrev main_v48 : Ref sig .tc := ⟨.hbm, 598, rfl⟩
abbrev main_cst_11 : Ref sig .tc := ⟨.hbm, 599, rfl⟩
abbrev main_v49 : Ref sig .tc := ⟨.hbm, 600, rfl⟩
abbrev main_v50 : Ref sig .tc := ⟨.hbm, 601, rfl⟩
abbrev main_v51 : Ref sig .tc := ⟨.hbm, 602, rfl⟩

abbrev nD : Nat := 1
abbrev τ : Topo := Topo.v7x

variable {F : FTy → Type} [FloatOps F]
-- ==== Proof.RefFacts.lean ====
/-
  The side conditions the reference program states about its shapes, proved.
-/
module

public import proofs.«01_k».proof.Defs
public import Idealize.ShloMosaic.Init
public import Idealize.ShloMosaic.Lib.Tactic

@[expose] public section

set_option maxRecDepth 16384

namespace Cert.Side

open Idealize.ShloMosaic

/-- The reference's side conditions. -/
instance refFacts : Cert.ReferenceIdeal.Facts where
  shapeCasts_S4x96x384x384_S4x96x192x2x192x2 := by decide
  transposes_S4x96x192x2x192x2_S4x96x192x192x2x2_0_1_2_4_3_5 := by decide
  shapeCasts_S4x96x192x192x2x2_S4x96x36864x4 := by decide
  bcast_S_S4x96x36864x1 := by decide
  concatenates_S4x96x36864x4_S4x96x36864x1_S4x96x36864x5_d3 := by decide
  reducesTo_S4x96x36864x5_S4x96x36864_d3 := by decide
  h_S_ := by decide
  bcast_S4x96x36864_S4x96x36864x1_0_1_2 := by decide
  bcast_S4x96x36864x1_S4x96x36864x5_0_1_2_3 := by decide
  bcast_S_S1 := by decide
  concatenates_S1_S1_S2_d0 := by decide
  slices_S2_S1_0 := by decide
  shapeCasts_S1_S_ := by decide
  slices_S2_S1_1 := by decide
  bcast_S_S1x1x1x1 := by decide
  bcast_S_S4x96x36864x5 := by decide
  natLt_32_64 := by decide
  bcast_S1x1x1x1_S4x96x36864x5_0_1_2_3 := by decide
  shapeCasts_S4x96x36864x1_S4x96x36864x1x1 := by decide
  bcast_S_S4x96x36864x1x1 := by decide
  bcast_S1_S1x1x1x1x1_4 := by decide
  bcast_S1x1x1x1x1_S4x96x36864x1x1_0_1_2_3_4 := by decide
  reducesTo_S4x96x36864x1x1_S4x96x36864x1_d4 := by decide
  shapeCasts_S4x96x36864x1_S4x96x36864 := by decide
  bcast_S4x96x36864x1_S4x96x36864x4_0_1_2_3 := by decide
  bcast_S1x1x1x4_S4x96x36864x4_0_1_2_3 := by decide
  shapeCasts_S4x96x36864x4_S4x96x192x192x2x2 := by decide
  transposes_S4x96x192x192x2x2_S4x96x192x2x192x2_0_1_2_4_3_5 := by decide
  shapeCasts_S4x96x192x2x192x2_S4x96x384x384 := by decide
  slices_S4x96x36864x5_S4x96x36864x4_0_0_0_0 := by decide
  reducesTo_S4x96x36864x4_S4x96x36864_d3 := by decide
  shapeCasts_S4x96x36864_S4x96x192x192 := by decide
  gather_S4x96x36864x5_S4x96x36864x1x1_S4x96x36864x1_n_3_012_012_3_4_1111_wf := by decide

end Cert.Side

end
-- ==== Proof.Straight.lean ====
/-
  Straight lines of host operations, read by equations.

  In a line where every operation writes a buffer of a higher number than the ones it reads, and the numbers written
  increase, what the line leaves at the end satisfies EVERY operation's equation at once: the written buffer holds the
  operation's function of what its operands hold at the end. So a long line is read as a set of equations between
  final contents (`Eqns`), and a function called inside it as the equations of its own operations.
-/
module

public import Idealize.ShloMosaic.Lib.StableHlo.Run
public import Idealize.ShloMosaic.Lib.StableHlo.RunHlo

@[expose] public section

namespace Cert.Straight

open Idealize.ShloMosaic Idealize.ShloMosaic.StableHlo Idealize.SL.Sem

variable {nD : ℕ} {τ : Topo} {sig : RefSig} {Val : EltTy → Type} {Λ : Labels}

/-- The buffer number of a reference. -/
def num (r : Ref sig .tc) : ℕ := r.idx.val

/-- The buffers the line writes have increasing numbers, from `k` on and below `k'`, and an operation's result depends
    only on buffers of a lower number than the one it writes; and every operation allocates nothing and touches
    TensorCore buffers only. -/
def Span : ℕ → List (HloOp τ sig Val) → ℕ → Prop
  | k, [], k' => k ≤ k'
  | k, op :: ops, k' => ∃ y : Ref sig .tc, (op.writes = {Proc.devRef (τ := τ) .tc y} ∧ op.fresh = ∅ ∧ op.bufs ⊆ tcRefs τ sig) ∧
      k ≤ num y ∧ (∀ F G : Valuation τ sig Val, (∀ r : Ref sig .tc, num r < num y → F (Proc.devRef .tc r) = G (Proc.devRef .tc r)) →
        op.result F (Proc.devRef .tc y) = op.result G (Proc.devRef .tc y)) ∧
      Span (num y + 1) ops k'

/-- The empty line is ordered. -/
theorem Span.nil {k k' : ℕ} (h : k.ble k' = true) : Span k ([] : List (HloOp τ sig Val)) k' := Nat.le_of_ble_eq_true h

/-- An ordered line is ordered from any lower number on. -/
theorem Span.from_le {j k k' : ℕ} (hj : j ≤ k) : ∀ {ops : List (HloOp τ sig Val)}, Span k ops k' → Span j ops k'
  | [], h => le_trans hj h
  | _ :: _, ⟨y, hw, hk, h⟩ => ⟨y, hw, le_trans hj hk, h⟩

/-- Two stretches one after the other. -/
theorem Span.append {k₁ k₂ : ℕ} : ∀ {k : ℕ} {l₁ l₂ : List (HloOp τ sig Val)}, Span k l₁ k₁ → Span k₁ l₂ k₂ → Span k (l₁ ++ l₂) k₂
  | _, [], _, h₁, h₂ => h₂.from_le h₁
  | _, _ :: _, _, ⟨y, hw, hk, hd, h⟩, h₂ => ⟨y, hw, hk, hd, h.append h₂⟩

/-- The valuation satisfies the operation's equation: a buffer it writes holds what it computes from the valuation. -/
def Eqn (V : Valuation τ sig Val) (op : HloOp τ sig Val) : Prop :=
  ∀ y : Ref sig .tc, op.writes = {Proc.devRef (τ := τ) .tc y} → V (Proc.devRef .tc y) = op.result V (Proc.devRef .tc y)

/-- The valuation satisfies the equation of every operation of the line. -/
def Eqns (V : Valuation τ sig Val) : List (HloOp τ sig Val) → Prop
  | [] => True
  | op :: ops => Eqn V op ∧ Eqns V ops

/-- The equations of two stretches are those of the one and those of the other. -/
theorem eqns_append {V : Valuation τ sig Val} : ∀ {l₁ l₂ : List (HloOp τ sig Val)},
    Eqns V (l₁ ++ l₂) → Eqns V l₁ ∧ Eqns V l₂
  | [], _, h => ⟨trivial, h⟩
  | _ :: l₁, _, h => ⟨⟨h.1, (eqns_append (l₁ := l₁) h.2).1⟩, (eqns_append (l₁ := l₁) h.2).2⟩

/-- References of different numbers differ. -/
theorem num_ne {r y : Ref sig .tc} (h : num r < num y) : r ≠ y := fun e => by rw [e] at h; exact lt_irrefl _ h

/-- An ordered stretch keeps the buffers numbered below its start. -/
theorem after_low {k' : ℕ} : ∀ {k : ℕ} {ops : List (HloOp τ sig Val)} (_ : Span k ops k') (V : Valuation τ sig Val)
    {r : Ref sig .tc} (_ : num r < k), after ops V (Proc.devRef .tc r) = V (Proc.devRef .tc r)
  | _, [], _, _, _, _ => rfl
  | _, op :: _, ⟨y, hw, hk, _, hr⟩, V, r, hlt => by
    rw [after_cons, after_low hr _ (by omega)]
    exact result_of_writes_ne op V y r hw.1 (num_ne (lt_of_lt_of_le hlt hk))

/-- What an ordered stretch leaves satisfies every equation of the line. -/
theorem eqns_after {k' : ℕ} : ∀ {k : ℕ} {ops : List (HloOp τ sig Val)} (_ : Span k ops k') (V : Valuation τ sig Val),
    Eqns (after ops V) ops
  | _, [], _, _ => trivial
  | _, op :: ops, ⟨y, hw, _, hd, hr⟩, V => by
    refine ⟨fun y' hy' => ?_, ?_⟩
    · have e : Proc.devRef (τ := τ) .tc y' = Proc.devRef .tc y := by
        have := hy'.symm.trans hw.1
        exact Finset.singleton_injective this
      rw [e, after_cons, after_low hr _ (Nat.lt_succ_self _)]
      refine hd _ _ fun r hlt => ?_
      rw [after_low hr _ (by omega)]
      exact (result_of_writes_ne op V y r hw.1 (num_ne hlt)).symm
    · exact eqns_after hr _

/-- The operations of an ordered line allocate nothing. -/
theorem Span.fresh {k' : ℕ} : ∀ {k : ℕ} {ops : List (HloOp τ sig Val)} (_ : Span k ops k'), ∀ op ∈ ops, op.fresh = ∅
  | _, _ :: _, ⟨_, hw, _, _, _⟩, _, .head _ => hw.2.1
  | _, _ :: _, ⟨_, _, _, _, hr⟩, op, .tail _ h => hr.fresh op h

/-- They touch TensorCore buffers only. -/
theorem Span.sub {k k' : ℕ} {ops : List (HloOp τ sig Val)} (h : Span k ops k') : ops.Forall fun op => op.bufs ⊆ tcRefs τ sig :=
  List.forall_iff_forall_mem.2 (go h)
where go : ∀ {k : ℕ} {ops : List (HloOp τ sig Val)} (_ : Span k ops k'), ∀ op ∈ ops, op.bufs ⊆ tcRefs τ sig
  | _, _ :: _, ⟨_, hw, _, _, _⟩, _, .head _ => hw.2.2
  | _, _ :: _, ⟨_, _, _, _, hr⟩, op, .tail _ h => go hr op h

/-! ## The builders keep the order -/

section Builders

variable {k k' : ℕ} {ops : List (HloOp τ sig Val)} {x a b c e y : Ref sig .tc}

/-- A constant before an ordered line. -/
theorem Span.nullary {v : y.ty.Contents Val} {hy} (hk : k.ble (num y) = true) (h : Span (num y + 1) ops k') :
    Span k ((StableHlo.nullary (τ := τ) y v hy) :: ops) k' :=
  ⟨y, ⟨rfl, rfl, nullary_bufs_sub ..⟩, Nat.le_of_ble_eq_true hk, fun F G _ => by rw [nullary_result, nullary_result], h⟩

/-- An operation of one operand before an ordered line. -/
theorem Span.unary {f : x.ty.Contents Val → y.ty.Contents Val} {hx hy} (hk : k.ble (num y) = true)
    (h1 : (num x).blt (num y) = true) (h : Span (num y + 1) ops k') :
    Span k ((StableHlo.unary (τ := τ) x y f hx hy) :: ops) k' :=
  ⟨y, ⟨rfl, rfl, unary_bufs_sub ..⟩, Nat.le_of_ble_eq_true hk, fun F G e => by
    rw [unary_result, unary_result, e x (Nat.le_of_ble_eq_true h1)], h⟩

/-- One of two operands. -/
theorem Span.binary {f : a.ty.Contents Val → b.ty.Contents Val → y.ty.Contents Val} {ha hb hy}
    (hk : k.ble (num y) = true) (h1 : (num a).blt (num y) = true) (h2 : (num b).blt (num y) = true)
    (h : Span (num y + 1) ops k') :
    Span k ((StableHlo.binary (τ := τ) a b y f ha hb hy) :: ops) k' :=
  ⟨y, ⟨rfl, rfl, binary_bufs_sub ..⟩, Nat.le_of_ble_eq_true hk, fun F G e => by
    rw [binary_result, binary_result, e a (Nat.le_of_ble_eq_true h1), e b (Nat.le_of_ble_eq_true h2)], h⟩

/-- One of three operands. -/
theorem Span.ternary {f : c.ty.Contents Val → a.ty.Contents Val → b.ty.Contents Val → y.ty.Contents Val} {hc ha hb hy}
    (hk : k.ble (num y) = true) (h0 : (num c).blt (num y) = true) (h1 : (num a).blt (num y) = true)
    (h2 : (num b).blt (num y) = true) (h : Span (num y + 1) ops k') :
    Span k ((StableHlo.ternary (τ := τ) c a b y f hc ha hb hy) :: ops) k' :=
  ⟨y, ⟨rfl, rfl, ternary_bufs_sub ..⟩, Nat.le_of_ble_eq_true hk, fun F G e => by
    rw [ternary_result, ternary_result, e c (Nat.le_of_ble_eq_true h0), e a (Nat.le_of_ble_eq_true h1),
      e b (Nat.le_of_ble_eq_true h2)], h⟩

/-- One of four operands. -/
theorem Span.quaternary
    {f : a.ty.Contents Val → b.ty.Contents Val → c.ty.Contents Val → e.ty.Contents Val → y.ty.Contents Val} {ha hb hc he hy}
    (hk : k.ble (num y) = true) (h1 : (num a).blt (num y) = true) (h2 : (num b).blt (num y) = true)
    (h3 : (num c).blt (num y) = true) (h4 : (num e).blt (num y) = true) (h : Span (num y + 1) ops k') :
    Span k ((StableHlo.quaternary (τ := τ) a b c e y f ha hb hc he hy) :: ops) k' :=
  ⟨y, ⟨rfl, rfl, quaternary_bufs_sub ..⟩, Nat.le_of_ble_eq_true hk, fun F G eq => by
    rw [quaternary_result, quaternary_result, eq a (Nat.le_of_ble_eq_true h1), eq b (Nat.le_of_ble_eq_true h2),
      eq c (Nat.le_of_ble_eq_true h3), eq e (Nat.le_of_ble_eq_true h4)], h⟩

/-- A reshape. -/
theorem Span.reshape {he hn hx hy} (hk : k.ble (num y) = true)
    (h1 : (num x).blt (num y) = true) (h : Span (num y + 1) ops k') :
    Span k ((StableHlo.reshape (τ := τ) (Val := Val) x y he hn hx hy) :: ops) k' :=
  ⟨y, ⟨rfl, rfl, reshape_bufs_sub ..⟩, Nat.le_of_ble_eq_true hk, fun F G e => by
    rw [reshape_result, reshape_result, e x (Nat.le_of_ble_eq_true h1)], h⟩

end Builders

/-! ## The equations, read at typed references -/

section Reads

/-- What the valuation holds at a typed reference. -/
def rd (V : Valuation τ sig Val) {T : BufTy} (x : TRef sig T) : T.Contents Val := x.ofBuf (V (Proc.devRef .tc x.ref))

variable {V : Valuation τ sig Val} {X A B C E Y : BufTy} {x : TRef sig X} {a : TRef sig A} {b : TRef sig B}
  {c : TRef sig C} {e : TRef sig E} {y : TRef sig Y}

/-- What a constant's equation says. -/
theorem eqn_nullary {v : Y.Contents Val} (h : Eqn V (TRef.nullary (τ := τ) y v)) : rd V y = v := by
  have := h y.ref rfl
  rw [rd, this, nullary_result, TRef.ofBuf_toBuf]

/-- What the equation of an operation of one operand says. -/
theorem eqn_unary {f : X.Contents Val → Y.Contents Val} (h : Eqn V (TRef.unary (τ := τ) x y f)) :
    rd V y = f (rd V x) := by
  have := h y.ref rfl
  rw [rd, this, unary_result, TRef.ofBuf_toBuf]; rfl

/-- Of two operands. -/
theorem eqn_binary {f : A.Contents Val → B.Contents Val → Y.Contents Val} (h : Eqn V (TRef.binary (τ := τ) a b y f)) :
    rd V y = f (rd V a) (rd V b) := by
  have := h y.ref rfl
  rw [rd, this, binary_result, TRef.ofBuf_toBuf]; rfl

/-- Of three operands. -/
theorem eqn_ternary {f : C.Contents Val → A.Contents Val → B.Contents Val → Y.Contents Val}
    (h : Eqn V (TRef.ternary (τ := τ) c a b y f)) : rd V y = f (rd V c) (rd V a) (rd V b) := by
  have := h y.ref rfl
  rw [rd, this, ternary_result, TRef.ofBuf_toBuf]; rfl

/-- Of four operands. -/
theorem eqn_quaternary {f : A.Contents Val → B.Contents Val → C.Contents Val → E.Contents Val → Y.Contents Val}
    (h : Eqn V (TRef.quaternary (τ := τ) a b c e y f)) : rd V y = f (rd V a) (rd V b) (rd V c) (rd V e) := by
  have := h y.ref rfl
  rw [rd, this, quaternary_result, TRef.ofBuf_toBuf]; rfl

/-- Of a reshape. -/
theorem eqn_reshape {he : X.elt = Y.elt} {hn} (h : Eqn V (TRef.reshape (τ := τ) (Val := Val) x y he hn)) :
    rd V y = fun i => he ▸ shapeCast Y.shape (rd V x) hn i := by
  obtain ⟨x, rfl, _, _⟩ := x
  obtain ⟨y, rfl, _, _⟩ := y
  exact (h y rfl).trans (reshape_result ..)

/-! The same at plain references. -/

variable {p q r s t : Ref sig .tc}

/-- A constant's equation at a plain reference. -/
theorem raw_nullary {v : t.ty.Contents Val} {ht} (h : Eqn V (StableHlo.nullary (τ := τ) t v ht)) :
    V (Proc.devRef .tc t) = v := (h t rfl).trans (nullary_result ..)

/-- That of an operation of one operand. -/
theorem raw_unary {f : p.ty.Contents Val → t.ty.Contents Val} {hp ht} (h : Eqn V (StableHlo.unary (τ := τ) p t f hp ht)) :
    V (Proc.devRef .tc t) = f (V (Proc.devRef .tc p)) := (h t rfl).trans (unary_result ..)

/-- Of two operands. -/
theorem raw_binary {f : p.ty.Contents Val → q.ty.Contents Val → t.ty.Contents Val} {hp hq ht}
    (h : Eqn V (StableHlo.binary (τ := τ) p q t f hp hq ht)) :
    V (Proc.devRef .tc t) = f (V (Proc.devRef .tc p)) (V (Proc.devRef .tc q)) := (h t rfl).trans (binary_result ..)

/-- Of a reshape. -/
theorem raw_reshape {he hn hp ht} (h : Eqn V (StableHlo.reshape (τ := τ) (Val := Val) p t he hn hp ht)) :
    V (Proc.devRef .tc t) = fun i => he ▸ shapeCast t.ty.shape (V (Proc.devRef .tc p)) hn i :=
  (h t rfl).trans (reshape_result ..)

end Reads

/-! ## Lists read off programs -/

/-- One operation is the line of itself. -/
theorem isSeq_one {op : HloOp τ sig Val} :
    IsSeq (nD := nD) (Λ := Λ) (hlo rfl op fun _ => .ret (⟨⟩ : PUnit)) [op] := rfl

/-- Two programs one after the other are the line of both their lines. -/
theorem isSeq_append {p k : Prog (TpuEff nD τ sig Val Λ .tc) PUnit} {l₁ l₂ : List (HloOp τ sig Val)}
    (h₁ : IsSeq p l₁) (h₂ : IsSeq k l₂) : IsSeq (p >>= fun _ => k) (l₁ ++ l₂) := by
  unfold IsSeq at h₁ h₂ ⊢
  rw [h₁, h₂, ← seq_append]

end Cert.Straight

end
-- ==== Proof.RefLine.lean ====
/-
  The reference program as one straight line of host operations, read off the program function by function.
-/
module

public import proofs.«01_k».proof.Proof.RefFacts
public import proofs.«01_k».proof.Proof.Straight

@[expose] public section

set_option maxRecDepth 65536
set_option maxHeartbeats 4000000

noncomputable section

namespace Cert.RefLine

open Idealize.ShloMosaic Idealize.ShloMosaic.StableHlo Idealize.SL.Sem Cert.Straight Cert.ReferenceIdeal

variable {F : FTy → Type} [FloatOps F]

/-- A program together with the operations it runs. -/
abbrev Line (p : Prog (TpuEff nD τ sig (Elt F) (Pipeline.Sig Λ₀ (Fin 0) fun p => (pcfgs (F := F) p).Adm) .tc) PUnit) :=
  {ops : List (HloOp τ sig (Elt F)) // IsSeq p ops}

/-- threefry2x32 on one element: part 1 of 4. -/
def tf1_0 (a0 a1 : TRef sig ⟨S_, .i32⟩) (a2 a3 : TRef sig ⟨S1, .i32⟩) (φ : fn_threefry2x32.Bufs) :
    Line (F := F) (fn_threefry2x32.body_part0 a0 a1 a2 a3 φ) := by
  apply Subtype.mk
  repeat (first | exact IsSeq.nil | apply IsSeq.cons | exact isSeq_one)

/-- threefry2x32 on one element: part 2 of 4. -/
def tf1_1 (a0 a1 : TRef sig ⟨S_, .i32⟩) (a2 a3 : TRef sig ⟨S1, .i32⟩) (φ : fn_threefry2x32.Bufs) :
    Line (F := F) (fn_threefry2x32.body_part1 a0 a1 a2 a3 φ) := by
  apply Subtype.mk
  repeat (first | exact IsSeq.nil | apply IsSeq.cons | exact isSeq_one)

/-- threefry2x32 on one element: part 3 of 4. -/
def tf1_2 (a0 a1 : TRef sig ⟨S_, .i32⟩) (a2 a3 : TRef sig ⟨S1, .i32⟩) (φ : fn_threefry2x32.Bufs) :
    Line (F := F) (fn_threefry2x32.body_part2 a0 a1 a2 a3 φ) := by
  apply Subtype.mk
  repeat (first | exact IsSeq.nil | apply IsSeq.cons | exact isSeq_one)

/-- threefry2x32 on one element: part 4 of 4. -/
def tf1_3 (a0 a1 : TRef sig ⟨S_, .i32⟩) (a2 a3 : TRef sig ⟨S1, .i32⟩) (φ : fn_threefry2x32.Bufs) :
    Line (F := F) (fn_threefry2x32.body_part3 a0 a1 a2 a3 φ) := by
  apply Subtype.mk
  repeat (first | exact IsSeq.nil | apply IsSeq.cons | exact isSeq_one)

/-- threefry2x32 on one element. -/
def tf1 (a0 a1 : TRef sig ⟨S_, .i32⟩) (a2 a3 : TRef sig ⟨S1, .i32⟩) (φ : fn_threefry2x32.Bufs) :
    Line (F := F) (fn_threefry2x32.body a0 a1 a2 a3 φ) :=
  ⟨_, isSeq_append (tf1_0 a0 a1 a2 a3 φ).2 (isSeq_append (tf1_1 a0 a1 a2 a3 φ).2
    (isSeq_append (tf1_2 a0 a1 a2 a3 φ).2 (tf1_3 a0 a1 a2 a3 φ).2))⟩

/-- threefry2x32 on the whole counter array: part 1 of 4. -/
def tfN_0 (a0 a1 : TRef sig ⟨S_, .i32⟩) (a2 a3 : TRef sig ⟨S4x96x36864x5, .i32⟩) (φ : fn_threefry2x32_0.Bufs) :
    Line (F := F) (fn_threefry2x32_0.body_part0 a0 a1 a2 a3 φ) := by
  apply Subtype.mk
  repeat (first | exact IsSeq.nil | apply IsSeq.cons | exact isSeq_one)

/-- threefry2x32 on the whole counter array: part 2 of 4. -/
def tfN_1 (a0 a1 : TRef sig ⟨S_, .i32⟩) (a2 a3 : TRef sig ⟨S4x96x36864x5, .i32⟩) (φ : fn_threefry2x32_0.Bufs) :
    Line (F := F) (fn_threefry2x32_0.body_part1 a0 a1 a2 a3 φ) := by
  apply Subtype.mk
  repeat (first | exact IsSeq.nil | apply IsSeq.cons | exact isSeq_one)

/-- threefry2x32 on the whole counter array: part 3 of 4. -/
def tfN_2 (a0 a1 : TRef sig ⟨S_, .i32⟩) (a2 a3 : TRef sig ⟨S4x96x36864x5, .i32⟩) (φ : fn_threefry2x32_0.Bufs) :
    Line (F := F) (fn_threefry2x32_0.body_part2 a0 a1 a2 a3 φ) := by
  apply Subtype.mk
  repeat (first | exact IsSeq.nil | apply IsSeq.cons | exact isSeq_one)

/-- threefry2x32 on the whole counter array: part 4 of 4. -/
def tfN_3 (a0 a1 : TRef sig ⟨S_, .i32⟩) (a2 a3 : TRef sig ⟨S4x96x36864x5, .i32⟩) (φ : fn_threefry2x32_0.Bufs) :
    Line (F := F) (fn_threefry2x32_0.body_part3 a0 a1 a2 a3 φ) := by
  apply Subtype.mk
  repeat (first | exact IsSeq.nil | apply IsSeq.cons | exact isSeq_one)

/-- threefry2x32 on the whole counter array. -/
def tfN (a0 a1 : TRef sig ⟨S_, .i32⟩) (a2 a3 : TRef sig ⟨S4x96x36864x5, .i32⟩) (φ : fn_threefry2x32_0.Bufs) :
    Line (F := F) (fn_threefry2x32_0.body a0 a1 a2 a3 φ) :=
  ⟨_, isSeq_append (tfN_0 a0 a1 a2 a3 φ).2 (isSeq_append (tfN_1 a0 a1 a2 a3 φ).2
    (isSeq_append (tfN_2 a0 a1 a2 a3 φ).2 (tfN_3 a0 a1 a2 a3 φ).2))⟩

/-- Folding a word into a key. -/
def foldIn (a0 : TRef sig ⟨S2, .i32⟩) (a1 : TRef sig ⟨S_, .i32⟩) (φ : fn_threefry_fold_in.Bufs) :
    Line (F := F) (fn_threefry_fold_in.body a0 a1 φ) := by
  apply Subtype.mk
  unfold fn_threefry_fold_in.body
  repeat (first | with_reducible exact IsSeq.nil | with_reducible apply IsSeq.cons | with_reducible apply isSeq_append (tf1 _ _ _ _ _).2)

/-- The uniform draw. -/
def uniform (a0 : TRef sig ⟨S2, .i32⟩) (a1 a2 : TRef sig ⟨S_, .f32⟩) (φ : fn_uniform.Bufs) :
    Line (F := F) (fn_uniform.body a0 a1 a2 φ) := by
  apply Subtype.mk
  unfold fn_uniform.body
  repeat (first | with_reducible exact IsSeq.nil | with_reducible apply IsSeq.cons | with_reducible apply isSeq_append (tfN _ _ _ _ _).2)

/-- The position of the maximum. -/
def argmax (a0 : TRef sig ⟨S4x96x36864x5, .f32⟩) (φ : fn_argmax.Bufs) : Line (F := F) (fn_argmax.body a0 φ) := by
  apply Subtype.mk
  repeat (first | exact IsSeq.nil | apply IsSeq.cons)

/-- The entry at a position. -/
def takeAlong (a0 : TRef sig ⟨S4x96x36864x5, .f32⟩) (a1 : TRef sig ⟨S4x96x36864x1, .i32⟩) (φ : fn_take_along_axis.Bufs) :
    Line (F := F) (fn_take_along_axis.body a0 a1 φ) := by
  apply Subtype.mk
  repeat (first | exact IsSeq.nil | apply IsSeq.cons)

/-- The one-hot row of a position. -/
def oneHot (a0 : TRef sig ⟨S4x96x36864, .i32⟩) (φ : fn_one_hot.Bufs) : Line (F := F) (fn_one_hot.body a0 φ) := by
  apply Subtype.mk
  repeat (first | exact IsSeq.nil | apply IsSeq.cons)

/-- The main function's first part. -/
def mainA (d : Dev nD) : Line (F := F) (main_part0 d) := by
  apply Subtype.mk
  unfold main_part0
  repeat (with_reducible apply IsSeq.cons)
  have h := (foldIn (F := F) (.of main_v22) (.of main_c_5) main_call0).2
  apply isSeq_append h
  clear h
  repeat (with_reducible apply IsSeq.cons)
  have h := (uniform (F := F) (.of main_v23) (.of main_cst_6) (.of main_cst_7) main_call1).2
  apply isSeq_append h
  clear h
  repeat (with_reducible apply IsSeq.cons)
  have h := (argmax (F := F) (.of main_v36) main_call2).2
  apply isSeq_append h
  clear h
  repeat (with_reducible apply IsSeq.cons)
  have h := (takeAlong (F := F) (.of main_v15) (.of main_v38) main_call3).2
  apply isSeq_append h
  clear h
  repeat (with_reducible apply IsSeq.cons)
  have h := (oneHot (F := F) (.of main_v37) main_call4).2
  apply isSeq_append h
  clear h
  repeat (with_reducible apply IsSeq.cons)
  exact isSeq_one

/-- The main function's second part. -/
def mainB (d : Dev nD) : Line (F := F) (main_part1 d) := by
  apply Subtype.mk
  repeat (first | exact IsSeq.nil | apply IsSeq.cons | exact isSeq_one)

/-- The whole program. -/
def whole (d : Dev nD) : Line (F := F) (main d) := ⟨_, isSeq_append (mainA d).2 (mainB d).2⟩

end Cert.RefLine

end
-- ==== Proof.RefSpan.lean ====
/-
  The reference's operations in program order write buffers of increasing numbers and read lower ones: piece by piece,
  then of the whole line.
-/
module

public import proofs.«01_k».proof.Proof.RefLine

@[expose] public section

set_option maxRecDepth 65536
set_option maxHeartbeats 4000000

noncomputable section

namespace Cert.RefSpan

open Idealize.ShloMosaic Idealize.ShloMosaic.StableHlo Idealize.SL.Sem Cert.Straight Cert.ReferenceIdeal

/-- threefry2x32 on one element, part 1 of 4. -/
theorem tf1_0 : Span 45 (RefLine.tf1_0 (F := Ideal) main_call0.v6 main_call0.v8 main_call0.v9 main_call0.v10 main_call0.call0).1 105 := by
  unfold RefLine.tf1_0
  dsimp only
  repeat
    first
    | rfl
    | with_reducible (first | apply Span.unary | apply Span.binary | apply Span.nullary)
    | with_reducible (first | apply Span.reshape | apply Span.ternary | apply Span.quaternary | apply Span.nil)

/-- threefry2x32 on one element, part 2 of 4. -/
theorem tf1_1 : Span 105 (RefLine.tf1_1 (F := Ideal) main_call0.v6 main_call0.v8 main_call0.v9 main_call0.v10 main_call0.call0).1 165 := by
  unfold RefLine.tf1_1
  dsimp only
  repeat
    first
    | rfl
    | with_reducible (first | apply Span.unary | apply Span.binary | apply Span.nullary)
    | with_reducible (first | apply Span.reshape | apply Span.ternary | apply Span.quaternary | apply Span.nil)

/-- threefry2x32 on one element, part 3 of 4. -/
theorem tf1_2 : Span 165 (RefLine.tf1_2 (F := Ideal) main_call0.v6 main_call0.v8 main_call0.v9 main_call0.v10 main_call0.call0).1 225 := by
  unfold RefLine.tf1_2
  dsimp only
  repeat
    first
    | rfl
    | with_reducible (first | apply Span.unary | apply Span.binary | apply Span.nullary)
    | with_reducible (first | apply Span.reshape | apply Span.ternary | apply Span.quaternary | apply Span.nil)

/-- threefry2x32 on one element, part 4 of 4. -/
theorem tf1_3 : Span 225 (RefLine.tf1_3 (F := Ideal) main_call0.v6 main_call0.v8 main_call0.v9 main_call0.v10 main_call0.call0).1 267 := by
  unfold RefLine.tf1_3
  dsimp only
  repeat
    first
    | rfl
    | with_reducible (first | apply Span.unary | apply Span.binary | apply Span.nullary)
    | with_reducible (first | apply Span.reshape | apply Span.ternary | apply Span.quaternary | apply Span.nil)

/-- threefry2x32 on one element. -/
theorem tf1 : Span 45 (RefLine.tf1 (F := Ideal) main_call0.v6 main_call0.v8 main_call0.v9 main_call0.v10 main_call0.call0).1 267 :=
  tf1_0.append (tf1_1.append (tf1_2.append tf1_3))

/-- threefry2x32 on the whole counter array, part 1 of 4. -/
theorem tfN_0 : Span 302 (RefLine.tfN_0 (F := Ideal) main_call1.v5 main_call1.v7 main_call1.v26 main_call1.v25 main_call1.call0).1 362 := by
  unfold RefLine.tfN_0
  dsimp only
  repeat
    first
    | rfl
    | with_reducible (first | apply Span.unary | apply Span.binary | apply Span.nullary)
    | with_reducible (first | apply Span.reshape | apply Span.ternary | apply Span.quaternary | apply Span.nil)

/-- threefry2x32 on the whole counter array, part 2 of 4. -/
theorem tfN_1 : Span 362 (RefLine.tfN_1 (F := Ideal) main_call1.v5 main_call1.v7 main_call1.v26 main_call1.v25 main_call1.call0).1 422 := by
  unfold RefLine.tfN_1
  dsimp only
  repeat
    first
    | rfl
    | with_reducible (first | apply Span.unary | apply Span.binary | apply Span.nullary)
    | with_reducible (first | apply Span.reshape | apply Span.ternary | apply Span.quaternary | apply Span.nil)

/-- threefry2x32 on the whole counter array, part 3 of 4. -/
theorem tfN_2 : Span 422 (RefLine.tfN_2 (F := Ideal) main_call1.v5 main_call1.v7 main_call1.v26 main_call1.v25 main_call1.call0).1 482 := by
  unfold RefLine.tfN_2
  dsimp only
  repeat
    first
    | rfl
    | with_reducible (first | apply Span.unary | apply Span.binary | apply Span.nullary)
    | with_reducible (first | apply Span.reshape | apply Span.ternary | apply Span.quaternary | apply Span.nil)

/-- threefry2x32 on the whole counter array, part 4 of 4. -/
theorem tfN_3 : Span 482 (RefLine.tfN_3 (F := Ideal) main_call1.v5 main_call1.v7 main_call1.v26 main_call1.v25 main_call1.call0).1 524 := by
  unfold RefLine.tfN_3
  dsimp only
  repeat
    first
    | rfl
    | with_reducible (first | apply Span.unary | apply Span.binary | apply Span.nullary)
    | with_reducible (first | apply Span.reshape | apply Span.ternary | apply Span.quaternary | apply Span.nil)

/-- threefry2x32 on the whole counter array. -/
theorem tfN : Span 302 (RefLine.tfN (F := Ideal) main_call1.v5 main_call1.v7 main_call1.v26 main_call1.v25 main_call1.call0).1 524 :=
  tfN_0.append (tfN_1.append (tfN_2.append tfN_3))

/-- Folding a word into a key. -/
theorem foldIn : Span 32 (RefLine.foldIn (F := Ideal) (.of main_v22) (.of main_c_5) main_call0).1 268 := by
  unfold RefLine.foldIn
  dsimp only
  repeat
    first
    | rfl
    | with_reducible (first | apply Span.unary | apply Span.binary | apply Span.nullary)
    | with_reducible (first | apply Span.reshape | apply Span.ternary | apply Span.quaternary | apply Span.nil)
    | refine Span.append tf1 ?_

/-- The uniform draw. -/
theorem uniform : Span 270 (RefLine.uniform (F := Ideal) (.of main_v23) (.of main_cst_6) (.of main_cst_7) main_call1).1 542 := by
  unfold RefLine.uniform
  dsimp only
  repeat
    first
    | rfl
    | with_reducible (first | apply Span.unary | apply Span.binary | apply Span.nullary)
    | with_reducible (first | apply Span.reshape | apply Span.ternary | apply Span.quaternary | apply Span.nil)
    | refine Span.append tfN ?_

/-- The position of the maximum. -/
theorem argmax : Span 557 (RefLine.argmax (F := Ideal) (.of main_v36) main_call2).1 562 := by
  unfold RefLine.argmax
  dsimp only
  repeat
    first
    | rfl
    | with_reducible (first | apply Span.unary | apply Span.binary | apply Span.nullary)
    | with_reducible (first | apply Span.reshape | apply Span.ternary | apply Span.quaternary | apply Span.nil)

/-- The entry at a position. -/
theorem takeAlong : Span 563 (RefLine.takeAlong (F := Ideal) (.of main_v15) (.of main_v38) main_call3).1 585 := by
  unfold RefLine.takeAlong
  dsimp only
  repeat
    first
    | rfl
    | with_reducible (first | apply Span.unary | apply Span.binary | apply Span.nullary)
    | with_reducible (first | apply Span.reshape | apply Span.ternary | apply Span.quaternary | apply Span.nil)

/-- The one-hot row of a position. -/
theorem oneHot : Span 586 (RefLine.oneHot (F := Ideal) (.of main_v37) main_call4).1 592 := by
  unfold RefLine.oneHot
  dsimp only
  repeat
    first
    | rfl
    | with_reducible (first | apply Span.unary | apply Span.binary | apply Span.nullary)
    | with_reducible (first | apply Span.reshape | apply Span.ternary | apply Span.quaternary | apply Span.nil)

/-- The main function's first part. -/
theorem mainA (d : Dev nD) : Span 1 (RefLine.mainA (F := Ideal) d).1 597 := by
  unfold RefLine.mainA
  dsimp only
  repeat
    first
    | rfl
    | with_reducible (first | apply Span.unary | apply Span.binary | apply Span.nullary)
    | with_reducible (first | apply Span.reshape | apply Span.ternary | apply Span.quaternary | apply Span.nil)
    | refine Span.append foldIn ?_
    | refine Span.append uniform ?_
    | refine Span.append argmax ?_
    | refine Span.append takeAlong ?_
    | refine Span.append oneHot ?_

/-- The main function's second part. -/
theorem mainB (d : Dev nD) : Span 597 (RefLine.mainB (F := Ideal) d).1 603 := by
  unfold RefLine.mainB
  dsimp only
  repeat
    first
    | rfl
    | with_reducible (first | apply Span.unary | apply Span.binary | apply Span.nullary)
    | with_reducible (first | apply Span.reshape | apply Span.ternary | apply Span.quaternary | apply Span.nil)

/-- The whole program. -/
theorem whole (d : Dev nD) : Span 1 (RefLine.whole (F := Ideal) d).1 603 := (mainA d).append (mainB d)

end Cert.RefSpan

end
-- ==== Proof.Frames.lean ====
/-
  The frames: each of the three programs runs to its end from any memory, leaves its argument as it was, and ends with
  every semaphore counter at zero. And the reference's run, which leaves what its straight line computes.
-/
module

public import proofs.«01_k».proof.Proof.RefSpan
public import proofs.«01_k».proof.Defs
public import proofs.«01_k».proof.Proof.Gen.Kernel.Frame
public import proofs.«01_k».proof.Proof.Gen.KernelIdeal.Frame
public import Idealize.ShloMosaic.Lib.Quiescent

@[expose] public section

set_option maxRecDepth 65536
set_option maxHeartbeats 4000000

noncomputable section

namespace Cert.Frames

open Idealize.ShloMosaic Idealize.ShloMosaic.StableHlo Idealize.SL.Sem Cert.Straight

/-- No window of the kernel reads the table, so its side condition is empty. -/
theorem kernel_ok (m : (ℓ : Loc Cert.Kernel.nD Cert.Kernel.τ Cert.Kernel.sig) → Buf (Elt Bits) ℓ) :
    Cert.Kernel.Gen.Ok m := trivial

/-- The same of the kernel over the extended reals. -/
theorem ideal_ok (m : (ℓ : Loc Cert.KernelIdeal.nD Cert.KernelIdeal.τ Cert.KernelIdeal.sig) → Buf (Elt Ideal) ℓ) :
    Cert.KernelIdeal.Gen.Ok m := trivial

/-- The kernel's frame. -/
theorem kernel : Cert.quiescent_Kernel := fun m g _ => Cert.Kernel.Gen.frame m g (kernel_ok m)

/-- The frame of the kernel over the extended reals. -/
theorem ideal : Cert.quiescent_KernelIdeal := fun m g _ => Cert.KernelIdeal.Gen.frame m g (ideal_ok m)

open Cert.ReferenceIdeal Cert.RefLine

/-- What the reference leaves in its buffers. -/
def left (m : (ℓ : Loc nD τ sig) → Buf (Elt Ideal) ℓ) (d : Dev nD) : Valuation τ sig (Elt Ideal) :=
  after (whole (F := Ideal) d).1 (launchContents m d)

/-- It satisfies every equation of the reference's line. -/
theorem left_eqns (m : (ℓ : Loc nD τ sig) → Buf (Elt Ideal) ℓ) (d : Dev nD) : Eqns (left m d) (whole (F := Ideal) d).1 :=
  eqns_after (RefSpan.whole d) _

/-- The reference's line keeps the argument. -/
theorem left_arg (m : (ℓ : Loc nD τ sig) → Buf (Elt Ideal) ℓ) (d : Dev nD) :
    left m d (Proc.devRef .tc main_arg0) = m ((d.tc : Thread nD τ).loc main_arg0) :=
  after_low (RefSpan.whole d) _ (r := main_arg0) (Nat.lt_of_lt_of_le Nat.zero_lt_one le_rfl)

/-- The reference runs to what its line leaves. -/
theorem reference_run (m : (ℓ : Loc nD τ sig) → Buf (Elt Ideal) ℓ) (g : Dev nD → PrngReg) :
    θ_run (defs (F := Ideal)) (onTc (τ := τ) main) ⟨m, fun _ => 0, g⟩ fun r =>
      ∀ (d : Dev nD) (b : Ref sig .tc), r.2.mem ((d.tc : Thread nD τ).loc b) = left m d (Proc.devRef .tc b) := by
  have e : ∀ d : Dev nD, (whole (F := Ideal) d).1 = (whole (F := Ideal) 0).1 := fun d => by
    rw [Subsingleton.elim d 0]
  have h := run_hlo defs main (ops := (whole (F := Ideal) 0).1) (fun d => e d ▸ (whole (F := Ideal) d).2)
    (by decide) (by decide) (RefSpan.whole 0).sub (RefSpan.whole 0).fresh m g
  refine θ_run_mono h fun r hr d b => ?_
  rw [hr d b, left, e d]

/-- The reference's frame. -/
theorem reference : Cert.quiescent_ReferenceIdeal := fun m g _ =>
  θ_run_mono (reference_run m g) fun _ hr =>
    ⟨fun c => (hr c main_arg0).trans (left_arg m c), sem_eq_zero_of_no_sems (by decide) _⟩

end Cert.Frames

end
-- ==== Proof.Threefry.lean ====
/-
  The counter-based generator threefry2x32 (twenty rounds) on one pair of words, and how a stretch of host operations
  that spells it is read: one lemma per round (nine operations) and one per key injection (seven operations).
-/
module

public import proofs.«01_k».proof.Proof.Straight

@[expose] public section

namespace Cert.Threefry

open Idealize.ShloMosaic Idealize.ShloMosaic.StableHlo Cert.Straight

/-- A word. -/
abbrev W := BitVec 32

/-- One round: the first word takes the sum, the second is rotated (`r` up, `s` down) and xored with the sum. -/
def rnd (r s : W) (p : W × W) : W × W := (p.1 + p.2, (p.1 + p.2) ^^^ ((p.2 <<< r) ||| (p.2 >>> s)))

/-- A key injection: two key words and the injection's number are added. -/
def inj (ka kb j : W) (p : W × W) : W × W := (p.1 + ka, p.2 + kb + j)

/-- Four rounds of the first rotation group. -/
def quadA (p : W × W) : W × W := rnd 6#32 26#32 (rnd 26#32 6#32 (rnd 15#32 17#32 (rnd 13#32 19#32 p)))

/-- Four rounds of the second rotation group. -/
def quadB (p : W × W) : W × W := rnd 24#32 8#32 (rnd 16#32 16#32 (rnd 29#32 3#32 (rnd 17#32 15#32 p)))

/-- The third key word. -/
def key2 (k0 k1 : W) : W := (k0 ^^^ k1) ^^^ 466688986#32

/-- threefry2x32 of the key `(k0, k1)` at the counter `(x0, x1)`. -/
def tf (k0 k1 x0 x1 : W) : W × W :=
  inj (key2 k0 k1) k0 5#32 (quadA (inj k1 (key2 k0 k1) 4#32 (quadB (inj k0 k1 3#32 (quadA (inj (key2 k0 k1) k0 2#32
    (quadB (inj k1 (key2 k0 k1) 1#32 (quadA (x0 + k0, x1 + k1))))))))))

/-- A shift to the left by less than the width. -/
theorem shl_lit (u : ArithUnit) (x r : W) (h : r.toNat < 32) : IntOp.shli u x r = x <<< r := if_pos h

/-- A shift to the right by less than the width. -/
theorem shr_lit (u : ArithUnit) (x r : W) (h : r.toNat < 32) : IntOp.shrui u x r = x >>> r := if_pos h

/-- The shape of a single element. -/
abbrev S0 : Shape := ⟨0, ![]⟩

/-- Two indices of the single-element shape are equal. -/
theorem s0_eq (i j : S0.Idx) : i = j := funext fun a => a.elim0

/-- A broadcast single element is that element everywhere. -/
theorem bcast0 {α : Type} {s : Shape} (x : S0.Idx → α) (h : S0.BroadcastsInDim s ![]) (i : s.Idx) (k : S0.Idx) :
    broadcastInDim s ![] h x i = x k := congrArg x (s0_eq _ _)

section Steps

variable {F : FTy → Type} [FloatOps F] {τ : Topo} {sig : RefSig} {V : Valuation τ sig (Elt F)} {s : Shape}
  {rest : List (HloOp τ sig (Elt F))}

/-- The nine operations of a round leave the round of what its operands hold, at every index. -/
theorem rnd_step {x0 x1 y b t b' t' o z : TRef sig ⟨s, .i32⟩} {c c' : TRef sig ⟨S0, .i32⟩} {r r' : W}
    {h1 h2 : S0.BroadcastsInDim s ![]} {P : s.Idx → W × W} (p : ∀ i, ((rd V x0 i, rd V x1 i) : W × W) = P i) (hr : r.toNat < 32) (hr' : r'.toNat < 32)
    (h : Eqns V (TRef.binary x0 x1 y addi :: TRef.nullary c (constantI S0 32 r) :: TRef.unary c b (broadcastInDim s ![] h1)
      :: TRef.binary x1 b t Host.shli :: TRef.nullary c' (constantI S0 32 r') :: TRef.unary c' b' (broadcastInDim s ![] h2)
      :: TRef.binary x1 b' t' Host.shrui :: TRef.binary t t' o ori :: TRef.binary y o z xori :: rest)) :
    (∀ i : s.Idx, ((rd V y i, rd V z i) : W × W) = rnd r r' (P i)) ∧ Eqns V rest := by
  obtain ⟨e1, e2, e3, e4, e5, e6, e7, e8, e9, h⟩ := h
  refine ⟨fun i => ?_, h⟩
  rw [← p i]
  have e1 := eqn_binary e1
  have e4 := eqn_binary e4
  have e7 := eqn_binary e7
  rw [eqn_unary e3, eqn_nullary e2] at e4
  rw [eqn_unary e6, eqn_nullary e5] at e7
  rw [eqn_binary e9, eqn_binary e8, e4, e7, e1]
  show (_, _ ^^^ (IntOp.shli .host _ r ||| IntOp.shrui .host _ r')) = _
  rw [shl_lit _ _ _ hr, shr_lit _ _ _ hr']; rfl

/-- The seven operations of a key injection leave the injection of what its operands hold, at every index. -/
theorem inj_step {x0 x1 b0 y0 b1 y1 b2 y2 : TRef sig ⟨s, .i32⟩} {ka kb c : TRef sig ⟨S0, .i32⟩} {j : W}
    {h1 h2 h3 : S0.BroadcastsInDim s ![]} {P : s.Idx → W × W} (k : S0.Idx)
    (p : ∀ i, ((rd V x0 i, rd V x1 i) : W × W) = P i)
    (h : Eqns V (TRef.unary ka b0 (broadcastInDim s ![] h1) :: TRef.binary x0 b0 y0 addi
      :: TRef.unary kb b1 (broadcastInDim s ![] h2) :: TRef.binary x1 b1 y1 addi
      :: TRef.nullary c (constantI S0 32 j) :: TRef.unary c b2 (broadcastInDim s ![] h3) :: TRef.binary y1 b2 y2 addi :: rest)) :
    (∀ i : s.Idx, ((rd V y0 i, rd V y2 i) : W × W) = inj (rd V ka k) (rd V kb k) j (P i)) ∧ Eqns V rest := by
  obtain ⟨e1, e2, e3, e4, e5, e6, e7, h⟩ := h
  refine ⟨fun i => ?_, h⟩
  rw [← p i, eqn_binary e7, eqn_binary e4, eqn_binary e2, eqn_unary e1, eqn_unary e3, eqn_unary e6, eqn_nullary e5]
  simp only [addi, bcast0 _ _ _ k]; rfl

/-- The seven operations before the rounds: the third key word, and the counter with the key added. -/
theorem start_step {x0 x1 b0 y0 b1 y1 : TRef sig ⟨s, .i32⟩} {k0 k1 v c w : TRef sig ⟨S0, .i32⟩}
    {h1 h2 : S0.BroadcastsInDim s ![]} (k : S0.Idx)
    (h : Eqns V (TRef.binary k0 k1 v xori :: TRef.nullary c (constantI S0 32 466688986#32) :: TRef.binary v c w xori
      :: TRef.unary k0 b0 (broadcastInDim s ![] h1) :: TRef.binary x0 b0 y0 addi
      :: TRef.unary k1 b1 (broadcastInDim s ![] h2) :: TRef.binary x1 b1 y1 addi :: rest)) :
    (rd V w k = key2 (rd V k0 k) (rd V k1 k)) ∧
    (∀ i : s.Idx, ((rd V y0 i, rd V y1 i) : W × W) = ((rd V x0 i : W) + rd V k0 k, (rd V x1 i : W) + rd V k1 k)) ∧
      Eqns V rest := by
  obtain ⟨e1, e2, e3, e4, e5, e6, e7, h⟩ := h
  refine ⟨?_, fun i => ?_, h⟩
  · rw [eqn_binary e3, eqn_binary e1, eqn_nullary e2]; rfl
  · rw [eqn_binary e5, eqn_unary e4, eqn_binary e7, eqn_unary e6]
    simp only [addi, bcast0 _ _ _ k]; rfl

end Steps

end Cert.Threefry

end
-- ==== Proof.Spec.lean ====
/-
  What one region of four entries contributes, as mathematics over the extended reals: the key of the generator, the
  noise at a counter, the five probabilities, and the winner.
-/
module

public import proofs.«01_k».proof.Proof.Threefry
public import Idealize.ShloMosaic.Lib.Pointwise
public import Idealize.ShloMosaic.Lib.IdealHost

@[expose] public section

noncomputable section

namespace Cert.Spec

open Idealize.ShloMosaic Cert.Threefry

/-- The key: the seed zero split into two words, with the word seven folded in. -/
def key : W × W :=
  tf (IntOp.shrui .host 0#32 32#32) (IntOp.andi 0#32 4294967295#32) (IntOp.shrui .host 7#32 32#32)
    (IntOp.andi 7#32 4294967295#32)

/-- The uniform draw a word stands for: its high 23 bits as the fraction of a number in [1, 2), less one. -/
def unif (w : W) : EReal :=
  max 0 ((FloatOps.ofBits (F := Ideal) .f32 ((w >>> 9#32) ||| 1065353216#32) : EReal) - 1)

/-- The small constant added before divisions and logarithms. -/
def eps : EReal := FloatOps.ofBits (F := Ideal) .f32 0x322BCC77#32

/-- The pattern of minus infinity stands for it. -/
theorem bot_eq : Ideal.ofBits .f32 0xFF800000#32 = ⊥ := by simp [Ideal.ofBits, Ideal.ieee]

/-- The small constant is positive. -/
theorem eps_pos : 0 < eps := by
  show 0 < Ideal.ofBits .f32 0x322BCC77#32
  simp [Ideal.ofBits, Ideal.ieee]
  norm_cast
  positivity

/-- The word drawn at a counter: the exclusive or of the generator's two words. -/
def bits (c : W) : W := (tf key.1 key.2 0#32 c).1 ^^^ (tf key.1 key.2 0#32 c).2

/-- The Gumbel noise at a counter. -/
def gum (c : W) : EReal := -Ideal.log (-Ideal.log (unif (bits c) + eps) + eps)

/-- The counter of category `k` of region `p` in channel `c` of image `b`. -/
def ctr (b : Fin 4) (c : Fin 96) (p : Fin 36864) (k : Fin 5) : W :=
  BitVec.ofNat 32 (17694720 * b.val + 184320 * c.val + 5 * p.val + k.val)

/-- The five values a region offers: its four entries and zero. -/
def val (a : Fin 4 → EReal) : Fin 5 → EReal := ![a 0, a 1, a 2, a 3, 0]

/-- The greatest of the five values. -/
def mx (a : Fin 4 → EReal) : EReal := max (max (max (a 0) (a 1)) (max (a 2) (a 3))) 0

/-- The exponential of a value less the greatest. -/
def ex (a : Fin 4 → EReal) (k : Fin 5) : EReal := Ideal.exp (val a k - mx a)

/-- The denominator of the probabilities. -/
def den (a : Fin 4 → EReal) : EReal := ex a 0 + ex a 1 + ex a 2 + ex a 3 + ex a 4 + eps

/-- The probability of a category. -/
def prob (a : Fin 4 → EReal) (k : Fin 5) : EReal := Ideal.div (ex a k) (den a)

/-- The score of a category: the logarithm of its probability, and its noise. -/
def score (a : Fin 4 → EReal) (g : Fin 5 → EReal) (k : Fin 5) : EReal := Ideal.log (prob a k + eps) + g k

/-- The best of the scores up to a category. -/
def best (s : Fin 5 → EReal) : ℕ → EReal
  | 0 => s 0
  | n + 1 => max (best s n) (s (Fin.ofNat 5 (n + 1)))

/-- The first category whose score is the best of those up to a category. -/
def first (s : Fin 5 → EReal) : ℕ → W
  | 0 => 0#32
  | n + 1 => if best s n < s (Fin.ofNat 5 (n + 1)) then BitVec.ofNat 32 (n + 1) else first s n

/-- The winner of a region: the first category whose score is the greatest. -/
def win (a : Fin 4 → EReal) (g : Fin 5 → EReal) : W := first (score a g) 4

/-- What a region keeps at one of its entries: the probability of that entry if it won, and zero otherwise. -/
def kept (a : Fin 4 → EReal) (g : Fin 5 → EReal) (k : Fin 4) : EReal :=
  if win a g = BitVec.ofNat 32 k.val then prob a k.castSucc else 0

/-- What a region is pooled to: the sum of the probabilities of its four entries. -/
def pool (a : Fin 4 → EReal) : EReal := prob a 0 + prob a 1 + prob a 2 + prob a 3

end Cert.Spec

end
-- ==== Proof.KernSpan.lean ====
/-
  The operations before the kernel's launch, in program order, write buffers of increasing numbers and read lower ones.
-/
module

public import proofs.«01_k».proof.Proof.Gen.KernelIdeal.Launch
public import proofs.«01_k».proof.Proof.Straight
public import proofs.«01_k».proof.Proof.Spec

@[expose] public section

set_option maxRecDepth 65536
set_option maxHeartbeats 4000000

noncomputable section

namespace Cert.KernSpan

open Idealize.ShloMosaic Idealize.ShloMosaic.StableHlo Idealize.SL.Sem Cert.Straight Cert.KernelIdeal Cert.KernelIdeal.Gen

/-- The stretch up to the key. -/
def front : List (HloOp τ sig (Elt Ideal)) := List.take 251 hostOps0

/-- The three operations after the key. -/
def back : List (HloOp τ sig (Elt Ideal)) := List.drop 251 hostOps0

/-- The stretch up to the key is an ordered line. -/
theorem front_span : Span 1 front 1000 := by
  unfold front hostOps0
  simp only [List.take_succ_cons, List.take_zero]
  repeat
    first
    | rfl
    | with_reducible (first | apply Span.unary | apply Span.binary | apply Span.nullary)
    | with_reducible (first | apply Span.reshape | apply Span.ternary | apply Span.quaternary | apply Span.nil)

/-- What the whole stretch leaves is what the three operations leave after the others. -/
theorem after_eq (V : Valuation τ sig (Elt Ideal)) : after (List.flatten [hostOps0]) V = after back (after front V) := by
  rw [List.flatten_cons, List.flatten_nil, List.append_nil]
  conv_lhs => rw [← List.take_append_drop 251 hostOps0]
  exact after_append ..

end Cert.KernSpan

end
-- ==== Proof.KernLits.lean ====
/-
  The lane counters the kernel is given.
-/
module

public import proofs.«01_k».proof.KernelIdeal

@[expose] public section

set_option maxRecDepth 65536
set_option maxHeartbeats 4000000

noncomputable section

namespace Cert.KernLits

open Idealize.ShloMosaic Cert.KernelIdeal

/-- Lane `192 k + s` holds the counter of category `k` of the region in column `s`. -/
theorem lanes : ∀ k : Fin 5, ∀ s : Fin 192, lit2t (192 * k.val + s.val) = BitVec.ofNat 32 (5 * s.val + k.val) := by
  decide +kernel

end Cert.KernLits

end
-- ==== Proof.Table.lean ====
/-
  Tables given digit by digit, and a function read off one: the printed literals are such tables.
-/
module

public import proofs.«01_k».proof.Proof.Threefry
public import Mathlib.Tactic.IntervalCases

@[expose] public section

set_option maxRecDepth 65536
set_option maxHeartbeats 1000000

noncomputable section

namespace Cert.Table

/-- A table of the 128 entries from `n` on, by the index's last base-128 digit. -/
def leaf (f : Nat → BitVec 32) (n i : Nat) : BitVec 32 := match i % 128 with
  | 0 => f (n + 0) | 1 => f (n + 1) | 2 => f (n + 2) | 3 => f (n + 3) | 4 => f (n + 4) | 5 => f (n + 5) | 6 => f (n + 6) | 7 => f (n + 7)
  | 8 => f (n + 8) | 9 => f (n + 9) | 10 => f (n + 10) | 11 => f (n + 11) | 12 => f (n + 12) | 13 => f (n + 13) | 14 => f (n + 14) | 15 => f (n + 15)
  | 16 => f (n + 16) | 17 => f (n + 17) | 18 => f (n + 18) | 19 => f (n + 19) | 20 => f (n + 20) | 21 => f (n + 21) | 22 => f (n + 22) | 23 => f (n + 23)
  | 24 => f (n + 24) | 25 => f (n + 25) | 26 => f (n + 26) | 27 => f (n + 27) | 28 => f (n + 28) | 29 => f (n + 29) | 30 => f (n + 30) | 31 => f (n + 31)
  | 32 => f (n + 32) | 33 => f (n + 33) | 34 => f (n + 34) | 35 => f (n + 35) | 36 => f (n + 36) | 37 => f (n + 37) | 38 => f (n + 38) | 39 => f (n + 39)
  | 40 => f (n + 40) | 41 => f (n + 41) | 42 => f (n + 42) | 43 => f (n + 43) | 44 => f (n + 44) | 45 => f (n + 45) | 46 => f (n + 46) | 47 => f (n + 47)
  | 48 => f (n + 48) | 49 => f (n + 49) | 50 => f (n + 50) | 51 => f (n + 51) | 52 => f (n + 52) | 53 => f (n + 53) | 54 => f (n + 54) | 55 => f (n + 55)
  | 56 => f (n + 56) | 57 => f (n + 57) | 58 => f (n + 58) | 59 => f (n + 59) | 60 => f (n + 60) | 61 => f (n + 61) | 62 => f (n + 62) | 63 => f (n + 63)
  | 64 => f (n + 64) | 65 => f (n + 65) | 66 => f (n + 66) | 67 => f (n + 67) | 68 => f (n + 68) | 69 => f (n + 69) | 70 => f (n + 70) | 71 => f (n + 71)
  | 72 => f (n + 72) | 73 => f (n + 73) | 74 => f (n + 74) | 75 => f (n + 75) | 76 => f (n + 76) | 77 => f (n + 77) | 78 => f (n + 78) | 79 => f (n + 79)
  | 80 => f (n + 80) | 81 => f (n + 81) | 82 => f (n + 82) | 83 => f (n + 83) | 84 => f (n + 84) | 85 => f (n + 85) | 86 => f (n + 86) | 87 => f (n + 87)
  | 88 => f (n + 88) | 89 => f (n + 89) | 90 => f (n + 90) | 91 => f (n + 91) | 92 => f (n + 92) | 93 => f (n + 93) | 94 => f (n + 94) | 95 => f (n + 95)
  | 96 => f (n + 96) | 97 => f (n + 97) | 98 => f (n + 98) | 99 => f (n + 99) | 100 => f (n + 100) | 101 => f (n + 101) | 102 => f (n + 102) | 103 => f (n + 103)
  | 104 => f (n + 104) | 105 => f (n + 105) | 106 => f (n + 106) | 107 => f (n + 107) | 108 => f (n + 108) | 109 => f (n + 109) | 110 => f (n + 110) | 111 => f (n + 111)
  | 112 => f (n + 112) | 113 => f (n + 113) | 114 => f (n + 114) | 115 => f (n + 115) | 116 => f (n + 116) | 117 => f (n + 117) | 118 => f (n + 118) | 119 => f (n + 119)
  | 120 => f (n + 120) | 121 => f (n + 121) | 122 => f (n + 122) | 123 => f (n + 123) | 124 => f (n + 124) | 125 => f (n + 125) | 126 => f (n + 126) | 127 => f (n + 127)
  | _ => 0#32

/-- Its entries. -/
theorem leaf_eq (f : Nat → BitVec 32) (n i : Nat) : leaf f n i = f (n + i % 128) := by
  have h : i % 128 < 128 := Nat.mod_lt _ (by decide)
  unfold leaf
  generalize i % 128 = x at h
  interval_cases x <;> rfl

/-- A table of 128 such tables, by the index's digit before. -/
def mid (f : Nat → BitVec 32) (n i : Nat) : BitVec 32 := match i / 128 % 128 with
  | 0 => leaf f (n + 0) i | 1 => leaf f (n + 128) i | 2 => leaf f (n + 256) i | 3 => leaf f (n + 384) i
  | 4 => leaf f (n + 512) i | 5 => leaf f (n + 640) i | 6 => leaf f (n + 768) i | 7 => leaf f (n + 896) i
  | 8 => leaf f (n + 1024) i | 9 => leaf f (n + 1152) i | 10 => leaf f (n + 1280) i | 11 => leaf f (n + 1408) i
  | 12 => leaf f (n + 1536) i | 13 => leaf f (n + 1664) i | 14 => leaf f (n + 1792) i | 15 => leaf f (n + 1920) i
  | 16 => leaf f (n + 2048) i | 17 => leaf f (n + 2176) i | 18 => leaf f (n + 2304) i | 19 => leaf f (n + 2432) i
  | 20 => leaf f (n + 2560) i | 21 => leaf f (n + 2688) i | 22 => leaf f (n + 2816) i | 23 => leaf f (n + 2944) i
  | 24 => leaf f (n + 3072) i | 25 => leaf f (n + 3200) i | 26 => leaf f (n + 3328) i | 27 => leaf f (n + 3456) i
  | 28 => leaf f (n + 3584) i | 29 => leaf f (n + 3712) i | 30 => leaf f (n + 3840) i | 31 => leaf f (n + 3968) i
  | 32 => leaf f (n + 4096) i | 33 => leaf f (n + 4224) i | 34 => leaf f (n + 4352) i | 35 => leaf f (n + 4480) i
  | 36 => leaf f (n + 4608) i | 37 => leaf f (n + 4736) i | 38 => leaf f (n + 4864) i | 39 => leaf f (n + 4992) i
  | 40 => leaf f (n + 5120) i | 41 => leaf f (n + 5248) i | 42 => leaf f (n + 5376) i | 43 => leaf f (n + 5504) i
  | 44 => leaf f (n + 5632) i | 45 => leaf f (n + 5760) i | 46 => leaf f (n + 5888) i | 47 => leaf f (n + 6016) i
  | 48 => leaf f (n + 6144) i | 49 => leaf f (n + 6272) i | 50 => leaf f (n + 6400) i | 51 => leaf f (n + 6528) i
  | 52 => leaf f (n + 6656) i | 53 => leaf f (n + 6784) i | 54 => leaf f (n + 6912) i | 55 => leaf f (n + 7040) i
  | 56 => leaf f (n + 7168) i | 57 => leaf f (n + 7296) i | 58 => leaf f (n + 7424) i | 59 => leaf f (n + 7552) i
  | 60 => leaf f (n + 7680) i | 61 => leaf f (n + 7808) i | 62 => leaf f (n + 7936) i | 63 => leaf f (n + 8064) i
  | 64 => leaf f (n + 8192) i | 65 => leaf f (n + 8320) i | 66 => leaf f (n + 8448) i | 67 => leaf f (n + 8576) i
  | 68 => leaf f (n + 8704) i | 69 => leaf f (n + 8832) i | 70 => leaf f (n + 8960) i | 71 => leaf f (n + 9088) i
  | 72 => leaf f (n + 9216) i | 73 => leaf f (n + 9344) i | 74 => leaf f (n + 9472) i | 75 => leaf f (n + 9600) i
  | 76 => leaf f (n + 9728) i | 77 => leaf f (n + 9856) i | 78 => leaf f (n + 9984) i | 79 => leaf f (n + 10112) i
  | 80 => leaf f (n + 10240) i | 81 => leaf f (n + 10368) i | 82 => leaf f (n + 10496) i | 83 => leaf f (n + 10624) i
  | 84 => leaf f (n + 10752) i | 85 => leaf f (n + 10880) i | 86 => leaf f (n + 11008) i | 87 => leaf f (n + 11136) i
  | 88 => leaf f (n + 11264) i | 89 => leaf f (n + 11392) i | 90 => leaf f (n + 11520) i | 91 => leaf f (n + 11648) i
  | 92 => leaf f (n + 11776) i | 93 => leaf f (n + 11904) i | 94 => leaf f (n + 12032) i | 95 => leaf f (n + 12160) i
  | 96 => leaf f (n + 12288) i | 97 => leaf f (n + 12416) i | 98 => leaf f (n + 12544) i | 99 => leaf f (n + 12672) i
  | 100 => leaf f (n + 12800) i | 101 => leaf f (n + 12928) i | 102 => leaf f (n + 13056) i | 103 => leaf f (n + 13184) i
  | 104 => leaf f (n + 13312) i | 105 => leaf f (n + 13440) i | 106 => leaf f (n + 13568) i | 107 => leaf f (n + 13696) i
  | 108 => leaf f (n + 13824) i | 109 => leaf f (n + 13952) i | 110 => leaf f (n + 14080) i | 111 => leaf f (n + 14208) i
  | 112 => leaf f (n + 14336) i | 113 => leaf f (n + 14464) i | 114 => leaf f (n + 14592) i | 115 => leaf f (n + 14720) i
  | 116 => leaf f (n + 14848) i | 117 => leaf f (n + 14976) i | 118 => leaf f (n + 15104) i | 119 => leaf f (n + 15232) i
  | 120 => leaf f (n + 15360) i | 121 => leaf f (n + 15488) i | 122 => leaf f (n + 15616) i | 123 => leaf f (n + 15744) i
  | 124 => leaf f (n + 15872) i | 125 => leaf f (n + 16000) i | 126 => leaf f (n + 16128) i | 127 => leaf f (n + 16256) i
  | _ => 0#32

/-- Its entries. -/
theorem mid_eq (f : Nat → BitVec 32) (n i : Nat) : mid f n i = f (n + i % 16384) := by
  have h : i / 128 % 128 < 128 := Nat.mod_lt _ (by decide)
  have e : mid f n i = leaf f (n + 128 * (i / 128 % 128)) i := by
    unfold mid
    generalize i / 128 % 128 = x at h
    interval_cases x <;> rfl
  rw [e, leaf_eq]
  congr 1
  omega

/-- A table of 64 such tables. -/
def low (f : Nat → BitVec 32) (n i : Nat) : BitVec 32 := match i / 128 % 128 with
  | 0 => leaf f (n + 0) i | 1 => leaf f (n + 128) i | 2 => leaf f (n + 256) i | 3 => leaf f (n + 384) i
  | 4 => leaf f (n + 512) i | 5 => leaf f (n + 640) i | 6 => leaf f (n + 768) i | 7 => leaf f (n + 896) i
  | 8 => leaf f (n + 1024) i | 9 => leaf f (n + 1152) i | 10 => leaf f (n + 1280) i | 11 => leaf f (n + 1408) i
  | 12 => leaf f (n + 1536) i | 13 => leaf f (n + 1664) i | 14 => leaf f (n + 1792) i | 15 => leaf f (n + 1920) i
  | 16 => leaf f (n + 2048) i | 17 => leaf f (n + 2176) i | 18 => leaf f (n + 2304) i | 19 => leaf f (n + 2432) i
  | 20 => leaf f (n + 2560) i | 21 => leaf f (n + 2688) i | 22 => leaf f (n + 2816) i | 23 => leaf f (n + 2944) i
  | 24 => leaf f (n + 3072) i | 25 => leaf f (n + 3200) i | 26 => leaf f (n + 3328) i | 27 => leaf f (n + 3456) i
  | 28 => leaf f (n + 3584) i | 29 => leaf f (n + 3712) i | 30 => leaf f (n + 3840) i | 31 => leaf f (n + 3968) i
  | 32 => leaf f (n + 4096) i | 33 => leaf f (n + 4224) i | 34 => leaf f (n + 4352) i | 35 => leaf f (n + 4480) i
  | 36 => leaf f (n + 4608) i | 37 => leaf f (n + 4736) i | 38 => leaf f (n + 4864) i | 39 => leaf f (n + 4992) i
  | 40 => leaf f (n + 5120) i | 41 => leaf f (n + 5248) i | 42 => leaf f (n + 5376) i | 43 => leaf f (n + 5504) i
  | 44 => leaf f (n + 5632) i | 45 => leaf f (n + 5760) i | 46 => leaf f (n + 5888) i | 47 => leaf f (n + 6016) i
  | 48 => leaf f (n + 6144) i | 49 => leaf f (n + 6272) i | 50 => leaf f (n + 6400) i | 51 => leaf f (n + 6528) i
  | 52 => leaf f (n + 6656) i | 53 => leaf f (n + 6784) i | 54 => leaf f (n + 6912) i | 55 => leaf f (n + 7040) i
  | 56 => leaf f (n + 7168) i | 57 => leaf f (n + 7296) i | 58 => leaf f (n + 7424) i | 59 => leaf f (n + 7552) i
  | 60 => leaf f (n + 7680) i | 61 => leaf f (n + 7808) i | 62 => leaf f (n + 7936) i | 63 => leaf f (n + 8064) i
  | _ => 0#32

/-- Its entries. -/
theorem low_eq (f : Nat → BitVec 32) (n i : Nat) (h : i / 128 % 128 < 64) : low f n i = f (n + i % 16384) := by
  have e : low f n i = leaf f (n + 128 * (i / 128 % 128)) i := by
    unfold low
    generalize i / 128 % 128 = x at h
    interval_cases x <;> rfl
  rw [e, leaf_eq]
  congr 1
  omega

/-- The table of 73728 entries. -/
def table (f : Nat → BitVec 32) (i : Nat) : BitVec 32 := match i / 16384 with
  | 0 => mid f 0 i
  | 1 => mid f 16384 i
  | 2 => mid f 32768 i
  | 3 => mid f 49152 i
  | 4 => low f 65536 i
  | _ => 0#32

/-- Its entries. -/
theorem table_eq (f : Nat → BitVec 32) (i : Nat) (h : i < 73728) : table f i = f i := by
  unfold table
  rcases (by omega : i / 16384 = 0 ∨ i / 16384 = 1 ∨ i / 16384 = 2 ∨ i / 16384 = 3 ∨ i / 16384 = 4) with
    e | e | e | e | e
  all_goals simp only [e]
  all_goals first | rw [mid_eq] | rw [low_eq _ _ _ (by omega)]
  all_goals (congr 1; omega)

end Cert.Table

end
-- ==== Proof.KernEven.lean ====
/-
  The even selection matrix the kernel is given, entry by entry.
-/
module

public import proofs.«01_k».proof.KernelIdeal
public import proofs.«01_k».proof.Proof.Table

@[expose] public section

set_option maxRecDepth 65536
set_option maxHeartbeats 10000000

noncomputable section

namespace Cert.KernEven

open Cert.Table Cert.KernelIdeal

/-- The matrix's entries in row-major order: the pattern of one where the column's even entry is selected. -/
def even (i : Nat) : BitVec 32 := bif Nat.beq (i % 385) 0 then 0x3F800000#32 else 0#32

/-- The printed table is that function's, a stretch of it at a time. -/
theorem part0 (i : Nat) : lit0t1_0 i = mid even 0 i := rfl

/-- Its second stretch. -/
theorem part1 (i : Nat) : lit0t1_1 i = mid even 16384 i := rfl

/-- Its third. -/
theorem part2 (i : Nat) : lit0t1_2 i = mid even 32768 i := rfl

/-- Its fourth. -/
theorem part3 (i : Nat) : lit0t1_3 i = mid even 49152 i := rfl

/-- Its fifth. -/
theorem part4 (i : Nat) : lit0t1_4 i = low even 65536 i := rfl

/-- The printed table. -/
theorem whole (i : Nat) : lit0t i = table even i := by
  unfold lit0t table
  rw [part0, part1, part2, part3, part4]
  rfl

/-- Its entry in row `q` and column `s`. -/
theorem entry (q : Fin 384) (s : Fin 192) :
    lit0t (q.val * 192 + s.val) = if q.val = 2 * s.val then 0x3F800000#32 else 0#32 := by
  rw [whole, table_eq _ _ (by omega), even]
  by_cases h : q.val = 2 * s.val
  · rw [if_pos h, show Nat.beq ((q.val * 192 + s.val) % 385) 0 = true from by
      rw [Nat.beq_eq]
      omega]
    rfl
  · rw [if_neg h, show Nat.beq ((q.val * 192 + s.val) % 385) 0 = false from by
      rw [Bool.eq_false_iff]
      intro e
      have e := Nat.eq_of_beq_eq_true e
      omega]
    rfl

end Cert.KernEven

end
-- ==== Proof.KernOdd.lean ====
/-
  The odd selection matrix the kernel is given, entry by entry.
-/
module

public import proofs.«01_k».proof.KernelIdeal
public import proofs.«01_k».proof.Proof.Table

@[expose] public section

set_option maxRecDepth 65536
set_option maxHeartbeats 10000000

noncomputable section

namespace Cert.KernOdd

open Cert.Table Cert.KernelIdeal

/-- The matrix's entries in row-major order: the pattern of one where the column's odd entry is selected. -/
def odd (i : Nat) : BitVec 32 := bif Nat.beq (i % 385) 192 then 0x3F800000#32 else 0#32

/-- The printed table is that function's, a stretch of it at a time. -/
theorem part0 (i : Nat) : lit1t1_0 i = mid odd 0 i := rfl

/-- Its second stretch. -/
theorem part1 (i : Nat) : lit1t1_1 i = mid odd 16384 i := rfl

/-- Its third. -/
theorem part2 (i : Nat) : lit1t1_2 i = mid odd 32768 i := rfl

/-- Its fourth. -/
theorem part3 (i : Nat) : lit1t1_3 i = mid odd 49152 i := rfl

/-- Its fifth. -/
theorem part4 (i : Nat) : lit1t1_4 i = low odd 65536 i := rfl

/-- The printed table. -/
theorem whole (i : Nat) : lit1t i = table odd i := by
  unfold lit1t table
  rw [part0, part1, part2, part3, part4]
  rfl

/-- Its entry in row `q` and column `s`. -/
theorem entry (q : Fin 384) (s : Fin 192) :
    lit1t (q.val * 192 + s.val) = if q.val = 2 * s.val + 1 then 0x3F800000#32 else 0#32 := by
  rw [whole, table_eq _ _ (by omega), odd]
  by_cases h : q.val = 2 * s.val + 1
  · rw [if_pos h, show Nat.beq ((q.val * 192 + s.val) % 385) 192 = true from by
      rw [Nat.beq_eq]
      omega]
    rfl
  · rw [if_neg h, show Nat.beq ((q.val * 192 + s.val) % 385) 192 = false from by
      rw [Bool.eq_false_iff]
      intro e
      have e := Nat.eq_of_beq_eq_true e
      omega]
    rfl

end Cert.KernOdd

end
-- ==== Proof.KernVals.lean ====
/-
  What the kernel computes at a region of its block: the four entries picked out by products with selection matrices,
  their exponentials and probabilities, the winner, and the three blocks it stores.
-/
module

public import proofs.«01_k».proof.Proof.Gen.KernelIdeal.Frame
public import proofs.«01_k».proof.Proof.Spec

@[expose] public section

set_option maxRecDepth 65536
set_option maxHeartbeats 4000000

noncomputable section

namespace Cert.KernVals

open Idealize.ShloMosaic Cert.Threefry Cert.Spec Cert.KernelIdeal Cert.KernelIdeal.Gen

/-- The even column of a region. -/
def ev (s : Fin 192) : Fin 384 := ⟨2 * s.val, by omega⟩

/-- The odd column. -/
def od (s : Fin 192) : Fin 384 := ⟨2 * s.val + 1, by omega⟩

/-- A column of the block's first image row. -/
def lo (q : Fin 384) : Fin 768 := ⟨q.val, by omega⟩

/-- A column of the block's second image row. -/
def hi (q : Fin 384) : Fin 768 := ⟨384 + q.val, by omega⟩

/-- The four entries of a region of a block. -/
def ent (x : Vec Ideal S1x1x192x768 .f32) (r s : Fin 192) : Fin 4 → EReal :=
  ![x (ix4 0 0 r (lo (ev s))), x (ix4 0 0 r (lo (od s))), x (ix4 0 0 r (hi (ev s))), x (ix4 0 0 r (hi (od s)))]

/-- An entry and its residual add up to the entry, unless it is plus infinity. -/
theorem add_residual (a : EReal) (h : a ≠ ⊤) : a + (a - a) = a := by
  induction a with
  | bot => rfl
  | top => exact absurd rfl h
  | coe r => rw [← EReal.coe_sub, ← EReal.coe_add]; congr 1; ring

/-- A sum against a selection column is the selected term. -/
theorem sum_pick (f : Fin 384 → EReal) (t : Fin 384) : ∑ q, f q * (if q = t then (1 : EReal) else 0) = f t := by
  simp only [mul_ite, mul_one, mul_zero, Finset.sum_ite_eq', Finset.mem_univ, if_true]

/-- The block's columns of its first image row. -/
theorem row0 (x : Vec Ideal S1x1x192x768 .f32) (r : Fin 192) (q : Fin 384) :
    k0_pay51 (F := Ideal) x (ix2 r q) = x (ix4 0 0 r (lo q)) := by
  rw [k0_pay51, k0_pay50]
  pointwise
  rfl

/-- The same of the second image row. -/
theorem row1 (x : Vec Ideal S1x1x192x768 .f32) (r : Fin 192) (q : Fin 384) :
    k0_pay52 (F := Ideal) x (ix2 r q) = x (ix4 0 0 r (hi q)) := by
  rw [k0_pay52, k0_pay50]
  pointwise
  rfl

/-- The product of a block's rows with a selection matrix picks a column: the high part, and the residual's. -/
theorem pick (m : FVec Ideal S384x192 .bf16) (g : Fin 192 → Fin 384)
    (hm : ∀ q s, m (ix2 q s) = if q = g s then (1 : EReal) else 0) (v : FVec Ideal S192x384 .f32) (r s : Fin 192)
    (h : v (ix2 r (g s)) ≠ ⊤) : k0_pay56 (F := Ideal) m v (ix2 r s) = v (ix2 r (g s)) := by
  rw [k0_pay56]
  pointwise
  simp only [hm]
  rw [sum_pick, sum_pick (fun q => v (ix2 r q) - v (ix2 r q))]
  exact add_residual _ h

section Entries

variable {x : Vec Ideal S1x1x192x768 .f32} {pe po : Vec Ideal S384x192 .bf16} (hx : ∀ i, x i ≠ ⊤)
  (he : ∀ q s, pe (ix2 q s) = if q = ev s then (1 : EReal) else 0)
  (ho : ∀ q s, po (ix2 q s) = if q = od s then (1 : EReal) else 0) (r s : Fin 192)

/-- A selection matrix is read as it is stored. -/
theorem sel_eq (m : Vec Ideal S384x192 .bf16) (q : Fin 384) (s : Fin 192) :
    k0_pay48 (F := Ideal) m (ix2 q s) = m (ix2 q s) := by
  rw [k0_pay48]
  pointwise

/-- The same of the second matrix. -/
theorem sel_eq' (m : Vec Ideal S384x192 .bf16) (q : Fin 384) (s : Fin 192) :
    k0_pay49 (F := Ideal) m (ix2 q s) = m (ix2 q s) := sel_eq m q s

include hx he in
/-- The first entry of each region, as the kernel's selection computes it. -/
theorem entry0 : k0_pay55 (F := Ideal) (k0_pay48 pe) (k0_pay51 x) (k0_pay53 x) (k0_pay54 x) (ix2 r s) = ent x r s 0 := by
  have h := pick (k0_pay48 pe) ev (fun q s => (sel_eq pe q s).trans (he q s)) (k0_pay51 x) r s
    (by rw [row0]; exact hx _)
  rw [row0] at h
  exact h

include hx ho in
/-- The second entry. -/
theorem entry1 : k0_pay56 (F := Ideal) (k0_pay49 po) (k0_pay51 x) (ix2 r s) = ent x r s 1 := by
  have h := pick (k0_pay49 po) od (fun q s => (sel_eq' po q s).trans (ho q s)) (k0_pay51 x) r s
    (by rw [row0]; exact hx _)
  rw [row0] at h
  exact h

include hx he in
/-- The third entry. -/
theorem entry2 : k0_pay57 (F := Ideal) (k0_pay48 pe) (k0_pay52 x) (ix2 r s) = ent x r s 2 := by
  have h := pick (k0_pay48 pe) ev (fun q s => (sel_eq pe q s).trans (he q s)) (k0_pay52 x) r s
    (by rw [row1]; exact hx _)
  rw [row1] at h
  exact h

include hx ho in
/-- The fourth entry. -/
theorem entry3 : k0_pay58 (F := Ideal) (k0_pay49 po) (k0_pay52 x) (ix2 r s) = ent x r s 3 := by
  have h := pick (k0_pay49 po) od (fun q s => (sel_eq' po q s).trans (ho q s)) (k0_pay52 x) r s
    (by rw [row1]; exact hx _)
  rw [row1] at h
  exact h

/-- The first of the five exponentials of a block. -/
def e0 (x : Vec Ideal S1x1x192x768 .f32) (pe po : Vec Ideal S384x192 .bf16) : FVec Ideal S192x192 .f32 :=
  k0_pay60 (k0_pay48 pe) (k0_pay49 po) (k0_pay51 x) (k0_pay52 x) (k0_pay53 x) (k0_pay54 x)

/-- The second exponential. -/
def e1 (x : Vec Ideal S1x1x192x768 .f32) (pe po : Vec Ideal S384x192 .bf16) : FVec Ideal S192x192 .f32 :=
  k0_pay61 (k0_pay48 pe) (k0_pay49 po) (k0_pay51 x) (k0_pay52 x) (k0_pay53 x) (k0_pay54 x)

/-- The third. -/
def e2 (x : Vec Ideal S1x1x192x768 .f32) (pe po : Vec Ideal S384x192 .bf16) : FVec Ideal S192x192 .f32 :=
  k0_pay62 (k0_pay48 pe) (k0_pay49 po) (k0_pay51 x) (k0_pay52 x) (k0_pay53 x) (k0_pay54 x)

/-- The fourth. -/
def e3 (x : Vec Ideal S1x1x192x768 .f32) (pe po : Vec Ideal S384x192 .bf16) : FVec Ideal S192x192 .f32 :=
  k0_pay63 (k0_pay48 pe) (k0_pay49 po) (k0_pay51 x) (k0_pay52 x) (k0_pay53 x) (k0_pay54 x)

/-- The fifth, of the null category. -/
def e4 (x : Vec Ideal S1x1x192x768 .f32) (pe po : Vec Ideal S384x192 .bf16) : FVec Ideal S192x192 .f32 :=
  k0_pay64 (k0_pay48 pe) (k0_pay49 po) (k0_pay51 x) (k0_pay52 x) (k0_pay53 x) (k0_pay54 x)

/-- Their sum with the small constant. -/
def total (x : Vec Ideal S1x1x192x768 .f32) (pe po : Vec Ideal S384x192 .bf16) : FVec Ideal S192x192 .f32 :=
  k0_pay65 (k0_pay48 pe) (k0_pay49 po) (k0_pay51 x) (k0_pay52 x) (k0_pay53 x) (k0_pay54 x)

include hx he ho

/-- The greatest of a region's five values. -/
theorem mx_eq : k0_pay59 (F := Ideal) (k0_pay48 pe) (k0_pay49 po) (k0_pay51 x) (k0_pay52 x) (k0_pay53 x) (k0_pay54 x)
    (ix2 r s) = mx (ent x r s) := by
  rw [k0_pay59]
  pointwise
  rw [entry0 hx he, entry1 hx ho, entry2 hx he, entry3 hx ho]
  rfl

/-- The first exponential is the region's. -/
theorem e0_eq : e0 x pe po (ix2 r s) = ex (ent x r s) 0 := by
  rw [e0, k0_pay60]
  pointwise
  rw [entry0 hx he, mx_eq hx he ho]
  rfl

/-- The second is the region's. -/
theorem e1_eq : e1 x pe po (ix2 r s) = ex (ent x r s) 1 := by
  rw [e1, k0_pay61]
  pointwise
  rw [entry1 hx ho, mx_eq hx he ho]
  rfl

/-- The third is the region's. -/
theorem e2_eq : e2 x pe po (ix2 r s) = ex (ent x r s) 2 := by
  rw [e2, k0_pay62]
  pointwise
  rw [entry2 hx he, mx_eq hx he ho]
  rfl

/-- The fourth is the region's. -/
theorem e3_eq : e3 x pe po (ix2 r s) = ex (ent x r s) 3 := by
  rw [e3, k0_pay63]
  pointwise
  rw [entry3 hx ho, mx_eq hx he ho]
  rfl

/-- The fifth is the region's. -/
theorem e4_eq : e4 x pe po (ix2 r s) = ex (ent x r s) 4 := by
  rw [e4, k0_pay64]
  pointwise
  rw [mx_eq hx he ho]
  rfl

/-- Their sum is the region's denominator. -/
theorem total_eq : total x pe po (ix2 r s) = den (ent x r s) := by
  have h0 := e0_eq hx he ho r s
  have h1 := e1_eq hx he ho r s
  have h2 := e2_eq hx he ho r s
  have h3 := e3_eq hx he ho r s
  have h4 := e4_eq hx he ho r s
  rw [den, ← h0, ← h1, ← h2, ← h3, ← h4]
  rfl

end Entries

/-- An exponential is not negative. -/
theorem exp_nonneg (x : EReal) : 0 ≤ Ideal.exp x := by
  induction x with
  | bot => exact le_rfl
  | top => exact le_top
  | coe r => exact EReal.coe_nonneg.2 (Real.exp_pos r).le

/-- The denominator is positive. -/
theorem den_pos (a : Fin 4 → EReal) : 0 < den a := by
  have h : ∀ k, 0 ≤ ex a k := fun k => exp_nonneg _
  rw [den]
  exact lt_of_lt_of_le eps_pos (le_add_of_nonneg_left
    (add_nonneg (add_nonneg (add_nonneg (add_nonneg (h 0) (h 1)) (h 2)) (h 3)) (h 4)))

/-- A product with the reciprocal of the denominator is the quotient. -/
theorem mul_inv (a : Fin 4 → EReal) (k : Fin 5) : ex a k * Ideal.div 1 (den a) = prob a k := by
  rw [prob, Ideal.div, Ideal.div, if_neg (den_pos a).ne', if_neg (den_pos a).ne', one_mul]

/-- The sum of four exponentials, times the reciprocal of the denominator, is the sum of the four probabilities. -/
theorem mul_pool (a : Fin 4 → EReal) : (ex a 0 + ex a 1 + ex a 2 + ex a 3) * Ideal.div 1 (den a) = pool a := by
  have h : ∀ k, 0 ≤ ex a k := fun k => exp_nonneg _
  rw [Spec.pool, ← mul_inv, ← mul_inv, ← mul_inv, ← mul_inv,
    EReal.right_distrib_of_nonneg (add_nonneg (add_nonneg (h 0) (h 1)) (h 2)) (h 3),
    EReal.right_distrib_of_nonneg (add_nonneg (h 0) (h 1)) (h 2), EReal.right_distrib_of_nonneg (h 0) (h 1)]

section Region

variable {v0 v1 v2 v3 v4 t : FVec Ideal S192x192 .f32} {r s : Fin 192} {a : Fin 4 → EReal}
  (h0 : v0 (ix2 r s) = ex a 0) (h1 : v1 (ix2 r s) = ex a 1) (h2 : v2 (ix2 r s) = ex a 2) (h3 : v3 (ix2 r s) = ex a 3)
  (h4 : v4 (ix2 r s) = ex a 4) (ht : t (ix2 r s) = den a)

/-- The literal one. -/
def one : EReal := FloatOps.ofBits (F := Ideal) .f32 0x3F800000#32

include ht in
/-- The reciprocal of the denominator. -/
theorem recip : k0_pay66 (F := Ideal) t one (ix2 r s) = Ideal.div 1 (den a) := by
  rw [k0_pay66, one]
  pointwise
  rw [ht]

include ht in
/-- A probability of the block. -/
theorem prob_eq (v : FVec Ideal S192x192 .f32) (k : Fin 5) (hv : v (ix2 r s) = ex a k) :
    k0_pay67 (F := Ideal) v t one (ix2 r s) = prob a k := by
  rw [k0_pay67]
  pointwise
  rw [hv, recip ht, mul_inv]

include h0 h1 h2 h3 ht in
/-- What a region is pooled to. -/
theorem pool_eq : k0_pay1 (F := Ideal) (k0_pay75 v0 v1 v2 v3 (k0_pay66 t one)) (ix4 0 0 r s) = pool a := by
  rw [k0_pay1, k0_pay75]
  pointwise
  rw [h0, h1, h2, h3, recip ht, mul_pool]

/-- The lane of a category's noise. -/
def lane (k : Fin 5) (s : Fin 192) : Fin 960 := ⟨192 * k.val + s.val, by omega⟩

include h0 h1 h2 h3 h4 ht in
/-- The winner of a region. -/
theorem win_eq (n : FVec Ideal S192x960 .f32) (g : Fin 5 → EReal) (hn : ∀ k, n (ix2 r (lane k s)) = g k) :
    k0_pay71 (F := Ideal) n v0 v1 v2 v3 v4 t one (ix2 r s) = win a g := by
  have p0 := prob_eq ht v0 0 h0
  have p1 := prob_eq ht v1 1 h1
  have p2 := prob_eq ht v2 2 h2
  have p3 := prob_eq ht v3 3 h3
  have p4 := (congrArg (· * k0_pay66 (F := Ideal) t one (ix2 r s)) h4).trans (by rw [recip ht, mul_inv])
  have p1' : k0_pay68 (F := Ideal) v1 t one (ix2 r s) = prob a 1 := p1
  have p2' : k0_pay69 (F := Ideal) v2 t one (ix2 r s) = prob a 2 := p2
  have p3' : k0_pay70 (F := Ideal) v3 t one (ix2 r s) = prob a 3 := p3
  have n0 : n (ix2 r (⟨s.val, by omega⟩ : Fin 960)) = g 0 :=
    (congrArg (fun l => n (ix2 r l)) (Fin.ext (Nat.zero_add _).symm)).trans (hn 0)
  rw [k0_pay71]
  pointwise
  rw [p0, p1', p2', p3', p4, n0, show n (ix2 r (⟨192 + s.val, _⟩ : Fin 960)) = g 1 from hn 1,
    show n (ix2 r (⟨384 + s.val, _⟩ : Fin 960)) = g 2 from hn 2,
    show n (ix2 r (⟨576 + s.val, _⟩ : Fin 960)) = g 3 from hn 3,
    show n (ix2 r (⟨768 + s.val, _⟩ : Fin 960)) = g 4 from hn 4]
  rfl

end Region

/-- The region a column lies in. -/
def half (q : Fin 384) : Fin 192 := ⟨q.val / 2, by omega⟩

/-- A sum against a row of the even selection matrix is the term of the column's region, if the column is even. -/
theorem sum_ev (f : Fin 192 → EReal) (q : Fin 384) :
    ∑ x, f x * (if q = ev x then (1 : EReal) else 0) = if q.val % 2 = 0 then f (half q) else 0 := by
  have h : ∀ x, f x * (if q = ev x then (1 : EReal) else 0) = if x = half q then (if q.val % 2 = 0 then f (half q) else 0) else 0 := by
    intro x
    by_cases h1 : x = half q
    · subst h1
      rw [if_pos rfl]
      by_cases h2 : q.val % 2 = 0
      · rw [if_pos h2, if_pos (Fin.ext (by show q.val = 2 * (q.val / 2); omega)), mul_one]
      · rw [if_neg h2, if_neg (fun h => h2 (by have h := congrArg Fin.val h; simp only [ev] at h; omega)), mul_zero]
    · rw [if_neg h1, if_neg (fun h => h1 (Fin.ext (by
        have h := congrArg Fin.val h
        simp only [ev] at h
        show x.val = q.val / 2
        omega))), mul_zero]
  simp only [h, Finset.sum_ite_eq', Finset.mem_univ, if_true]

/-- A sum against a row of the odd selection matrix is the term of the column's region, if the column is odd. -/
theorem sum_od (f : Fin 192 → EReal) (q : Fin 384) :
    ∑ x, f x * (if q = od x then (1 : EReal) else 0) = if q.val % 2 = 0 then 0 else f (half q) := by
  have h : ∀ x, f x * (if q = od x then (1 : EReal) else 0) = if x = half q then (if q.val % 2 = 0 then 0 else f (half q)) else 0 := by
    intro x
    by_cases h1 : x = half q
    · subst h1
      rw [if_pos rfl]
      by_cases h2 : q.val % 2 = 0
      · rw [if_pos h2, if_neg (fun h => by have h := congrArg Fin.val h; simp only [od] at h; omega), mul_zero]
      · rw [if_neg h2, if_pos (Fin.ext (by show q.val = 2 * (q.val / 2) + 1; omega)), mul_one]
    · rw [if_neg h1, if_neg (fun h => h1 (Fin.ext (by
        have h := congrArg Fin.val h
        simp only [od] at h
        show x.val = q.val / 2
        omega))), mul_zero]
  simp only [h, Finset.sum_ite_eq', Finset.mem_univ, if_true]

/-- A choice between a product and zero, as a product with a choice. -/
theorem select_mul (w c : W) (v m : EReal) :
    Scalar.select (IntOp.cmpi .eq w c) (v * m) 0 = (if w = c then v else 0) * m := by
  by_cases h : w = c
  · rw [if_pos h, h]
    simp [IntOp.cmpi, Scalar.select]
  · rw [if_neg h, zero_mul]
    have h' : (w == c) = false := beq_false_of_ne h
    simp [IntOp.cmpi, Scalar.select, h']

section Sparse

variable {pe po : Vec Ideal S384x192 .bf16}
  (he : ∀ q s, pe (ix2 q s) = if q = ev s then (1 : EReal) else 0)
  (ho : ∀ q s, po (ix2 q s) = if q = od s then (1 : EReal) else 0)
  (p p' : FVec Ideal S192x192 .f32) (w : IVec S192x192 32) (r : Fin 192) (q : Fin 384)

include he ho

/-- What a column of the first image row keeps. -/
theorem sparse0 : k0_pay73 (F := Ideal) (k0_pay48 pe) (k0_pay49 po) p p' w k0_pay72 (ix4 0 0 r q)
    = if q.val % 2 = 0 then (if w (ix2 r (half q)) = 0#32 then p (ix2 r (half q)) else 0)
      else (if w (ix2 r (half q)) = 1#32 then p' (ix2 r (half q)) else 0) := by
  rw [k0_pay73, k0_pay72]
  pointwise
  simp only [select_mul, sel_eq, sel_eq', he, ho]
  rw [sum_ev (fun x => if w (ix2 r x) = 0#32 then p (ix2 r x) else 0),
    sum_od (fun x => if w (ix2 r x) = 1#32 then p' (ix2 r x) else 0)]
  split_ifs <;> simp

/-- What a column of the second image row keeps. -/
theorem sparse1 : k0_pay74 (F := Ideal) (k0_pay48 pe) (k0_pay49 po) p p' w (ix4 0 0 r q)
    = if q.val % 2 = 0 then (if w (ix2 r (half q)) = 2#32 then p (ix2 r (half q)) else 0)
      else (if w (ix2 r (half q)) = 3#32 then p' (ix2 r (half q)) else 0) := by
  rw [k0_pay74]
  pointwise
  simp only [select_mul, sel_eq, sel_eq', he, ho]
  rw [sum_ev (fun x => if w (ix2 r x) = 2#32 then p (ix2 r x) else 0),
    sum_od (fun x => if w (ix2 r x) = 3#32 then p' (ix2 r x) else 0)]
  split_ifs <;> simp

end Sparse

end Cert.KernVals

end
-- ==== Proof.KernNoise.lean ====
/-
  The noise the kernel draws at a position of its block: the twenty rounds of the generator, one lemma for a round and
  one for a round with a key injection, and the logarithms after them.
-/
module

public import proofs.«01_k».proof.Proof.Gen.KernelIdeal.Frame
public import proofs.«01_k».proof.Proof.Spec

@[expose] public section

set_option maxRecDepth 65536
set_option maxHeartbeats 4000000

noncomputable section

namespace Cert.KernNoise

open Idealize.ShloMosaic Cert.Threefry Cert.Spec Cert.KernelIdeal Cert.KernelIdeal.Gen

/-- A round as the kernel spells it: the sum is the exclusive or's second operand. -/
theorem step {u : ArithUnit} (r s : W) (hr : r.toNat < 32) (hs : s.toNat < 32) {P : W × W} {x0 x1 y z : W}
    (p : (x0, x1) = P) (hy : y = IntOp.addi x0 x1)
    (hz : z = IntOp.xori (IntOp.ori (IntOp.shli u x1 r) (IntOp.shrui u x1 s)) y) : (y, z) = rnd r s P := by
  rw [← p, hz, hy, shl_lit _ _ _ hr, shr_lit _ _ _ hs]
  exact congrArg (Prod.mk _) (BitVec.xor_comm _ _)

/-- A round followed by a key injection. -/
theorem step_inj {u : ArithUnit} (r s : W) (hr : r.toNat < 32) (hs : s.toNat < 32) (ka kb j : W) {P : W × W}
    {x0 x1 y z : W} (p : (x0, x1) = P) (hy : y = IntOp.addi (IntOp.addi x0 x1) ka)
    (hz : z = IntOp.addi (IntOp.addi (IntOp.xori (IntOp.ori (IntOp.shli u x1 r) (IntOp.shrui u x1 s))
      (IntOp.addi x0 x1)) kb) j) : (y, z) = inj ka kb j (rnd r s P) := by
  rw [← p, hz, hy, shl_lit _ _ _ hr, shr_lit _ _ _ hs]
  exact congrArg (fun t => (x0 + x1 + ka, t + kb + j)) (BitVec.xor_comm _ _)

variable (i : grid0.Coords) (k0 k1 : W) (x3 : Vec Ideal S1x960 .i32)

/-- The second word after eight rounds and two injections. -/
def midZ : IVec S192x960 32 :=
  k0_pay20 (F := Ideal) k1 (key2 k0 k1) (k0_pay7 (F := Ideal) i k0 k1 x3) (k0_pay8 (F := Ideal) i k0 k1 x3) k0_pay9

/-- The other word there. -/
def midS : IVec S192x960 32 :=
  k0_pay21 (F := Ideal) k1 (key2 k0 k1) (k0_pay7 (F := Ideal) i k0 k1 x3) (k0_pay8 (F := Ideal) i k0 k1 x3) k0_pay9

/-- The first of the two words after thirteen rounds. -/
def lateZ : IVec S192x960 32 := k0_pay32 (F := Ideal) k0 k1 (midZ i k0 k1 x3) (midS i k0 k1 x3)

/-- The second of them. -/
def lateS : IVec S192x960 32 := k0_pay33 (F := Ideal) k0 k1 (midZ i k0 k1 x3) (midS i k0 k1 x3)

/-- The first of the two words after nineteen rounds. -/
def endZ : IVec S192x960 32 :=
  k0_pay45 (F := Ideal) k1 (key2 k0 k1) (lateZ i k0 k1 x3) (lateS i k0 k1 x3) k0_pay34

/-- The second of them. -/
def endS : IVec S192x960 32 :=
  k0_pay46 (F := Ideal) k1 (key2 k0 k1) (lateZ i k0 k1 x3) (lateS i k0 k1 x3) k0_pay34

/-- The noise of a block. -/
def noise : FVec Ideal S192x960 .f32 :=
  k0_pay47 (F := Ideal) k0 (key2 k0 k1) (endZ i k0 k1 x3) (endS i k0 k1 x3) 6#32

/-- The two words after four rounds and the first injection. -/
theorem group1 (j : S192x960.Idx) (c : W) (hc : k0_pay3 (F := Ideal) i k1 x3 j = c + k1) :
    (IntOp.addi (k0_pay11 (k0_pay7 (F := Ideal) i k0 k1 x3) (k0_pay8 (F := Ideal) i k0 k1 x3) k0_pay9 j) k1,
      k0_pay12 (key2 k0 k1) (k0_pay7 (F := Ideal) i k0 k1 x3) (k0_pay8 (F := Ideal) i k0 k1 x3) k0_pay9 j)
      = inj k1 (key2 k0 k1) 1#32 (quadA (0#32 + k0, c + k1)) := by
  have a0 : (0#32 + k0, k0_pay3 (F := Ideal) i k1 x3 j) = (0#32 + k0, c + k1) := by rw [hc]
  have a1 := step 13#32 19#32 (by decide) (by decide) a0 (y := k0_pay4 (F := Ideal) i k0 k1 x3 j)
    (z := k0_pay5 (F := Ideal) i k0 k1 x3 j) rfl rfl
  have a2 := step 15#32 17#32 (by decide) (by decide) a1 (y := k0_pay6 (F := Ideal) i k0 k1 x3 j)
    (z := k0_pay7 (F := Ideal) i k0 k1 x3 j) rfl rfl
  have a3 := step 26#32 6#32 (by decide) (by decide) a2 (y := k0_pay8 (F := Ideal) i k0 k1 x3 j)
    (z := k0_pay10 (k0_pay7 (F := Ideal) i k0 k1 x3) (k0_pay8 (F := Ideal) i k0 k1 x3) k0_pay9 j) rfl rfl
  exact step_inj 6#32 26#32 (by decide) (by decide) k1 (key2 k0 k1) 1#32 a3 rfl rfl

/-- The two words after eight rounds and the second injection. -/
theorem group2 (j : S192x960.Idx) (A B C : IVec S192x960 32) {P : W × W}
    (p : (IntOp.addi (k0_pay11 A B C j) k1, k0_pay12 (key2 k0 k1) A B C j) = P) :
    (k0_pay21 (F := Ideal) k1 (key2 k0 k1) A B C j, k0_pay22 (F := Ideal) k0 (k0_pay20 (F := Ideal) k1 (key2 k0 k1) A B C) j)
      = inj (key2 k0 k1) k0 2#32 (quadB P) := by
  have a1 := step 17#32 15#32 (by decide) (by decide) p (y := k0_pay13 (F := Ideal) k1 (key2 k0 k1) A B C j)
    (z := k0_pay14 (F := Ideal) k1 (key2 k0 k1) A B C j) rfl rfl
  have a2 := step 29#32 3#32 (by decide) (by decide) a1 (y := k0_pay15 (F := Ideal) k1 (key2 k0 k1) A B C j)
    (z := k0_pay16 (F := Ideal) k1 (key2 k0 k1) A B C j) rfl rfl
  have a3 := step 16#32 16#32 (by decide) (by decide) a2 (y := k0_pay17 (F := Ideal) k1 (key2 k0 k1) A B C j)
    (z := k0_pay18 (F := Ideal) k1 (key2 k0 k1) A B C j) rfl rfl
  exact step_inj 24#32 8#32 (by decide) (by decide) (key2 k0 k1) k0 2#32 a3 rfl rfl

/-- The two words after twelve rounds and the third injection. -/
theorem group3 (j : S192x960.Idx) (Z S : IVec S192x960 32) {P : W × W}
    (p : (S j, k0_pay22 (F := Ideal) k0 Z j) = P) :
    (IntOp.addi (k0_pay29 (F := Ideal) k0 Z S j) k0, k0_pay30 (F := Ideal) k0 k1 Z S j)
      = inj k0 k1 3#32 (quadA P) := by
  have a1 := step 13#32 19#32 (by decide) (by decide) p (y := k0_pay23 (F := Ideal) k0 Z S j)
    (z := k0_pay24 (F := Ideal) k0 Z S j) rfl rfl
  have a2 := step 15#32 17#32 (by decide) (by decide) a1 (y := k0_pay25 (F := Ideal) k0 Z S j)
    (z := k0_pay26 (F := Ideal) k0 Z S j) rfl rfl
  have a3 := step 26#32 6#32 (by decide) (by decide) a2 (y := k0_pay27 (F := Ideal) k0 Z S j)
    (z := k0_pay28 (F := Ideal) k0 Z S j) rfl rfl
  exact step_inj 6#32 26#32 (by decide) (by decide) k0 k1 3#32 a3 rfl rfl

/-- The two words after sixteen rounds and the fourth injection, from the thirteenth round on. -/
theorem group4 (j : S192x960.Idx) (Z S : IVec S192x960 32) {P : W × W}
    (p : (IntOp.addi (k0_pay29 (F := Ideal) k0 Z S j) k0, k0_pay30 (F := Ideal) k0 k1 Z S j) = P) :
    (IntOp.addi (k0_pay38 (k0_pay32 (F := Ideal) k0 k1 Z S) (k0_pay33 (F := Ideal) k0 k1 Z S) k0_pay34 j) k1,
      k0_pay39 (key2 k0 k1) (k0_pay32 (F := Ideal) k0 k1 Z S) (k0_pay33 (F := Ideal) k0 k1 Z S) k0_pay34 j)
      = inj k1 (key2 k0 k1) 4#32 (quadB P) := by
  have a1 := step 17#32 15#32 (by decide) (by decide) p (y := k0_pay31 (F := Ideal) k0 k1 Z S j)
    (z := k0_pay32 (F := Ideal) k0 k1 Z S j) rfl rfl
  have a2 := step 29#32 3#32 (by decide) (by decide) a1 (y := k0_pay33 (F := Ideal) k0 k1 Z S j)
    (z := k0_pay35 (k0_pay32 (F := Ideal) k0 k1 Z S) (k0_pay33 (F := Ideal) k0 k1 Z S) k0_pay34 j) rfl rfl
  have a3 := step 16#32 16#32 (by decide) (by decide) a2
    (y := k0_pay36 (k0_pay32 (F := Ideal) k0 k1 Z S) (k0_pay33 (F := Ideal) k0 k1 Z S) k0_pay34 j)
    (z := k0_pay37 (k0_pay32 (F := Ideal) k0 k1 Z S) (k0_pay33 (F := Ideal) k0 k1 Z S) k0_pay34 j) rfl rfl
  exact step_inj 24#32 8#32 (by decide) (by decide) k1 (key2 k0 k1) 4#32 a3 rfl rfl

/-- The two words after the last round and injection. -/
theorem group5 (j : S192x960.Idx) (A B C : IVec S192x960 32) {P : W × W}
    (p : (IntOp.addi (k0_pay38 A B C j) k1, k0_pay39 (key2 k0 k1) A B C j) = P) :
    (IntOp.addi (k0_pay46 (F := Ideal) k1 (key2 k0 k1) A B C j) (key2 k0 k1),
      IntOp.addi (IntOp.addi (IntOp.xori (IntOp.ori
        (IntOp.shli .vector (k0_pay45 (F := Ideal) k1 (key2 k0 k1) A B C j) 6#32)
        (IntOp.shrui .vector (k0_pay45 (F := Ideal) k1 (key2 k0 k1) A B C j) 26#32))
        (k0_pay46 (F := Ideal) k1 (key2 k0 k1) A B C j)) k0) 5#32)
      = inj (key2 k0 k1) k0 5#32 (quadA P) := by
  have a1 := step 13#32 19#32 (by decide) (by decide) p (y := k0_pay40 (F := Ideal) k1 (key2 k0 k1) A B C j)
    (z := k0_pay41 (F := Ideal) k1 (key2 k0 k1) A B C j) rfl rfl
  have a2 := step 15#32 17#32 (by decide) (by decide) a1 (y := k0_pay42 (F := Ideal) k1 (key2 k0 k1) A B C j)
    (z := k0_pay43 (F := Ideal) k1 (key2 k0 k1) A B C j) rfl rfl
  have a3 := step 26#32 6#32 (by decide) (by decide) a2 (y := k0_pay44 (F := Ideal) k1 (key2 k0 k1) A B C j)
    (z := k0_pay45 (F := Ideal) k1 (key2 k0 k1) A B C j) rfl rfl
  exact step_inj 6#32 26#32 (by decide) (by decide) (key2 k0 k1) k0 5#32 a3 rfl rfl

/-- The two words of the generator at a position whose counter is `c`. -/
theorem words (j : S192x960.Idx) (c : W) (hc : k0_pay3 (F := Ideal) i k1 x3 j = c + k1) :
    (IntOp.addi (endS i k0 k1 x3 j) (key2 k0 k1),
      IntOp.addi (IntOp.addi (IntOp.xori (IntOp.ori (IntOp.shli .vector (endZ i k0 k1 x3 j) 6#32)
        (IntOp.shrui .vector (endZ i k0 k1 x3 j) 26#32)) (endS i k0 k1 x3 j)) k0) 5#32) = tf k0 k1 0#32 c := by
  have g1 := group1 i k0 k1 x3 j c hc
  have g2 := group2 k0 k1 j _ _ _ g1
  have g3 := group3 k0 k1 j _ _ g2
  have g4 := group4 k0 k1 j _ _ g3
  exact group5 k0 k1 j _ _ _ g4

/-- The logarithms after the generator's last round, of words in place of the generator's. -/
theorem logs (k0 k2 : W) (Z S : IVec S192x960 32) (a : Fin 192) (b : Fin 960) :
    k0_pay47 (F := Ideal) k0 k2 Z S 6#32 (ix2 a b)
      = -Ideal.log (-Ideal.log (unif (IntOp.addi (S (ix2 a b)) k2 ^^^
        IntOp.addi (IntOp.addi (IntOp.xori (IntOp.ori (IntOp.shli .vector (Z (ix2 a b)) 6#32)
          (IntOp.shrui .vector (Z (ix2 a b)) 26#32)) (S (ix2 a b))) k0) 5#32) + eps) + eps) := by
  rw [unif, ← shr_lit .vector _ 9#32 (by decide), k0_pay47]
  pointwise
  simp only [zero_sub]
  rfl

/-- The noise at a position whose counter is `c`. -/
theorem noise_eq (hk0 : k0 = key.1) (hk1 : k1 = key.2) (a : Fin 192) (b : Fin 960) (c : W)
    (hc : k0_pay3 (F := Ideal) i k1 x3 (ix2 a b) = c + k1) : noise i k0 k1 x3 (ix2 a b) = gum c := by
  have w := words i k0 k1 x3 (ix2 a b) c hc
  have w1 := congrArg Prod.fst w
  have w2 := congrArg Prod.snd w
  dsimp only at w1 w2
  rw [gum, bits, ← hk0, ← hk1, ← w1, ← w2]
  exact logs k0 (key2 k0 k1) _ _ a b

/-- The counter of a position: category `k` of the region of row `r` and column `s` lies at lane `192 k + s`. -/
theorem counter (b : Fin 4) (c : Fin 96) (r s : Fin 192) (k : Fin 5) (l : Fin 960) (hl : l.val = 192 * k.val + s.val)
    (h0 : (i 0).val = b.val) (h1 : (i 1).val = c.val) (h2 : (i 2).val = 0)
    (hx : x3 (ix2 0 l) = BitVec.ofNat 32 (5 * s.val + k.val)) (p : Fin 36864) (hp : p.val = r.val * 192 + s.val) :
    k0_pay3 (F := Ideal) i k1 x3 (ix2 r l) = ctr b c p k + k1 := by
  rw [k0_pay3]
  pointwise
  rw [hx, h0, h1, ctr, hp]
  show (_ : W) + k1 = _
  congr 1
  simp only [Scalar.muli, Scalar.addi, IntOp.addi, IntOp.muli, ← BitVec.ofNat_mul, ← BitVec.ofNat_add]
  congr 1
  omega

end Cert.KernNoise

end
-- ==== Proof.KernBlock.lean ====
/-
  What one point of the grid leaves in the three output blocks, as values of its input blocks.
-/
module

public import proofs.«01_k».proof.Proof.Gen.KernelIdeal.Frame
public import proofs.«01_k».proof.Proof.KernVals
public import proofs.«01_k».proof.Proof.KernNoise
public import Idealize.ShloMosaic.Lib.Pipeline.Value
public import Idealize.ShloMosaic.Lib.Tactic

@[expose] public section

set_option maxRecDepth 65536
set_option maxHeartbeats 400000

noncomputable section

namespace Cert.KernBlock

open Idealize.ShloMosaic Idealize.ShloMosaic.TcCoe Idealize.SL.Sem
open Cert.Threefry Cert.Spec Cert.KernVals Cert.KernNoise Cert.KernelIdeal Cert.KernelIdeal.Gen

/-- Two zero offsets, as a function. -/
theorem hz2 : (![0, 0] : Fin 2 → Nat) = fun _ => 0 := funext fun a => by fin_cases a <;> rfl

/-- Four zero offsets, as a function. -/
theorem hz4 : (![0, 0, 0, 0] : Fin 4 → Nat) = fun _ => 0 := funext fun a => by fin_cases a <;> rfl

/-- Two pieces, read where the second holds and the first doesn't. -/
theorem second {s : Shape} {e : EltTy} (R R' : Rect s) (P : R.shape.Idx → Elt Ideal e) (Q : R'.shape.Idx → Elt Ideal e)
    (y : s.Idx) (x : R'.shape.Idx) (hn : y ∉ R.set) (hx : y = R'.emb x) :
    View.canon (Val := Elt Ideal) [⟨R, P⟩, ⟨R', Q⟩] y = Q x := by
  refine (View.canon_cons_of_not_mem _ _ hn).trans ?_
  rw [hx]
  exact View.canon_cons_emb ..

/-- The same two pieces, read where the first one holds. -/
theorem first {s : Shape} {e : EltTy} (R R' : Rect s) (P : R.shape.Idx → Elt Ideal e) (Q : R'.shape.Idx → Elt Ideal e)
    (y : s.Idx) (x : R.shape.Idx) (hx : y = R.emb x) :
    View.canon (Val := Elt Ideal) [⟨R, P⟩, ⟨R', Q⟩] y = P x := by
  rw [hx]
  exact View.canon_cons_emb ..

/-- What it takes for a half of the block's columns, starting at `o`, to lie inside the block. -/
abbrev Inside (o : Nat) : Prop :=
  ∀ a, (![0, 0, 0, o] : Fin 4 → Nat) a + (![1, 1, 192, 384] : Fin 4 → Nat) a ≤ S1x1x192x768.size a

/-- A column of the first half isn't in the second half's piece. -/
theorem lo_not_mem (h1 : Inside 384) (r : Fin 192) (q : Fin 384) :
    (ix4 0 0 r (lo q) : S1x1x192x768.Idx) ∉ (Rect.unit (s := S1x1x192x768) ![0, 0, 0, 384] ![1, 1, 192, 384] h1).set := by
  rw [Rect.mem_set_unit]
  intro h
  have h3 : (384 : Nat) ≤ q.val := (h 3).1
  omega

/-- A column of the first half in the first half's piece, and one of the second half in the second half's. -/
theorem lo_eq (h0 : Inside 0) (r : Fin 192) (q : Fin 384) : (ix4 0 0 r (lo q) : S1x1x192x768.Idx)
    = (Rect.unit (s := S1x1x192x768) ![0, 0, 0, 0] ![1, 1, 192, 384] h0).emb (ix4 0 0 r q : S1x1x192x384.Idx) := by
  funext a
  apply Fin.ext
  rw [Rect.emb_apply]
  match a with
  | 0 => rfl
  | 1 => rfl
  | 2 => exact (by omega : r.val = 0 + 1 * r.val)
  | 3 => exact (by omega : q.val = 0 + 1 * q.val)

/-- A column of the second half, as a place of the second half's piece. -/
theorem hi_eq (h1 : Inside 384) (r : Fin 192) (q : Fin 384) : (ix4 0 0 r (hi q) : S1x1x192x768.Idx)
    = (Rect.unit (s := S1x1x192x768) ![0, 0, 0, 384] ![1, 1, 192, 384] h1).emb (ix4 0 0 r q : S1x1x192x384.Idx) := by
  funext a
  apply Fin.ext
  rw [Rect.emb_apply]
  match a with
  | 0 => rfl
  | 1 => rfl
  | 2 => exact (by omega : r.val = 0 + 1 * r.val)
  | 3 => exact (by omega : 384 + q.val = 384 + 1 * q.val)

section
variable (c : Dev nD) (i : grid0.Coords) (a4 : Memref sig .tc .vmem S1x1x192x768 .f32) (h4 : a4.IsWhole)
  (a5 : Memref sig .tc .vmem S384x192 .bf16) (h5 : a5.IsWhole) (a6 : Memref sig .tc .vmem S384x192 .bf16) (h6 : a6.IsWhole)
  (a7 : Memref sig .tc .vmem S1x960 .i32) (h7 : a7.IsWhole) (a8 : Memref sig .tc .vmem S1x1x192x768 .f32) (h8 : a8.IsWhole)
  (a9 : Memref sig .tc .vmem S1x1x192x192 .f32) (h9 : a9.IsWhole) (a10 : Memref sig .tc .vmem S1x1x192x192 .i32) (h10 : a10.IsWhole)
  (x0 : Vec Ideal S1x1x192x768 .f32) (x1 : Vec Ideal S384x192 .bf16) (x2 : Vec Ideal S384x192 .bf16) (x3 : Vec Ideal S1x960 .i32)
  (xt0 : TbBuf0 (F := Ideal) c tbM0_0)

/-- The key's first word, as the kernel reads it from its table. -/
def word0 : W := View.ld (View.read (Elt Ideal) (View.whole main_call0_v9) xt0) (Rect.unit ![0] ![1] inb_S2_S1_0) (Shape.Idx.first (by decide))

/-- The key's second word. -/
def word1 : W := View.ld (View.read (Elt Ideal) (View.whole main_call0_v9) xt0) (Rect.unit ![1] ![1] inb_S2_S1_1) (Shape.Idx.first (by decide))

/-- The third key word, as the kernel's scalar operations spell it. -/
theorem key2_eq (k0 k1 : W) : Scalar.xori (Scalar.xori k0 k1) 466688986#32 = key2 k0 k1 := rfl

/-- The winners of a block. -/
def winners : IVec S192x192 32 :=
  k0_pay71 (noise i (word0 c xt0) (word1 c xt0) x3) (e0 x0 x1 x2) (e1 x0 x1 x2) (e2 x0 x1 x2) (e3 x0 x1 x2) (e4 x0 x1 x2)
    (total x0 x1 x2) one

/-- The block of winners. -/
theorem out6 : out0_A_6 c i a4 h4 a5 h5 a6 h6 a7 h7 a8 h8 a9 h9 a10 h10 x0 x1 x2 x3 xt0
    = k0_pay2 (winners c i x0 x1 x2 x3 xt0) := by
  unfold out0_A_6
  rw [View.read_writes_eq_canon _ _ _ (cover0_A_6 c i a4 h4 a5 h5 a6 h6 a7 h7 a8 h8 a9 h9 a10 h10 x0 x1 x2 x3 xt0)]
  unfold kernelRun0_A
  dsimp only
  sl_unfold_words
  rw [View.canon_unit_zero (S := S1x1x192x192) hz4]
  simp only [View.readAt_eq_ld, h4.read_unread, h5.read_unread, h6.read_unread, h7.read_unread, View.ld_unit_zero (S := S1x1x192x768) hz4, View.ld_unit_zero (S := S384x192) hz2, View.ld_unit_zero (S := S1x960) hz2]
  simp only [key2_eq, winners, noise, endZ, endS, lateZ, lateS, midZ, midS, word0, word1, e0, e1, e2, e3, e4, total, one]

/-- The block of pooled values. -/
theorem out5 : out0_A_5 c i a4 h4 a5 h5 a6 h6 a7 h7 a8 h8 a9 h9 a10 h10 x0 x1 x2 x3 xt0
    = k0_pay1 (k0_pay75 (e0 x0 x1 x2) (e1 x0 x1 x2) (e2 x0 x1 x2) (e3 x0 x1 x2) (k0_pay66 (total x0 x1 x2) one)) := by
  unfold out0_A_5
  rw [View.read_writes_eq_canon _ _ _ (cover0_A_5 c i a4 h4 a5 h5 a6 h6 a7 h7 a8 h8 a9 h9 a10 h10 x0 x1 x2 x3 xt0)]
  unfold kernelRun0_A
  dsimp only
  sl_unfold_words
  rw [View.canon_unit_zero (S := S1x1x192x192) hz4]
  simp only [View.readAt_eq_ld, h4.read_unread, h5.read_unread, h6.read_unread, h7.read_unread, View.ld_unit_zero (S := S1x1x192x768) hz4, View.ld_unit_zero (S := S384x192) hz2, View.ld_unit_zero (S := S1x960) hz2]
  simp only [key2_eq, winners, noise, endZ, endS, lateZ, lateS, midZ, midS, word0, word1, e0, e1, e2, e3, e4, total, one]

/-- The first half of the kept values' block. -/
def part0 : FVec Ideal S1x1x192x384 .f32 :=
  k0_pay73 (k0_pay48 x1) (k0_pay49 x2) (k0_pay67 (e0 x0 x1 x2) (total x0 x1 x2) one)
    (k0_pay68 (e1 x0 x1 x2) (total x0 x1 x2) one) (winners c i x0 x1 x2 x3 xt0) k0_pay72

/-- The second half. -/
def part1 : FVec Ideal S1x1x192x384 .f32 :=
  k0_pay74 (k0_pay48 x1) (k0_pay49 x2) (k0_pay69 (e2 x0 x1 x2) (total x0 x1 x2) one)
    (k0_pay70 (e3 x0 x1 x2) (total x0 x1 x2) one) (winners c i x0 x1 x2 x3 xt0)

/-- The sparse block at a column of its first half, and of its second. -/
theorem out4 (r : Fin 192) (q : Fin 384) :
    out0_A_4 c i a4 h4 a5 h5 a6 h6 a7 h7 a8 h8 a9 h9 a10 h10 x0 x1 x2 x3 xt0 (ix4 0 0 r (lo q))
        = part0 c i x0 x1 x2 x3 xt0 (ix4 0 0 r q)
      ∧ out0_A_4 c i a4 h4 a5 h5 a6 h6 a7 h7 a8 h8 a9 h9 a10 h10 x0 x1 x2 x3 xt0 (ix4 0 0 r (hi q))
        = part1 c i x0 x1 x2 x3 xt0 (ix4 0 0 r q) := by
  unfold out0_A_4
  rw [View.read_writes_eq_canon _ _ _ (cover0_A_4 c i a4 h4 a5 h5 a6 h6 a7 h7 a8 h8 a9 h9 a10 h10 x0 x1 x2 x3 xt0)]
  unfold kernelRun0_A
  dsimp only
  sl_unfold_words
  simp only [View.readAt_eq_ld, h4.read_unread, h5.read_unread, h6.read_unread, h7.read_unread, View.ld_unit_zero (S := S1x1x192x768) hz4, View.ld_unit_zero (S := S384x192) hz2, View.ld_unit_zero (S := S1x960) hz2]
  simp only [key2_eq, part0, part1, winners, noise, endZ, endS, lateZ, lateS, midZ, midS, word0, word1, e0, e1, e2, e3, e4,
    total, one]
  exact ⟨second _ _ _ _ _ _ (lo_not_mem _ r q) (lo_eq _ r q), first _ _ _ _ _ _ (hi_eq _ r q)⟩

end

end Cert.KernBlock

end
-- ==== Proof.KernPoint.lean ====
/-
  The three output blocks of a point of the grid, as the regions' values of the input block.
-/
module

public import proofs.«01_k».proof.Proof.KernBlock

@[expose] public section

set_option maxRecDepth 65536
set_option maxHeartbeats 1000000

noncomputable section

namespace Cert.KernPoint

open Idealize.ShloMosaic Idealize.SL.Sem Cert.Threefry Cert.Spec Cert.KernVals Cert.KernNoise Cert.KernBlock Cert.KernelIdeal
  Cert.KernelIdeal.Gen

/-- The region of row `r` and column `s`. -/
def rgn (r s : Fin 192) : Fin 36864 := ⟨r.val * 192 + s.val, by omega⟩

/-- The noise of a region. -/
def reg (b : Fin 4) (ch : Fin 96) (r s : Fin 192) (k : Fin 5) : EReal := gum (ctr b ch (rgn r s) k)

variable {c : Dev nD} {i : grid0.Coords} {x0 : Vec Ideal S1x1x192x768 .f32} {pe po : Vec Ideal S384x192 .bf16}
  {x3 : Vec Ideal S1x960 .i32} {xt0 : TbBuf0 (F := Ideal) c tbM0_0}
  (hx : ∀ i, x0 i ≠ ⊤)
  (he : ∀ q s, pe (ix2 q s) = if q = ev s then (1 : EReal) else 0)
  (ho : ∀ q s, po (ix2 q s) = if q = od s then (1 : EReal) else 0)
  (h3 : ∀ k s, x3 (ix2 0 (lane k s)) = BitVec.ofNat 32 (5 * s.val + k.val))
  (hk0 : word0 c xt0 = key.1) (hk1 : word1 c xt0 = key.2)
  {b : Fin 4} {ch : Fin 96} (i0 : (i 0).val = b.val) (i1 : (i 1).val = ch.val) (i2 : (i 2).val = 0)
  (r s : Fin 192)

include hx he ho h3 hk0 hk1 i0 i1 i2 in
/-- The winner of a region. -/
theorem winners_eq : winners c i x0 pe po x3 xt0 (ix2 r s) = win (ent x0 r s) (reg b ch r s) := by
  refine win_eq (e0_eq hx he ho r s) (e1_eq hx he ho r s) (e2_eq hx he ho r s) (e3_eq hx he ho r s) (e4_eq hx he ho r s)
    (total_eq hx he ho r s) _ _ fun k => ?_
  exact noise_eq i _ _ x3 hk0 hk1 r (lane k s) _
    (counter i _ x3 b ch r s k (lane k s) rfl i0 i1 i2 (h3 k s) (rgn r s) rfl)

include hx he ho h3 hk0 hk1 i0 i1 i2 in
/-- The block of winners. -/
theorem winner_block : k0_pay2 (winners c i x0 pe po x3 xt0) (ix4 0 0 r s) = win (ent x0 r s) (reg b ch r s) := by
  rw [← winners_eq hx he ho h3 hk0 hk1 i0 i1 i2 r s]
  generalize winners c i x0 pe po x3 xt0 = w
  rw [k0_pay2]
  pointwise

include hx he ho in
/-- The block of pooled values. -/
theorem pool_block : k0_pay1 (k0_pay75 (e0 x0 pe po) (e1 x0 pe po) (e2 x0 pe po) (e3 x0 pe po) (k0_pay66 (total x0 pe po) one))
    (ix4 0 0 r s) = Spec.pool (ent x0 r s) :=
  pool_eq (e0_eq hx he ho r s) (e1_eq hx he ho r s) (e2_eq hx he ho r s) (e3_eq hx he ho r s) (total_eq hx he ho r s)

include hx he ho h3 hk0 hk1 i0 i1 i2 in
/-- The sparse block's first half: what the regions keep at the entries of their first row. -/
theorem part0_eq (q : Fin 384) : part0 c i x0 pe po x3 xt0 (ix4 0 0 r q)
    = kept (ent x0 r (KernVals.half q)) (reg b ch r (KernVals.half q)) ⟨q.val % 2, by omega⟩ := by
  have hw := winners_eq hx he ho h3 hk0 hk1 i0 i1 i2 r (KernVals.half q)
  have ht := total_eq hx he ho r (KernVals.half q)
  have p0 := prob_eq ht _ 0 (e0_eq hx he ho r (KernVals.half q))
  have p1 : k0_pay68 (F := Ideal) _ _ _ _ = _ := prob_eq ht _ 1 (e1_eq hx he ho r (KernVals.half q))
  rw [part0, sparse0 he ho, hw, p0, p1]
  rcases Nat.mod_two_eq_zero_or_one q.val with h | h
  · rw [if_pos h, show (⟨q.val % 2, by omega⟩ : Fin 4) = 0 from Fin.ext h]
    rfl
  · rw [if_neg (by omega), show (⟨q.val % 2, by omega⟩ : Fin 4) = 1 from Fin.ext h]
    rfl

include hx he ho h3 hk0 hk1 i0 i1 i2 in
/-- The sparse block's second half: what the regions keep at the entries of their second row. -/
theorem part1_eq (q : Fin 384) : part1 c i x0 pe po x3 xt0 (ix4 0 0 r q)
    = kept (ent x0 r (KernVals.half q)) (reg b ch r (KernVals.half q)) ⟨2 + q.val % 2, by omega⟩ := by
  have hw := winners_eq hx he ho h3 hk0 hk1 i0 i1 i2 r (KernVals.half q)
  have ht := total_eq hx he ho r (KernVals.half q)
  have p2 : k0_pay69 (F := Ideal) _ _ _ _ = _ := prob_eq ht _ 2 (e2_eq hx he ho r (KernVals.half q))
  have p3 : k0_pay70 (F := Ideal) _ _ _ _ = _ := prob_eq ht _ 3 (e3_eq hx he ho r (KernVals.half q))
  rw [part1, sparse1 he ho, hw, p2, p3]
  rcases Nat.mod_two_eq_zero_or_one q.val with h | h
  · rw [if_pos h, show (⟨2 + q.val % 2, by omega⟩ : Fin 4) = 2 from Fin.ext (by show 2 + q.val % 2 = 2; omega)]
    rfl
  · rw [if_neg (by omega), show (⟨2 + q.val % 2, by omega⟩ : Fin 4) = 3 from Fin.ext (by show 2 + q.val % 2 = 3; omega)]
    rfl

end Cert.KernPoint

end
-- ==== Proof.KernEntry.lean ====
/-
  What the buffers hold when the kernel is launched: the argument's rows in pairs, the key, the lane counters and the two
  selection matrices.
-/
module

public import proofs.«01_k».proof.Proof.KernSpan
public import proofs.«01_k».proof.Proof.KernLits
public import proofs.«01_k».proof.Proof.KernEven
public import proofs.«01_k».proof.Proof.KernOdd
public import proofs.«01_k».proof.Proof.KernPoint

@[expose] public section

set_option maxRecDepth 65536
set_option maxHeartbeats 1000000

noncomputable section

namespace Cert.KernEntry

open Idealize.ShloMosaic Idealize.ShloMosaic.StableHlo Idealize.SL.Sem Cert.Straight Cert.Threefry Cert.Spec Cert.KernSpan
  Cert.KernVals Cert.KernelIdeal Cert.KernelIdeal.Gen

/-- The three operations after the key is made, one after the other, on buffers they don't write. -/
theorem back_low (V : Valuation τ sig (Elt Ideal)) (r : Ref sig .tc) (h9 : r ≠ main_call0_v9) (h10 : r ≠ main_call0_v10)
    (h11 : r ≠ main_call0_v11) : after back V (Proc.devRef .tc r) = V (Proc.devRef .tc r) := by
  unfold back hostOps0
  simp only [List.drop_succ_cons, List.drop_zero]
  rw [after_cons, after_cons, after_cons, after_nil]
  rw [result_of_writes_ne _ _ main_call0_v11 r rfl h11, result_of_writes_ne _ _ main_call0_v10 r rfl h10,
    result_of_writes_ne _ _ main_call0_v9 r rfl h9]

/-- What they write. -/
theorem back_table (V : Valuation τ sig (Elt Ideal)) :
    after back V (Proc.devRef .tc main_call0_v9) = V (Proc.devRef .tc main_call0_v8) := by
  unfold back hostOps0
  simp only [List.drop_succ_cons, List.drop_zero]
  rw [after_cons, after_cons, after_cons, after_nil]
  rw [result_of_writes_ne _ _ main_call0_v11 main_call0_v9 rfl (by decide),
    result_of_writes_ne _ _ main_call0_v10 main_call0_v9 rfl (by decide)]
  exact unary_result ..

/-- A selection matrix is rounded without loss. -/
theorem back_even (V : Valuation τ sig (Elt Ideal)) (q : Fin 384) (s : Fin 192) :
    (after back V (Proc.devRef .tc main_call0_v10) : FVec Ideal S384x192 .bf16) (ix2 q s)
      = (V (Proc.devRef .tc main_call0_cst) : FVec Ideal S384x192 .f32) (ix2 q s) := by
  unfold back hostOps0
  simp only [List.drop_succ_cons, List.drop_zero]
  rw [after_cons, after_cons, after_cons, after_nil]
  rw [result_of_writes_ne _ _ main_call0_v11 main_call0_v10 rfl (by decide)]
  refine (congrFun (unary_result ..) _).trans ?_
  rw [result_of_writes_ne _ _ main_call0_v9 main_call0_cst rfl (by decide)]
  rfl

/-- So is the second selection matrix. -/
theorem back_odd (V : Valuation τ sig (Elt Ideal)) (q : Fin 384) (s : Fin 192) :
    (after back V (Proc.devRef .tc main_call0_v11) : FVec Ideal S384x192 .bf16) (ix2 q s)
      = (V (Proc.devRef .tc main_call0_cst_0) : FVec Ideal S384x192 .f32) (ix2 q s) := by
  unfold back hostOps0
  simp only [List.drop_succ_cons, List.drop_zero]
  rw [after_cons, after_cons, after_cons, after_nil]
  refine (congrFun (unary_result ..) _).trans ?_
  rw [result_of_writes_ne _ _ main_call0_v10 main_call0_cst_0 rfl (by decide),
    result_of_writes_ne _ _ main_call0_v9 main_call0_cst_0 rfl (by decide)]
  rfl

variable {V : Valuation τ sig (Elt Ideal)}

/-- The argument's rows in pairs. -/
theorem rows (E : Eqns V front) (b : Fin 4) (c : Fin 96) (r : Fin 192) (q : Fin 384) :
    (V (Proc.devRef .tc main_call0_v0) : Vec Ideal S4x96x192x768 .f32) (ix4 b c r (lo q))
        = (V (Proc.devRef .tc main_arg0) : Vec Ideal S4x96x384x384 .f32) (ix4 b c (⟨2 * r.val, by omega⟩ : Fin 384) q)
      ∧ (V (Proc.devRef .tc main_call0_v0) : Vec Ideal S4x96x192x768 .f32) (ix4 b c r (hi q))
        = (V (Proc.devRef .tc main_arg0) : Vec Ideal S4x96x384x384 .f32) (ix4 b c (⟨2 * r.val + 1, by omega⟩ : Fin 384) q) := by
  unfold front hostOps0 at E
  simp only [List.take_succ_cons, List.take_zero] at E
  obtain ⟨-, -, -, e, -⟩ := E
  have h := eqn_reshape e
  clear e
  change (V (Proc.devRef .tc main_call0_v0) : Vec Ideal S4x96x192x768 .f32) = _ at h
  rw [h]
  clear h
  change _ ∧ _
  generalize hx : rd V (.of main_arg0 : TRef sig ⟨S4x96x384x384, .f32⟩) = x
  change (V (Proc.devRef .tc main_arg0) : Vec Ideal S4x96x384x384 .f32) = x at hx
  rw [hx]
  clear hx
  constructor
  · pointwise
    refine congrArg₂ (fun i j => x (ix4 b c i j)) (Fin.ext ?_) (Fin.ext ?_)
    · show r.val * 2 + q.val / 384 = 2 * r.val
      omega
    · show q.val % 384 = q.val
      omega
  · pointwise
    refine congrArg₂ (fun i j => x (ix4 b c i j)) (Fin.ext ?_) (Fin.ext ?_)
    · show r.val * 2 + (384 + q.val) / 384 = 2 * r.val + 1
      omega
    · show (384 + q.val) % 384 = q.val
      omega

/-- The generator's key. -/
theorem table (E : Eqns V front) :
    (V (Proc.devRef .tc main_call0_v8) : IVec S2 32) (ix1 0) = key.1
      ∧ (V (Proc.devRef .tc main_call0_v8) : IVec S2 32) (ix1 1) = key.2 := by
  unfold front hostOps0 at E
  simp only [List.take_succ_cons, List.take_zero] at E
  obtain ⟨-, -, -, -, s0, s1, s2, s3, s4, s5, s6, s7, s8, s9, e7, e0, e1, e2, e3, e4, e5, e6, x7, x8, x9, x10, x11, x12, E⟩ := E
  obtain ⟨hk, p, E⟩ := start_step (fun a => a.elim0) E
  iterate 4 obtain ⟨p, E⟩ := rnd_step p (by decide) (by decide) E
  obtain ⟨p, E⟩ := inj_step (fun a => a.elim0) p E
  iterate 4 obtain ⟨p, E⟩ := rnd_step p (by decide) (by decide) E
  obtain ⟨p, E⟩ := inj_step (fun a => a.elim0) p E
  iterate 4 obtain ⟨p, E⟩ := rnd_step p (by decide) (by decide) E
  obtain ⟨p, E⟩ := inj_step (fun a => a.elim0) p E
  iterate 4 obtain ⟨p, E⟩ := rnd_step p (by decide) (by decide) E
  obtain ⟨p, E⟩ := inj_step (fun a => a.elim0) p E
  iterate 4 obtain ⟨p, E⟩ := rnd_step p (by decide) (by decide) E
  obtain ⟨p, E⟩ := inj_step (fun a => a.elim0) p E
  obtain ⟨e13, -⟩ := E
  have t : ((rd V (.of main_call0_call0_v11_0 : TRef sig ⟨S1, .i32⟩) (ix1 0),
      rd V (.of main_call0_call0_v11_1 : TRef sig ⟨S1, .i32⟩) (ix1 0)) : W × W)
      = tf (rd V (.of main_call0_call0_v6 : TRef sig ⟨S_, .i32⟩) (fun a => a.elim0))
        (rd V (.of main_call0_call0_v8 : TRef sig ⟨S_, .i32⟩) (fun a => a.elim0))
        (rd V (.of main_call0_call0_v9 : TRef sig ⟨S1, .i32⟩) (ix1 0))
        (rd V (.of main_call0_call0_v10 : TRef sig ⟨S1, .i32⟩) (ix1 0)) := by
    rw [p (ix1 0), hk]
    rfl
  clear p hk
  have h0 : (rd V (.of main_call0_v7 : TRef sig ⟨S2, .i32⟩) : IVec S2 32) (ix1 0) = IntOp.shrui .host 0#32 32#32 := by
    rw [eqn_binary s9, eqn_unary s4, eqn_unary s3, eqn_binary s2, eqn_nullary s1, eqn_nullary s0]
    simp only [id]
    pointwise
  have h1 : (rd V (.of main_call0_v7 : TRef sig ⟨S2, .i32⟩) : IVec S2 32) (ix1 1) = IntOp.andi 0#32 4294967295#32 := by
    rw [eqn_binary s9, eqn_unary s8, eqn_unary s7, eqn_binary s6, eqn_nullary s5, eqn_nullary s0]
    simp only [id]
    pointwise
  clear s0 s1 s2 s3 s4 s5 s6 s7 s8 s9
  have h8 := eqn_binary e13
  change (V (Proc.devRef .tc main_call0_v8) : IVec S2 32) = _ at h8
  rw [h8]
  clear h8 e13
  simp only [eqn_reshape x8, eqn_unary x7, eqn_reshape x10, eqn_unary x9, eqn_unary x11, eqn_unary x12, eqn_binary e6] at t
  clear x7 x8 x9 x10 x11 x12
  pointwise at t
  simp only [eqn_unary e5, eqn_binary e4, eqn_nullary e3, eqn_unary e2, eqn_binary e1, eqn_nullary e0, eqn_nullary e7,
    h0, h1] at t
  clear e0 e1 e2 e3 e4 e5 e6 e7 h0 h1
  pointwise at t
  obtain ⟨t0, t1⟩ := Prod.ext_iff.mp t
  constructor
  · pointwise
    exact t0
  · pointwise
    exact t1

/-- The lane counters. -/
theorem pattern (E : Eqns V front) (k : Fin 5) (s : Fin 192) :
    (V (Proc.devRef .tc main_call0_c) : IVec S1x960 32) (ix2 0 (lane k s)) = BitVec.ofNat 32 (5 * s.val + k.val) := by
  unfold front hostOps0 at E
  simp only [List.take_succ_cons, List.take_zero] at E
  obtain ⟨-, -, e, -⟩ := E
  have h := eqn_nullary e
  clear e
  change (V (Proc.devRef .tc main_call0_c) : IVec S1x960 32) = _ at h
  rw [h, ← KernLits.lanes k s]
  show lit2t _ = lit2t _
  congr 1
  refine (Shape.rowMajor_val_two (d := ![1, 960]) _).trans ?_
  show 0 * 960 + (192 * k.val + s.val) = 192 * k.val + s.val
  omega

/-- The word of one and the word of zero. -/
theorem one_word : Ideal.ofBits .f32 0x3F800000#32 = (1 : EReal) := by
  pointwise

/-- The pattern of zero is zero. -/
theorem zero_word : Ideal.ofBits .f32 0#32 = (0 : EReal) := by
  pointwise

/-- The even selection matrix. -/
theorem evens (E : Eqns V front) (q : Fin 384) (s : Fin 192) :
    (V (Proc.devRef .tc main_call0_cst) : FVec Ideal S384x192 .f32) (ix2 q s) = if q = ev s then (1 : EReal) else 0 := by
  unfold front hostOps0 at E
  simp only [List.take_succ_cons, List.take_zero] at E
  obtain ⟨e, -⟩ := E
  have h := eqn_nullary e
  clear e
  change (V (Proc.devRef .tc main_call0_cst) : FVec Ideal S384x192 .f32) = _ at h
  rw [h]
  clear h
  show Ideal.ofBits .f32 (lit0t _) = _
  have hr : (S384x192.rowMajor.1 (ix2 q s)).val = q.val * 192 + s.val := Shape.rowMajor_val_two (d := ![384, 192]) _
  refine (congrArg (fun i => Ideal.ofBits .f32 (lit0t i)) hr).trans ?_
  show Ideal.ofBits .f32 (lit0t (q.val * 192 + s.val)) = _
  rw [KernEven.entry q s, apply_ite (Ideal.ofBits .f32), one_word, zero_word]
  exact if_congr (by rw [Fin.ext_iff]; exact Iff.rfl) rfl rfl

/-- The odd selection matrix. -/
theorem odds (E : Eqns V front) (q : Fin 384) (s : Fin 192) :
    (V (Proc.devRef .tc main_call0_cst_0) : FVec Ideal S384x192 .f32) (ix2 q s) = if q = od s then (1 : EReal) else 0 := by
  unfold front hostOps0 at E
  simp only [List.take_succ_cons, List.take_zero] at E
  obtain ⟨-, e, -⟩ := E
  have h := eqn_nullary e
  clear e
  change (V (Proc.devRef .tc main_call0_cst_0) : FVec Ideal S384x192 .f32) = _ at h
  rw [h]
  clear h
  show Ideal.ofBits .f32 (lit1t _) = _
  have hr : (S384x192.rowMajor.1 (ix2 q s)).val = q.val * 192 + s.val := Shape.rowMajor_val_two (d := ![384, 192]) _
  refine (congrArg (fun i => Ideal.ofBits .f32 (lit1t i)) hr).trans ?_
  show Ideal.ofBits .f32 (lit1t (q.val * 192 + s.val)) = _
  rw [KernOdd.entry q s, apply_ite (Ideal.ofBits .f32), one_word, zero_word]
  exact if_congr (by rw [Fin.ext_iff]; exact Iff.rfl) rfl rfl

end Cert.KernEntry

end
-- ==== Proof.KernGeom.lean ====
/-
  Where the kernel's blocks lie in their arrays: at a grid point the image's and the results' blocks are the point's image,
  the other operands' blocks are the operands whole. The results' blocks cover their arrays.
-/
module

public import proofs.«01_k».proof.Proof.Spec
public import proofs.«01_k».proof.Proof.Gen.KernelIdeal.Frame
public import Idealize.ShloMosaic.Lib.Pipeline.Value
public import Idealize.ShloMosaic.Lib.Pipeline.Covers

@[expose] public section

set_option maxRecDepth 65536
set_option maxHeartbeats 1000000

noncomputable section

namespace Cert.KernGeom

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (hO : Ok m)

/-- Grid point `t` works on channel `ch` of batch entry `b`. -/
def On (t : Fin (cfgM m hO).N) (b : Fin 4) (ch : Fin 96) : Prop :=
  (grid0.coords t 0).val = b.val ∧ (grid0.coords t 1).val = ch.val ∧ (grid0.coords t 2).val = 0

/-- Every grid point works on one of them, -/
theorem on_some (t : Fin (cfgM m hO).N) : ∃ b ch, On m hO t b ch :=
  ⟨⟨(grid0.coords t 0).val, (grid0.coords t 0).isLt⟩, ⟨(grid0.coords t 1).val, (grid0.coords t 1).isLt⟩, rfl, rfl,
    Nat.lt_one_iff.mp (grid0.coords t 2).isLt⟩

/-- and every one of them has a grid point. -/
theorem has_point (b : Fin 4) (ch : Fin 96) : ∃ t, On m hO t b ch := by
  obtain ⟨t, ht⟩ := grid0.coords_surjective fun a => match a with
    | ⟨0, _⟩ => (b : Fin 4)
    | ⟨1, _⟩ => (ch : Fin 96)
    | ⟨2, _⟩ => (0 : Fin 1)
  exact ⟨t, by show (grid0.coords t 0).val = _; rw [ht], by show (grid0.coords t 1).val = _; rw [ht],
    by show (grid0.coords t 2).val = _; rw [ht]; rfl⟩

variable {m hO} {t : Fin (cfgM m hO).N} {b : Fin 4} {ch : Fin 96}

/-- The printed index map of the image and of the results, at such a point. -/
theorem place (h : On m hO t b ch) : (BitVec.ofNat 32 (grid0.coords t 0).val).toNat = b.val
    ∧ (BitVec.ofNat 32 (grid0.coords t 1).val).toNat = ch.val ∧ (BitVec.ofNat 32 (grid0.coords t 2).val).toNat = 0 := by
  obtain ⟨h0, h1, h2⟩ := h
  rw [h0, h1, h2]
  refine ⟨?_, ?_, rfl⟩
  · rw [BitVec.toNat_ofNat]
    exact Nat.mod_eq_of_lt (by omega)
  · rw [BitVec.toNat_ofNat]
    exact Nat.mod_eq_of_lt (by omega)

/-- Where an entry of the point's input block stands in the input array. -/
theorem emb0 (h : On m hO t b ch) (r : Fin 192) (l : Fin 768) :
    (((cfgM m hO).win 0).blk t).view.emb (show S1x1x192x768.Idx from ix4 0 0 r l)
      = (show S4x96x192x768.Idx from ix4 b ch r l) := by
  obtain ⟨h0, h1, h2⟩ := place h
  funext a
  apply Fin.ext
  match a with
  | ⟨0, _⟩ => show (BitVec.ofNat 32 (grid0.coords t 0).val).toNat * 1 + 1 * 0 = b.val; omega
  | ⟨1, _⟩ => show (BitVec.ofNat 32 (grid0.coords t 1).val).toNat * 1 + 1 * 0 = ch.val; omega
  | ⟨2, _⟩ => show (BitVec.ofNat 32 (grid0.coords t 2).val).toNat * 192 + 1 * r.val = r.val; omega
  | ⟨3, _⟩ => show 0 * 768 + 1 * l.val = l.val; omega

/-- Where an entry of its kept values' block stands in the array of them. -/
theorem emb4 (h : On m hO t b ch) (r : Fin 192) (l : Fin 768) :
    (((cfgM m hO).win 4).blk t).view.emb (show S1x1x192x768.Idx from ix4 0 0 r l)
      = (show S4x96x192x768.Idx from ix4 b ch r l) := by
  obtain ⟨h0, h1, h2⟩ := place h
  funext a
  apply Fin.ext
  match a with
  | ⟨0, _⟩ => show (BitVec.ofNat 32 (grid0.coords t 0).val).toNat * 1 + 1 * 0 = b.val; omega
  | ⟨1, _⟩ => show (BitVec.ofNat 32 (grid0.coords t 1).val).toNat * 1 + 1 * 0 = ch.val; omega
  | ⟨2, _⟩ => show (BitVec.ofNat 32 (grid0.coords t 2).val).toNat * 192 + 1 * r.val = r.val; omega
  | ⟨3, _⟩ => show 0 * 768 + 1 * l.val = l.val; omega

/-- Where an entry of its pooled values' block stands in the array of them. -/
theorem emb5 (h : On m hO t b ch) (r s : Fin 192) :
    (((cfgM m hO).win 5).blk t).view.emb (show S1x1x192x192.Idx from ix4 0 0 r s)
      = (show S4x96x192x192.Idx from ix4 b ch r s) := by
  obtain ⟨h0, h1, h2⟩ := place h
  funext a
  apply Fin.ext
  match a with
  | ⟨0, _⟩ => show (BitVec.ofNat 32 (grid0.coords t 0).val).toNat * 1 + 1 * 0 = b.val; omega
  | ⟨1, _⟩ => show (BitVec.ofNat 32 (grid0.coords t 1).val).toNat * 1 + 1 * 0 = ch.val; omega
  | ⟨2, _⟩ => show (BitVec.ofNat 32 (grid0.coords t 2).val).toNat * 192 + 1 * r.val = r.val; omega
  | ⟨3, _⟩ => show 0 * 192 + 1 * s.val = s.val; omega

/-- Where an entry of its winners' block stands in the array of them. -/
theorem emb6 (h : On m hO t b ch) (r s : Fin 192) :
    (((cfgM m hO).win 6).blk t).view.emb (show S1x1x192x192.Idx from ix4 0 0 r s)
      = (show S4x96x192x192.Idx from ix4 b ch r s) := by
  obtain ⟨h0, h1, h2⟩ := place h
  funext a
  apply Fin.ext
  match a with
  | ⟨0, _⟩ => show (BitVec.ofNat 32 (grid0.coords t 0).val).toNat * 1 + 1 * 0 = b.val; omega
  | ⟨1, _⟩ => show (BitVec.ofNat 32 (grid0.coords t 1).val).toNat * 1 + 1 * 0 = ch.val; omega
  | ⟨2, _⟩ => show (BitVec.ofNat 32 (grid0.coords t 2).val).toNat * 192 + 1 * r.val = r.val; omega
  | ⟨3, _⟩ => show 0 * 192 + 1 * s.val = s.val; omega

/-- The image's block, entry by entry. -/
theorem image (c : Dev nD) (h : On m hO t b ch) (r : Fin 192) (l : Fin 768) :
    (iblk m hO c 0 t : Vec Ideal S1x1x192x768 .f32) (ix4 0 0 r l)
      = (V m c main_call0_v0 : Vec Ideal S4x96x192x768 .f32) (ix4 b ch r l) :=
  congrArg (V m c main_call0_v0 : Vec Ideal S4x96x192x768 .f32) (emb0 h r l)

/-- The operands that are one block. -/
theorem even_block (c : Dev nD) (q : Fin 384) (s : Fin 192) :
    (iblk m hO c 1 t : FVec Ideal S384x192 .bf16) (ix2 q s) = (V m c main_call0_v10 : FVec Ideal S384x192 .bf16) (ix2 q s) := by
  refine congrArg (V m c main_call0_v10 : FVec Ideal S384x192 .bf16) ?_
  funext a
  apply Fin.ext
  match a with
  | ⟨0, _⟩ => show 0 * 384 + 1 * q.val = q.val; omega
  | ⟨1, _⟩ => show 0 * 192 + 1 * s.val = s.val; omega

/-- The point's second selection matrix is the whole one. -/
theorem odd_block (c : Dev nD) (q : Fin 384) (s : Fin 192) :
    (iblk m hO c 2 t : FVec Ideal S384x192 .bf16) (ix2 q s) = (V m c main_call0_v11 : FVec Ideal S384x192 .bf16) (ix2 q s) := by
  refine congrArg (V m c main_call0_v11 : FVec Ideal S384x192 .bf16) ?_
  funext a
  apply Fin.ext
  match a with
  | ⟨0, _⟩ => show 0 * 384 + 1 * q.val = q.val; omega
  | ⟨1, _⟩ => show 0 * 192 + 1 * s.val = s.val; omega

/-- The point's lane counters are all of them. -/
theorem lane_block (c : Dev nD) (l : Fin 960) :
    (iblk m hO c 3 t : IVec S1x960 32) (ix2 0 l) = (V m c main_call0_c : IVec S1x960 32) (ix2 0 l) := by
  refine congrArg (V m c main_call0_c : IVec S1x960 32) ?_
  funext a
  apply Fin.ext
  match a with
  | ⟨0, _⟩ => show 0 * 1 + 1 * 0 = 0; omega
  | ⟨1, _⟩ => show 0 * 960 + 1 * l.val = l.val; omega

/-- An index of a block by its coordinates. -/
theorem split {p q : Nat} (y : (⟨4, ![1, 1, p, q]⟩ : Shape).Idx) :
    ∃ (r : Fin p) (s : Fin q), y = ix4 0 0 r s :=
  ⟨y 2, y 3, funext fun a => match a with
    | ⟨0, _⟩ => Subsingleton.elim (α := Fin 1) _ _
    | ⟨1, _⟩ => Subsingleton.elim (α := Fin 1) _ _
    | ⟨2, _⟩ => rfl
    | ⟨3, _⟩ => rfl⟩

/-- An index of a whole array by its coordinates. -/
theorem split_all {n k p q : Nat} (y : (⟨4, ![n, k, p, q]⟩ : Shape).Idx) :
    ∃ (b : Fin n) (c : Fin k) (r : Fin p) (s : Fin q), y = ix4 b c r s :=
  ⟨y 0, y 1, y 2, y 3, funext fun a => match a with
    | ⟨0, _⟩ => rfl
    | ⟨1, _⟩ => rfl
    | ⟨2, _⟩ => rfl
    | ⟨3, _⟩ => rfl⟩

variable (m hO)

/-- The kept values' array after the run, from what each point leaves in its block. -/
theorem final4 (c : Dev nD) (G : Vec Ideal S4x96x192x768 .f32)
    (h : ∀ t b ch, On m hO t b ch → ∀ (r : Fin 192) (l : Fin 768), (outsAt0 m hO c t).1 (ix4 0 0 r l) = G (ix4 b ch r l)) :
    (dats m hO 0 c).arrAt 4 (cfgM m hO).N = G := by
  refine (dats m hO 0 c).arrAt_eq_of_cover 4 G (fun t _ => ?_) fun i => ?_
  · obtain ⟨b, ch, ht⟩ := on_some m hO t
    funext y
    obtain ⟨r, l, rfl⟩ := split (p := 192) (q := 768) y
    show (dats m hO 0 c).after 4 t (show S1x1x192x768.Idx from ix4 0 0 r l) = G _
    rw [after0_4]
    exact (h t b ch ht r l).trans (congrArg G (emb4 ht r l).symm)
  · obtain ⟨b, ch, r, l, rfl⟩ := split_all (n := 4) (k := 96) (p := 192) (q := 768) i
    obtain ⟨t, ht⟩ := has_point m hO b ch
    exact ⟨t, flush0_4 (adm m hO) t,
      Eq.mp (congrArg (fun j => j ∈ (((cfgM m hO).win 4).blk t).view.set) (emb4 ht r l)) (View.emb_mem_set _ _)⟩

/-- The pooled values' array, likewise. -/
theorem final5 (c : Dev nD) (G : Vec Ideal S4x96x192x192 .f32)
    (h : ∀ t b ch, On m hO t b ch → ∀ (r s : Fin 192), (outsAt0 m hO c t).2.1 (ix4 0 0 r s) = G (ix4 b ch r s)) :
    (dats m hO 0 c).arrAt 5 (cfgM m hO).N = G := by
  refine (dats m hO 0 c).arrAt_eq_of_cover 5 G (fun t _ => ?_) fun i => ?_
  · obtain ⟨b, ch, ht⟩ := on_some m hO t
    funext y
    obtain ⟨r, l, rfl⟩ := split (p := 192) (q := 192) y
    show (dats m hO 0 c).after 5 t (show S1x1x192x192.Idx from ix4 0 0 r l) = G _
    rw [after0_5]
    exact (h t b ch ht r l).trans (congrArg G (emb5 ht r l).symm)
  · obtain ⟨b, ch, r, l, rfl⟩ := split_all (n := 4) (k := 96) (p := 192) (q := 192) i
    obtain ⟨t, ht⟩ := has_point m hO b ch
    exact ⟨t, flush0_5 (adm m hO) t,
      Eq.mp (congrArg (fun j => j ∈ (((cfgM m hO).win 5).blk t).view.set) (emb5 ht r l)) (View.emb_mem_set _ _)⟩

/-- The winners' array, likewise. -/
theorem final6 (c : Dev nD) (G : Vec Ideal S4x96x192x192 .i32)
    (h : ∀ t b ch, On m hO t b ch → ∀ (r s : Fin 192), (outsAt0 m hO c t).2.2 (ix4 0 0 r s) = G (ix4 b ch r s)) :
    (dats m hO 0 c).arrAt 6 (cfgM m hO).N = G := by
  refine (dats m hO 0 c).arrAt_eq_of_cover 6 G (fun t _ => ?_) fun i => ?_
  · obtain ⟨b, ch, ht⟩ := on_some m hO t
    funext y
    obtain ⟨r, l, rfl⟩ := split (p := 192) (q := 192) y
    show (dats m hO 0 c).after 6 t (show S1x1x192x192.Idx from ix4 0 0 r l) = G _
    rw [after0_6]
    exact (h t b ch ht r l).trans (congrArg G (emb6 ht r l).symm)
  · obtain ⟨b, ch, r, l, rfl⟩ := split_all (n := 4) (k := 96) (p := 192) (q := 192) i
    obtain ⟨t, ht⟩ := has_point m hO b ch
    exact ⟨t, flush0_6 (adm m hO) t,
      Eq.mp (congrArg (fun j => j ∈ (((cfgM m hO).win 6).blk t).view.set) (emb6 ht r l)) (View.emb_mem_set _ _)⟩

end Cert.KernGeom

end
-- ==== Proof.RefThreefry.lean ====
/-
  The reference's two functions `threefry2x32`, read as the generator at every index.
-/
module

public import proofs.«01_k».proof.Proof.RefLine
public import proofs.«01_k».proof.Proof.Threefry

@[expose] public section

set_option maxRecDepth 65536
set_option maxHeartbeats 4000000

noncomputable section

namespace Cert.RefThreefry

open Idealize.ShloMosaic Idealize.ShloMosaic.StableHlo Cert.Straight Cert.Threefry Cert.ReferenceIdeal

variable {V : Valuation τ sig (Elt Ideal)}

/-- On one element. -/
theorem tf1 (a0 a1 : TRef sig ⟨S_, .i32⟩) (a2 a3 : TRef sig ⟨S1, .i32⟩) (φ : fn_threefry2x32.Bufs) (k : S_.Idx)
    (E : Eqns V (RefLine.tf1 (F := Ideal) a0 a1 a2 a3 φ).1) :
    ∀ i, ((rd V φ.v171 i, rd V φ.v175 i) : W × W) = tf (rd V a0 k) (rd V a1 k) (rd V a2 i) (rd V a3 i) := by
  unfold RefLine.tf1 RefLine.tf1_0 RefLine.tf1_1 RefLine.tf1_2 RefLine.tf1_3 at E
  simp only [List.cons_append, List.nil_append] at E
  obtain ⟨hk, p, E⟩ := start_step k E
  iterate 4 obtain ⟨p, E⟩ := rnd_step p (by decide) (by decide) E
  obtain ⟨p, E⟩ := inj_step k p E
  iterate 4 obtain ⟨p, E⟩ := rnd_step p (by decide) (by decide) E
  obtain ⟨p, E⟩ := inj_step k p E
  iterate 4 obtain ⟨p, E⟩ := rnd_step p (by decide) (by decide) E
  obtain ⟨p, E⟩ := inj_step k p E
  iterate 4 obtain ⟨p, E⟩ := rnd_step p (by decide) (by decide) E
  obtain ⟨p, E⟩ := inj_step k p E
  iterate 4 obtain ⟨p, E⟩ := rnd_step p (by decide) (by decide) E
  obtain ⟨p, E⟩ := inj_step k p E
  intro i
  rw [p i, hk]
  rfl

/-- On the whole counter array. -/
theorem tfN (a0 a1 : TRef sig ⟨S_, .i32⟩) (a2 a3 : TRef sig ⟨S4x96x36864x5, .i32⟩) (φ : fn_threefry2x32_0.Bufs) (k : S_.Idx)
    (E : Eqns V (RefLine.tfN (F := Ideal) a0 a1 a2 a3 φ).1) :
    ∀ i, ((rd V φ.v171 i, rd V φ.v175 i) : W × W) = tf (rd V a0 k) (rd V a1 k) (rd V a2 i) (rd V a3 i) := by
  unfold RefLine.tfN RefLine.tfN_0 RefLine.tfN_1 RefLine.tfN_2 RefLine.tfN_3 at E
  simp only [List.cons_append, List.nil_append] at E
  obtain ⟨hk, p, E⟩ := start_step k E
  iterate 4 obtain ⟨p, E⟩ := rnd_step p (by decide) (by decide) E
  obtain ⟨p, E⟩ := inj_step k p E
  iterate 4 obtain ⟨p, E⟩ := rnd_step p (by decide) (by decide) E
  obtain ⟨p, E⟩ := inj_step k p E
  iterate 4 obtain ⟨p, E⟩ := rnd_step p (by decide) (by decide) E
  obtain ⟨p, E⟩ := inj_step k p E
  iterate 4 obtain ⟨p, E⟩ := rnd_step p (by decide) (by decide) E
  obtain ⟨p, E⟩ := inj_step k p E
  iterate 4 obtain ⟨p, E⟩ := rnd_step p (by decide) (by decide) E
  obtain ⟨p, E⟩ := inj_step k p E
  intro i
  rw [p i, hk]
  rfl

end Cert.RefThreefry

end
-- ==== Proof.RefUniform.lean ====
/-
  The reference's key and its uniform draw, read at an index.
-/
module

public import proofs.«01_k».proof.Proof.RefThreefry
public import proofs.«01_k».proof.Proof.Spec
public import Idealize.ShloMosaic.Lib.Pointwise

@[expose] public section

set_option maxRecDepth 65536
set_option maxHeartbeats 4000000

noncomputable section

namespace Cert.RefUniform

open Idealize.ShloMosaic Idealize.ShloMosaic.StableHlo Cert.Straight Cert.Threefry Cert.Spec Cert.ReferenceIdeal

variable {V : Valuation τ sig (Elt Ideal)}

/-- Folding the word seven into the seed's key gives the generator's key. -/
theorem foldIn (a0 : TRef sig ⟨S2, .i32⟩) (a1 : TRef sig ⟨S_, .i32⟩) (φ : fn_threefry_fold_in.Bufs)
    (E : Eqns V (RefLine.foldIn (F := Ideal) a0 a1 φ).1)
    (h0 : rd V a0 (ix1 0) = IntOp.shrui .host 0#32 32#32) (h1 : rd V a0 (ix1 1) = IntOp.andi 0#32 4294967295#32)
    (h7 : rd V a1 = constantI S_ 32 7#32) :
    rd V φ.v12 (ix1 0) = key.1 ∧ rd V φ.v12 (ix1 1) = key.2 := by
  simp only [RefLine.foldIn, Eqns] at E
  obtain ⟨e0, e1, e2, e3, e4, e5, e6, e7, e8, e9, e10, e11, e12, E⟩ := E
  obtain ⟨E, e13, -⟩ := eqns_append E
  have t := RefThreefry.tf1 _ _ _ _ _ (fun a => a.elim0) E (ix1 0)
  simp only [eqn_nullary e0, eqn_binary e1, eqn_unary e2, eqn_nullary e3, eqn_binary e4, eqn_unary e5, eqn_binary e6,
    eqn_unary e7, eqn_reshape e8, eqn_unary e9, eqn_reshape e10, eqn_unary e11, eqn_unary e12, h7] at t
  rw [eqn_binary e13]
  pointwise at t
  simp only [eqn_unary e2, eqn_unary e5, eqn_binary e1, eqn_binary e4, eqn_nullary e0, eqn_nullary e3, h7, h0, h1] at t
  pointwise at t
  obtain ⟨t0, t1⟩ := Prod.ext_iff.mp t
  constructor
  · pointwise
    exact t0
  · pointwise
    exact t1

/-- The 64-bit counter of an index is a number below two to the 32. -/
theorem counter_eq (b : Fin 4) (c : Fin 96) (p : Fin 36864) (k : Fin 5) :
    IntOp.addi (IntOp.addi (IntOp.addi (IntOp.muli 17694720#64 (BitVec.ofNat 64 b.val))
      (IntOp.muli 184320#64 (BitVec.ofNat 64 c.val))) (IntOp.muli 5#64 (BitVec.ofNat 64 p.val)))
      (IntOp.muli 1#64 (BitVec.ofNat 64 k.val))
      = BitVec.ofNat 64 (17694720 * b.val + 184320 * c.val + 5 * p.val + k.val) := by
  simp only [IntOp.addi, IntOp.muli, ← BitVec.ofNat_mul, ← BitVec.ofNat_add, one_mul]

/-- Its low word is the counter. -/
theorem lo_eq (b : Fin 4) (c : Fin 96) (p : Fin 36864) (k : Fin 5) :
    BitVec.setWidth 32 (IntOp.addi (IntOp.addi (IntOp.addi (IntOp.muli 17694720#64 (BitVec.ofNat 64 b.val))
      (IntOp.muli 184320#64 (BitVec.ofNat 64 c.val))) (IntOp.muli 5#64 (BitVec.ofNat 64 p.val)))
      (IntOp.muli 1#64 (BitVec.ofNat 64 k.val))) = ctr b c p k := by
  rw [counter_eq, ctr]
  apply BitVec.eq_of_toNat_eq
  simp only [BitVec.toNat_setWidth, BitVec.toNat_ofNat]
  omega

/-- Its high word is zero. -/
theorem hi_eq (b : Fin 4) (c : Fin 96) (p : Fin 36864) (k : Fin 5) :
    BitVec.setWidth 32 (IntOp.shrui .host (IntOp.addi (IntOp.addi (IntOp.addi (IntOp.muli 17694720#64 (BitVec.ofNat 64 b.val))
      (IntOp.muli 184320#64 (BitVec.ofNat 64 c.val))) (IntOp.muli 5#64 (BitVec.ofNat 64 p.val)))
      (IntOp.muli 1#64 (BitVec.ofNat 64 k.val))) 32#64) = 0#32 := by
  rw [counter_eq, IntOp.shrui, if_pos (by decide)]
  apply BitVec.eq_of_toNat_eq
  simp only [BitVec.toNat_setWidth, BitVec.ushiftRight_eq', BitVec.toNat_ushiftRight, BitVec.toNat_ofNat,
    Nat.shiftRight_eq_div_pow]
  have h : 17694720 * b.val + 184320 * c.val + 5 * p.val + k.val < 2 ^ 32 := by omega
  rw [Nat.mod_eq_of_lt (show 32 < 2 ^ 64 by decide), Nat.mod_eq_of_lt (h.trans (by decide)), Nat.div_eq_of_lt h]

/-- The uniform draw at an index: both words of the 64-bit counter go through the generator, and their exclusive or is
    turned into a number. -/
theorem uniform (a0 : TRef sig ⟨S2, .i32⟩) (a1 a2 : TRef sig ⟨S_, .f32⟩) (φ : fn_uniform.Bufs)
    (E : Eqns V (RefLine.uniform (F := Ideal) a0 a1 a2 φ).1)
    (h0 : rd V a0 (ix1 0) = key.1) (h1 : rd V a0 (ix1 1) = key.2)
    (ha : rd V a1 = constant (F := Ideal) S_ .f32 0x00000000#32) (hb : rd V a2 = constant (F := Ideal) S_ .f32 0x3F800000#32)
    (b : Fin 4) (c : Fin 96) (p : Fin 36864) (k : Fin 5) :
    rd V φ.v42 (ix4 b c p k) = unif (bits (ctr b c p k)) := by
  simp only [RefLine.uniform, Eqns] at E
  obtain ⟨e0, e1, e2, e3, e4, e5, e6, e7, e8, e9, e10, e11, ec, e12, e13, ec0, e14, e15, ec1, e16, e17, ec2, e18, e19,
    e20, e21, e22, ec3, e23, e24, e25, e26, E⟩ := E
  obtain ⟨E, e28, ec4, e29, e30, ec5, e31, e32, e33, ecs, e34, e35, e36, e37, e38, e39, e40, e41, e42, -⟩ := eqns_append E
  have t := RefThreefry.tfN _ _ _ _ _ (fun a => a.elim0) E (ix4 b c p k)
  simp only [eqn_unary e4, eqn_reshape e5, eqn_unary e6, eqn_reshape e7, eqn_nullary e8, eqn_nullary e9, eqn_nullary e10,
    eqn_nullary e11, eqn_nullary ec, eqn_nullary ec0, eqn_nullary ec1, eqn_nullary ec2, eqn_nullary ec3, eqn_unary e12,
    eqn_unary e14, eqn_unary e16, eqn_unary e18, eqn_unary e23, eqn_binary e13, eqn_binary e15, eqn_binary e17,
    eqn_binary e19, eqn_binary e20, eqn_binary e21, eqn_binary e22, eqn_binary e24, eqn_unary e25, eqn_unary e26] at t
  pointwise at t
  rw [h0, h1] at t
  rw [lo_eq, hi_eq] at t
  obtain ⟨t0, t1⟩ := Prod.ext_iff.mp t
  simp only [eqn_binary e28, eqn_nullary ec4, eqn_nullary ec5, eqn_unary e29, eqn_binary e30, eqn_unary e31, eqn_binary e32,
    eqn_unary e33, eqn_nullary ecs, eqn_unary e34, eqn_binary e35, eqn_binary e36, eqn_unary e37, eqn_binary e38,
    eqn_unary e39, eqn_binary e40, eqn_unary e41, eqn_binary e42, eqn_unary e0, eqn_unary e1, eqn_unary e2, eqn_unary e3,
    ha, hb]
  simp only [id]
  pointwise
  simp only at t0 t1
  simp only [t0, t1, sub_zero, mul_one, add_zero]
  rw [shr_lit .host _ 9#32 (by decide)]
  rfl

end Cert.RefUniform

end
-- ==== Proof.Pick.lean ====
/-
  The first greatest of five scores, as a fold and as a chain of comparisons.
-/
module

public import proofs.«01_k».proof.Proof.Spec

@[expose] public section

noncomputable section

namespace Cert.Pick

open Idealize.ShloMosaic Cert.Threefry Cert.Spec

/-- One pair beats another: its score is greater, or equal at no greater a position. -/
def Beats (r p : EReal × W) : Prop := p.1 < r.1 ∨ (p.1 = r.1 ∧ r.2.toInt ≤ p.2.toInt)

/-- A pair beats itself. -/
theorem Beats.refl (r : EReal × W) : Beats r r := .inr ⟨rfl, le_rfl⟩

/-- What beats a pair beats what that pair beats. -/
theorem Beats.trans {r p q : EReal × W} (h : Beats r p) (h' : Beats p q) : Beats r q := by
  rcases h with h | ⟨h, hi⟩ <;> rcases h' with h' | ⟨h', hi'⟩
  · exact .inl (h'.trans h)
  · exact .inl (h' ▸ h)
  · exact .inl (h ▸ h')
  · exact .inr ⟨h'.trans h, hi.trans hi'⟩

/-- A fold whose step keeps the better of two pairs ends with one of the pairs, and it beats them all. -/
theorem foldl_best {f : EReal × W → EReal × W → EReal × W}
    (hf : ∀ a b, (f a b = a ∧ Beats a b) ∨ (f a b = b ∧ Beats b a)) :
    ∀ (l : List (EReal × W)) (a : EReal × W),
      (l.foldl f a = a ∨ l.foldl f a ∈ l) ∧ Beats (l.foldl f a) a ∧ ∀ p ∈ l, Beats (l.foldl f a) p
  | [], a => ⟨.inl rfl, .refl a, fun _ h => absurd h List.not_mem_nil⟩
  | b :: l, a => by
    obtain ⟨h1, h2, h3⟩ := foldl_best hf l (f a b)
    rw [List.foldl_cons]
    rcases hf a b with ⟨e, h⟩ | ⟨e, h⟩
    · rw [e] at h1 h2 h3 ⊢
      refine ⟨h1.imp id (List.mem_cons_of_mem _), h2, fun p hp => ?_⟩
      rcases List.mem_cons.mp hp with rfl | hp
      · exact h2.trans h
      · exact h3 p hp
    · rw [e] at h1 h2 h3 ⊢
      refine ⟨.inr ?_, h2.trans h, fun p hp => ?_⟩
      · rcases h1 with h1 | h1
        · rw [h1]
          exact List.mem_cons_self
        · exact List.mem_cons_of_mem _ h1
      · rcases List.mem_cons.mp hp with rfl | hp
        · exact h2
        · exact h3 p hp

/-- The best score up to a position is below a bound that all of them are below. -/
theorem best_lt {s : Fin 5 → EReal} {x : EReal} : ∀ n, (∀ j ≤ n, s (Fin.ofNat 5 j) < x) → best s n < x
  | 0, h => h 0 le_rfl
  | n + 1, h => max_lt (best_lt n fun j hj => h j (hj.trans n.le_succ)) (h _ le_rfl)

/-- The best score up to a position is no less than any of them. -/
theorem le_best {s : Fin 5 → EReal} : ∀ n, ∀ j ≤ n, s (Fin.ofNat 5 j) ≤ best s n
  | 0, j, h => by
    obtain rfl := Nat.le_zero.mp h
    exact le_rfl
  | n + 1, j, h => by
    rcases Nat.le_succ_iff.mp h with h | rfl
    · exact (le_best n j h).trans (le_max_left _ _)
    · exact le_max_right _ _

/-- The chain of comparisons up to a position ends at the first one that no other beats. -/
theorem first_eq_of {s : Fin 5 → EReal} (w : ℕ) (h : ∀ j, s (Fin.ofNat 5 j) ≤ s (Fin.ofNat 5 w))
    (h' : ∀ j, j < w → s (Fin.ofNat 5 j) < s (Fin.ofNat 5 w)) : ∀ n, w ≤ n → first s n = BitVec.ofNat 32 w
  | 0, hw => by
    obtain rfl := Nat.le_zero.mp hw
    rfl
  | n + 1, hw => by
    rcases Nat.le_succ_iff.mp hw with hn | rfl
    · rw [first, if_neg (not_lt.mpr ((h _).trans (le_best n w hn)))]
      exact first_eq_of w h h' n hn
    · rw [first, if_pos (best_lt n fun j hj => h' j (Nat.lt_succ_of_le hj))]

/-- The chain of comparisons ends at the first position that no other beats. -/
theorem first_eq {s : Fin 5 → EReal} (w : Fin 5) (h : ∀ j, s j ≤ s w) (h' : ∀ j, j < w → s j < s w) :
    first s 4 = BitVec.ofNat 32 w.val := by
  have hw : Fin.ofNat 5 w.val = w := Fin.ofNat_val_eq_self w
  refine first_eq_of w.val (fun j => (h _).trans_eq (congrArg s hw.symm)) (fun j hj => ?_) 4 (by omega)
  rw [hw]
  refine h' _ ?_
  rw [Fin.lt_def, Fin.val_ofNat, Nat.mod_eq_of_lt (by omega)]
  exact hj

/-- The chain of comparisons ends at one of the five positions. -/
theorem first_mem (s : Fin 5 → EReal) : ∃ w : Fin 5, first s 4 = BitVec.ofNat 32 w.val := by
  simp only [first]
  split_ifs
  exacts [⟨4, rfl⟩, ⟨3, rfl⟩, ⟨2, rfl⟩, ⟨1, rfl⟩, ⟨0, rfl⟩]

/-- A fold that keeps the better pair, from the pair of minus infinity and position zero, ends with the first
    position of the greatest score. -/
theorem foldl_first {f : EReal × W → EReal × W → EReal × W}
    (hf : ∀ a b, (f a b = a ∧ Beats a b) ∨ (f a b = b ∧ Beats b a)) (s : Fin 5 → EReal) (l : List (EReal × W))
    (hl : ∀ p, p ∈ l ↔ ∃ k : Fin 5, p = (s k, BitVec.ofNat 32 k.val)) :
    (l.foldl f (⊥, 0#32)).2 = first s 4 := by
  obtain ⟨h1, h2, h3⟩ := foldl_best hf l (⊥, 0#32)
  generalize l.foldl f (⊥, 0#32) = r at h1 h2 h3
  have hb : ∀ k : Fin 5, Beats r (s k, BitVec.ofNat 32 k.val) := fun k => h3 _ ((hl _).mpr ⟨k, rfl⟩)
  have ti : ∀ k : Fin 5, (BitVec.ofNat 32 k.val).toInt = k.val := by decide
  rcases h1 with rfl | h1
  · refine (first_eq 0 (fun j => ?_) (fun j h => absurd h (by omega))).symm
    rcases hb j with h | h
    · exact absurd h not_lt_bot
    · exact h.1.le.trans bot_le
  · obtain ⟨w, rfl⟩ := (hl r).mp h1
    refine (first_eq w (fun j => ?_) (fun j hj => ?_)).symm
    · rcases hb j with h | h
      · exact h.le
      · exact h.1.le
    · rcases hb j with h | h
      · exact h
      · have := h.2
        simp only [ti] at this
        omega

end Cert.Pick

end
-- ==== Proof.RefPick.lean ====
/-
  The reference's pick of a winner, read at an index: the position of the greatest score, the entry at a position, and
  the one-hot row of a position.
-/
module

public import proofs.«01_k».proof.Proof.RefLine
public import proofs.«01_k».proof.Proof.Pick
public import Idealize.ShloMosaic.Lib.Pointwise
public import Idealize.ShloMosaic.Lib.ValueIdxCore

@[expose] public section

set_option maxRecDepth 65536
set_option maxHeartbeats 4000000

noncomputable section

namespace Cert.RefPick

open Idealize.ShloMosaic Idealize.ShloMosaic.StableHlo Cert.Straight Cert.Threefry Cert.Spec Cert.ReferenceIdeal
open Cert.ReferenceIdeal.Facts₀ Cert.Pick

variable {V : Valuation τ sig (Elt Ideal)}

/-- The body of the position reduction keeps the better of two pairs. -/
theorem reducer_best (a b : EReal × W) :
    (reducer_argmax_f32_i32 (F := Ideal) a b = a ∧ Beats a b) ∨ (reducer_argmax_f32_i32 (F := Ideal) a b = b ∧ Beats b a) := by
  obtain ⟨a, i⟩ := a
  obtain ⟨b, j⟩ := b
  rcases lt_trichotomy a b with h | h | h
  · right
    refine ⟨?_, .inl h⟩
    simp [reducer_argmax_f32_i32, Ideal.cmpf_def, Ideal.cmp, h.not_gt, h.ne, IntOp.ori, IntOp.andi, Scalar.select]
  · subst h
    rcases lt_or_ge i.toInt j.toInt with hi | hi
    · left
      refine ⟨?_, .inr ⟨rfl, hi.le⟩⟩
      simp [reducer_argmax_f32_i32, Ideal.cmpf_def, Ideal.cmp, IntOp.ori, IntOp.andi, Scalar.select, IntOp.cmpi, BitVec.slt, hi]
    · right
      refine ⟨?_, .inr ⟨rfl, hi⟩⟩
      simp [reducer_argmax_f32_i32, Ideal.cmpf_def, Ideal.cmp, IntOp.ori, IntOp.andi, Scalar.select, IntOp.cmpi, BitVec.slt, hi.not_gt]
  · left
    refine ⟨?_, .inl h⟩
    simp [reducer_argmax_f32_i32, Ideal.cmpf_def, Ideal.cmp, h, h.ne', IntOp.ori, IntOp.andi, Scalar.select]

/-- The winner's position at a region is the first of the greatest scores. -/
theorem argmax (a0 : TRef sig ⟨S4x96x36864x5, .f32⟩) (φ : fn_argmax.Bufs)
    (E : Eqns V (RefLine.argmax (F := Ideal) a0 φ).1) (b : Fin 4) (c : Fin 96) (p : Fin 36864) :
    rd V φ.v1_1 (ix3 b c p) = first (fun k => rd V a0 (ix4 b c p k)) 4 := by
  simp only [RefLine.argmax, Eqns] at E
  obtain ⟨e0, e1, e2, -, e4, -⟩ := E
  rw [eqn_quaternary e4, eqn_nullary e0, eqn_nullary e1, eqn_nullary e2]
  simp only []
  rw [Ideal.argReduce_eq_reduce2, Host.reduce2_eq_foldl_fiber]
  have hi : ∀ u v, ((constant (F := Ideal) S_ .f32 0xFF800000#32 u : EReal), (constantI S_ 32 0#32 v : W)) = (⊥, 0#32) := by
    intro u v
    rw [← ix0_eta u, ← ix0_eta v]
    pointwise
    rw [bot_eq]
  rw [hi]
  refine foldl_first reducer_best _ _ fun q => ?_
  rw [Host.argReduceFiber, List.mem_map]
  simp only [List.mem_filter, List.mem_finRange, true_and, decide_eq_true_eq]
  constructor
  · rintro ⟨n, hn, rfl⟩
    obtain ⟨k, hk⟩ := (Shape.ReducesTo.fiber_r4_a3 _ _ _).mp hn
    rw [← hk]
    refine ⟨k, ?_⟩
    pointwise
  · rintro ⟨k, rfl⟩
    refine ⟨S4x96x36864x5.rowMajor (ix4 b c p k), ?_, ?_⟩
    · rw [Equiv.symm_apply_apply]
      exact (Shape.ReducesTo.fiber_r4_a3 _ _ _).mpr ⟨k, rfl⟩
    · rw [Equiv.symm_apply_apply]
      pointwise

/-- A position among the five is not negative, so it is taken as it is. -/
theorem wrap_eq : ∀ w : Fin 5, Scalar.select (IntOp.cmpi .slt (BitVec.ofNat 32 w.val) 0#32)
    (IntOp.addi (BitVec.ofNat 32 w.val) 5#32) (BitVec.ofNat 32 w.val) = BitVec.ofNat 32 w.val := by decide

/-- A position among the five is within the bounds. -/
theorem within_eq : ∀ w : Fin 5, IntOp.andi (IntOp.cmpi .sge (BitVec.ofNat 32 w.val) 0#32)
    (IntOp.cmpi .sle (BitVec.ofNat 32 w.val) 4#32) = 1#1 := by decide

/-- A position among the five stays itself when kept within them. -/
theorem clamp_eq : ∀ w : Fin 5, min (BitVec.ofNat 32 w.val).toInt.toNat 4 = w.val := by decide

/-- The gather takes, in each region, the entry at the region's start index, kept within the five. -/
theorem gather_eq (x : S4x96x36864x5.Idx → EReal) (idx : IVec S4x96x36864x1x1 32) (b : Fin 4) (c : Fin 96) (p : Fin 36864)
    (w : Fin 5) (hw : idx (ix5 b c p 0 0) = BitVec.ofNat 32 w.val) :
    Host.gather gather_S4x96x36864x5_S4x96x36864x1x1_S4x96x36864x1_n_3_012_012_3_4_1111 x idx (ix4 b c p 0)
      = x (ix4 b c p w) := by
  unfold Host.gather
  congr 1
  funext a
  refine Fin.ext ?_
  show GatherDims.start _ _ idx a + GatherDims.batchCoord _ _ a + GatherDims.offCoord _ _ a = _
  have hk : ∀ a : Fin 4, a ∉ gather_S4x96x36864x5_S4x96x36864x1x1_S4x96x36864x1_n_3_012_012_3_4_1111.sKept := by decide
  rw [GatherDims.offCoord_eq_zero _ _ _ (hk a), Nat.add_zero]
  have h03 : ∀ a : Fin 4, a = 0 ∨ a = 1 ∨ a = 2 ∨ a = 3 := by decide
  rcases h03 a with rfl | rfl | rfl | rfl
  · rw [GatherDims.start_batching _ _ _ _ (by decide), Nat.zero_add]
    rfl
  · rw [GatherDims.start_batching _ _ _ _ (by decide), Nat.zero_add]
    rfl
  · rw [GatherDims.start_batching _ _ _ _ (by decide), Nat.zero_add]
    rfl
  · rw [GatherDims.batchCoord_eq_zero _ _ _ (by decide), Nat.add_zero]
    unfold GatherDims.start
    rw [dif_pos (by decide)]
    have hs : GatherDims.siIdx gather_S4x96x36864x5_S4x96x36864x1x1_S4x96x36864x1_n_3_012_012_3_4_1111 (ix4 b c p 0)
        ⟨List.idxOf (3 : Fin 4) [3], by decide⟩ = ix5 b c p 0 0 := by
      funext b; refine Fin.ext ?_
      match b with
      | ⟨0, _⟩ => rfl
      | ⟨1, _⟩ => rfl
      | ⟨2, _⟩ => rfl
      | ⟨3, _⟩ => rfl
      | ⟨4, _⟩ => rfl
    refine Eq.trans (congrArg (fun q => min (idx q).toInt.toNat 4) hs) ?_
    rw [hw]
    exact clamp_eq w

/-- The entry at a position, when the position is one of the five. -/
theorem takeAlong (a0 : TRef sig ⟨S4x96x36864x5, .f32⟩) (a1 : TRef sig ⟨S4x96x36864x1, .i32⟩) (φ : fn_take_along_axis.Bufs)
    (E : Eqns V (RefLine.takeAlong (F := Ideal) a0 a1 φ).1) (b : Fin 4) (c : Fin 96) (p : Fin 36864) (w : Fin 5)
    (hw : rd V a1 (ix4 b c p 0) = BitVec.ofNat 32 w.val) :
    rd V φ.v15 (ix4 b c p 0) = rd V a0 (ix4 b c p w) := by
  simp only [RefLine.takeAlong, Eqns] at E
  obtain ⟨ec, e0, e1, ec0, e2, e3, e4, e5, ec1, ec2, e6, e7, e8, e9, e10, e11, ec3, e12, e13, ecs, e14, e15, -⟩ := E
  have h5 : rd V φ.v5 (ix5 b c p 0 0) = BitVec.ofNat 32 w.val := by
    rw [eqn_reshape e5, eqn_ternary e4, eqn_binary e1, eqn_binary e3, eqn_unary e0, eqn_unary e2, eqn_nullary ec, eqn_nullary ec0]
    pointwise
    rw [hw]
    exact wrap_eq w
  have h11 : rd V φ.v11 (ix5 b c p 0 0) = 1#1 := by
    rw [eqn_binary e11, eqn_binary e7, eqn_binary e10, eqn_unary e9, eqn_unary e8, eqn_unary e6, eqn_nullary ec1, eqn_nullary ec2]
    pointwise
    rw [h5]
    exact within_eq w
  rw [eqn_ternary e15, eqn_binary e12, eqn_binary e13, eqn_nullary ec3]
  pointwise
  rw [gather_eq _ _ b c p w h5]
  simp only [Fin.isValue, Finset.univ_unique, Fin.default_eq_zero, Finset.fold_singleton, h11]
  rfl

/-- The one-hot row of a position. -/
theorem oneHot (a0 : TRef sig ⟨S4x96x36864, .i32⟩) (φ : fn_one_hot.Bufs)
    (E : Eqns V (RefLine.oneHot (F := Ideal) a0 φ).1) (b : Fin 4) (c : Fin 96) (p : Fin 36864) (k : Fin 4) :
    rd V φ.v5 (ix4 b c p k) = if rd V a0 (ix3 b c p) = BitVec.ofNat 32 k.val then 1 else 0 := by
  simp only [RefLine.oneHot, Eqns] at E
  obtain ⟨e0, e1, e2, e3, e4, e5, -⟩ := E
  rw [eqn_unary e5, eqn_binary e4, eqn_unary e2, eqn_unary e3, eqn_unary e0, eqn_nullary e1]
  pointwise
  split_ifs with h
  · rw [h]
    simp only [IntOp.cmpi, BEq.rfl]
    show (((1#1 : BitVec 1).toNat : ℝ) : EReal) = 1
    simp
  · simp only [IntOp.cmpi, beq_eq_false_iff_ne.mpr h]
    show (((0#1 : BitVec 1).toNat : ℝ) : EReal) = 0
    simp

end Cert.RefPick

end
-- ==== Proof.RefMain.lean ====
/-
  The reference's main line, read at an index: the probabilities, the scores, the winner and the three results.
-/
module

public import proofs.«01_k».proof.Proof.RefUniform
public import proofs.«01_k».proof.Proof.RefPick

@[expose] public section

set_option maxRecDepth 65536
set_option maxHeartbeats 4000000

noncomputable section

namespace Cert.RefMain

open Idealize.ShloMosaic Idealize.ShloMosaic.StableHlo Cert.Straight Cert.Threefry Cert.Spec Cert.Pick
  Cert.ReferenceIdeal

variable {V : Valuation τ sig (Elt Ideal)}

/-- The region of row `r` and column `s`. -/
def rgn (r s : Fin 192) : Fin 36864 := ⟨r.val * 192 + s.val, by omega⟩

/-- The four entries of the region of row `r` and column `s`. -/
def ent (x : Vec Ideal S4x96x384x384 .f32) (b : Fin 4) (c : Fin 96) (r s : Fin 192) (k : Fin 4) : EReal :=
  x (ix4 b c (⟨2 * r.val + k.val / 2, by omega⟩ : Fin 384) (⟨2 * s.val + k.val % 2, by omega⟩ : Fin 384))

/-- The region a row or a column lies in. -/
def half (i : Fin 384) : Fin 192 := ⟨i.val / 2, by omega⟩

/-- Which of its region's four entries one is. -/
def quad (i j : Fin 384) : Fin 4 := ⟨i.val % 2 * 2 + j.val % 2, by omega⟩

/-- Equal words are equal categories. -/
theorem same : ∀ (w : Fin 5) (k : Fin 4), BitVec.ofNat 32 w.val = BitVec.ofNat 32 k.val → w = k.castSucc := by decide

/-- The regions' entries: a reshape, a transpose and a reshape of the argument. -/
theorem entries (x : Vec Ideal S4x96x384x384 .f32) (h1 h2 h3) (b : Fin 4) (c : Fin 96) (r s : Fin 192) (k : Fin 4) :
    shapeCast S4x96x36864x4 (transpose S4x96x192x192x2x2 [0, 1, 2, 4, 3, 5] (shapeCast S4x96x192x2x192x2 x h1) h2) h3
      (ix4 b c (rgn r s) k) = ent x b c r s k := by
  pointwise
  unfold ent
  congr 2
  · refine Fin.ext ?_
    show (r.val * 192 + s.val) / 192 * 2 + k.val / 2 = 2 * r.val + k.val / 2
    omega
  · refine Fin.ext ?_
    show (r.val * 192 + s.val) % 192 * 2 + k.val % 2 = 2 * s.val + k.val % 2
    omega

/-- The five categories, one by one. -/
theorem five : ∀ k : Fin 5, k = 0 ∨ k = 1 ∨ k = 2 ∨ k = 3 ∨ k = 4 := by decide

/-- The greatest of the five values, as a fold from minus infinity. -/
theorem fold_val (a : Fin 4 → EReal) : Finset.fold max ⊥ (fun k => val a k) Finset.univ = mx a := by
  have h : (Finset.univ : Finset (Fin 5)) = {0, 1, 2, 3, 4} := by decide
  rw [h]
  repeat rw [Finset.fold_insert (by decide)]
  rw [Finset.fold_singleton]
  show max (a 0) (max (a 1) (max (a 2) (max (a 3) (max 0 ⊥)))) = _
  rw [max_bot_right, mx]
  simp only [max_assoc]

/-- A region's five values: its four entries, and zero. -/
theorem values (d : Dev nD) (E : Eqns V (RefLine.mainA (F := Ideal) d).1) (b : Fin 4) (c : Fin 96) (r s : Fin 192)
    (k : Fin 5) :
    (V (Proc.devRef .tc main_v4) : Vec Ideal S4x96x36864x5 .f32) (ix4 b c (rgn r s) k)
      = val (ent (V (Proc.devRef .tc main_arg0)) b c r s) k := by
  simp only [RefLine.mainA, Eqns] at E
  obtain ⟨e0, e1, e2, ec, e3, e4, -⟩ := E
  rw [raw_binary e4, raw_reshape e2, raw_unary e1, raw_reshape e0, raw_unary e3, raw_nullary ec]
  have t := entries (V (Proc.devRef .tc main_arg0)) Side.refFacts.shapeCasts_S4x96x384x384_S4x96x192x2x192x2
    Side.refFacts.transposes_S4x96x192x2x192x2_S4x96x192x192x2x2_0_1_2_4_3_5 Side.refFacts.shapeCasts_S4x96x192x192x2x2_S4x96x36864x4 b c r s
  generalize hx : (shapeCast S4x96x36864x4 _ _ : Vec Ideal S4x96x36864x4 .f32) = x at t
  clear e0 e1 e2 ec e3 e4
  pointwise
  rcases five k with rfl | rfl | rfl | rfl | rfl
  · exact (dif_pos (by decide)).trans (t 0)
  · exact (dif_pos (by decide)).trans (t 1)
  · exact (dif_pos (by decide)).trans (t 2)
  · exact (dif_pos (by decide)).trans (t 3)
  · exact dif_neg (by decide)

/-- The probabilities. -/
theorem probs (d : Dev nD) (E : Eqns V (RefLine.mainA (F := Ideal) d).1) (b : Fin 4) (c : Fin 96) (r s : Fin 192)
    (k : Fin 5) :
    (V (Proc.devRef .tc main_v15) : Vec Ideal S4x96x36864x5 .f32) (ix4 b c (rgn r s) k)
      = prob (ent (V (Proc.devRef .tc main_arg0)) b c r s) k := by
  have hv := values d E b c r s
  simp only [RefLine.mainA, Eqns] at E
  obtain ⟨-, -, -, -, -, -, ec0, e5, e6, e7, e8, e9, ec1, e10, e11, ec2, e12, e13, e14, e15, -⟩ := E
  rw [raw_binary e15, raw_unary e14, raw_binary e13, raw_unary e12, raw_nullary ec2, raw_unary e11, raw_binary e10,
    raw_nullary ec1, raw_unary e9, raw_binary e8, raw_unary e7, raw_unary e6, raw_binary e5, raw_nullary ec0]
  clear ec0 e5 e6 e7 e8 e9 ec1 e10 e11 ec2 e12 e13 e14 e15
  generalize (V (Proc.devRef .tc main_v4) : Vec Ideal S4x96x36864x5 .f32) = x at hv ⊢
  pointwise
  simp only [hv, bot_eq, fold_val]
  rw [Fin.sum_univ_five]
  rfl

/-- The score of a category. -/
theorem scores (d : Dev nD) (E : Eqns V (RefLine.mainA (F := Ideal) d).1) (b : Fin 4) (c : Fin 96) (r s : Fin 192)
    (k : Fin 5) :
    (V (Proc.devRef .tc main_v36) : Vec Ideal S4x96x36864x5 .f32) (ix4 b c (rgn r s) k)
      = score (ent (V (Proc.devRef .tc main_arg0)) b c r s) (fun k => gum (ctr b c (rgn r s) k)) k := by
  have hp := probs d E b c r s k
  simp only [RefLine.mainA, Eqns] at E
  obtain ⟨-, -, -, -, -, -, -, -, -, -, -, -, -, -, -, -, -, -, -, -, ec, ec3, e16, e17, e18, ec4, e19, e20, e21, e22,
    ec5, E⟩ := E
  obtain ⟨F, ec6, ec7, E⟩ := eqns_append E
  obtain ⟨U, ec8, e25, e26, e27, e28, ec9, e29, e30, e31, e32, ec10, e33, e34, e35, e36, -⟩ := eqns_append E
  clear E
  have hk := RefUniform.foldIn _ _ _ F
    (by
      show (V (Proc.devRef .tc main_v22) : IVec S2 32) (ix1 0) = _
      rw [raw_binary e22, raw_unary e18, raw_unary e17, raw_binary e16, raw_unary e21, raw_unary e20, raw_binary e19,
        raw_nullary ec, raw_nullary ec3, raw_nullary ec4]
      simp only [id]
      pointwise)
    (by
      show (V (Proc.devRef .tc main_v22) : IVec S2 32) (ix1 1) = _
      rw [raw_binary e22, raw_unary e18, raw_unary e17, raw_binary e16, raw_unary e21, raw_unary e20, raw_binary e19,
        raw_nullary ec, raw_nullary ec3, raw_nullary ec4]
      simp only [id]
      pointwise)
    (raw_nullary ec5)
  have hu := RefUniform.uniform _ _ _ _ U hk.1 hk.2 (raw_nullary ec6) (raw_nullary ec7) b c (rgn r s) k
  clear E
  rw [raw_binary e36, raw_unary e35, raw_binary e34, raw_unary e33, raw_nullary ec10, raw_unary e32, raw_unary e31,
    raw_binary e30, raw_unary e29, raw_nullary ec9, raw_unary e28, raw_unary e27, raw_binary e26, raw_unary e25,
    raw_nullary ec8]
  replace hu : (V (Proc.devRef .tc main_v24) : Vec Ideal S4x96x36864x5 .f32) (ix4 b c (rgn r s) k) = _ := hu
  clear ec ec3 e16 e17 e18 ec4 e19 e20 e21 e22 ec5 F ec6 ec7 U ec8 e25 e26 e27 e28 ec9 e29 e30 e31 e32 ec10 e33 e34 e35 e36 hk
  generalize (V (Proc.devRef .tc main_v24) : Vec Ideal S4x96x36864x5 .f32) = u at hu ⊢
  generalize (V (Proc.devRef .tc main_v15) : Vec Ideal S4x96x36864x5 .f32) = q at hp ⊢
  pointwise
  rw [hu, hp]
  rfl

/-- The winner of a region. -/
theorem winner (d : Dev nD) (E : Eqns V (RefLine.mainA (F := Ideal) d).1) (b : Fin 4) (c : Fin 96) (r s : Fin 192) :
    (V (Proc.devRef .tc main_v37) : IVec S4x96x36864 32) (ix3 b c (rgn r s))
      = win (ent (V (Proc.devRef .tc main_arg0)) b c r s) (fun k => gum (ctr b c (rgn r s) k)) := by
  have hs := scores d E b c r s
  simp only [RefLine.mainA, Eqns] at E
  obtain ⟨-, -, -, -, -, -, -, -, -, -, -, -, -, -, -, -, -, -, -, -, -, -, -, -, -, -, -, -, -, -, -, E⟩ := E
  obtain ⟨-, -, -, E⟩ := eqns_append E
  obtain ⟨-, -, -, -, -, -, -, -, -, -, -, -, -, -, -, -, E⟩ := eqns_append E
  have ha := RefPick.argmax _ _ (eqns_append E).1 b c (rgn r s)
  refine Eq.trans ha ?_
  rw [win]
  congr 1
  exact funext hs

/-- What a region keeps at one of its entries. -/
theorem keeps (d : Dev nD) (E : Eqns V (RefLine.mainA (F := Ideal) d).1) (b : Fin 4) (c : Fin 96) (r s : Fin 192)
    (k : Fin 4) :
    (V (Proc.devRef .tc main_v44) : Vec Ideal S4x96x36864x4 .f32) (ix4 b c (rgn r s) k)
      = kept (ent (V (Proc.devRef .tc main_arg0)) b c r s) (fun k => gum (ctr b c (rgn r s) k)) k := by
  have hp := probs d E b c r s
  have hw := winner d E b c r s
  simp only [RefLine.mainA, Eqns] at E
  obtain ⟨-, -, -, -, -, -, -, -, -, -, -, -, -, -, -, -, -, -, -, -, -, -, -, -, -, -, -, -, -, -, -, E⟩ := E
  obtain ⟨-, -, -, E⟩ := eqns_append E
  obtain ⟨-, -, -, -, -, -, -, -, -, -, -, -, -, -, -, -, E⟩ := eqns_append E
  obtain ⟨-, e38, E⟩ := eqns_append E
  obtain ⟨T, e40, E⟩ := eqns_append E
  obtain ⟨O, e42, e43, e44, -⟩ := eqns_append E
  clear E
  have ho := RefPick.oneHot _ _ O b c (rgn r s) k
  obtain ⟨w, hf⟩ := first_mem (score (ent (V (Proc.devRef .tc main_arg0)) b c r s) (fun k => gum (ctr b c (rgn r s) k)))
  have ht := RefPick.takeAlong _ _ _ T b c (rgn r s) w (by
    show (V (Proc.devRef .tc main_v38) : IVec S4x96x36864x1 32) (ix4 b c (rgn r s) 0) = _
    rw [raw_unary e38]
    pointwise
    exact hw.trans hf)
  replace ho : (V (Proc.devRef .tc main_v41) : Vec Ideal S4x96x36864x4 .f32) (ix4 b c (rgn r s) k)
    = if (V (Proc.devRef .tc main_v37) : IVec S4x96x36864 32) (ix3 b c (rgn r s)) = BitVec.ofNat 32 k.val then (1 : EReal) else 0 := ho
  replace ht : (V (Proc.devRef .tc main_v39) : Vec Ideal S4x96x36864x1 .f32) (ix4 b c (rgn r s) 0)
    = (V (Proc.devRef .tc main_v15) : Vec Ideal S4x96x36864x5 .f32) (ix4 b c (rgn r s) w) := ht
  rw [raw_binary e44, raw_unary e43, raw_unary e42, raw_reshape e40]
  rw [hp] at ht
  rw [hw] at ho
  clear e38 T e40 O e42 e43 e44 hp hw
  generalize (V (Proc.devRef .tc main_v39) : Vec Ideal S4x96x36864x1 .f32) = u at ht ⊢
  generalize (V (Proc.devRef .tc main_v41) : Vec Ideal S4x96x36864x4 .f32) = q at ho ⊢
  pointwise
  rw [ho, ht, kept]
  split_ifs with h
  · rw [one_mul]
    congr 1
    rw [win, hf] at h
    exact same w k h
  · rw [zero_mul]

/-- The first result at an index. -/
theorem result0 (d : Dev nD) (E : Eqns V (RefLine.whole (F := Ideal) d).1) (b : Fin 4) (c : Fin 96) (i j : Fin 384) :
    (V (Proc.devRef .tc main_v47) : Vec Ideal S4x96x384x384 .f32) (ix4 b c i j)
      = kept (ent (V (Proc.devRef .tc main_arg0)) b c (half i) (half j))
        (fun k => gum (ctr b c (rgn (half i) (half j)) k)) (quad i j) := by
  obtain ⟨A, B⟩ := eqns_append E
  have hk := keeps d A b c (half i) (half j) (quad i j)
  simp only [RefLine.mainA, Eqns] at A
  obtain ⟨-, -, -, -, -, -, -, -, -, -, -, -, -, -, -, -, -, -, -, -, -, -, -, -, -, -, -, -, -, -, -, A⟩ := A
  obtain ⟨-, -, -, A⟩ := eqns_append A
  obtain ⟨-, -, -, -, -, -, -, -, -, -, -, -, -, -, -, -, A⟩ := eqns_append A
  obtain ⟨-, -, A⟩ := eqns_append A
  obtain ⟨-, -, A⟩ := eqns_append A
  obtain ⟨-, -, -, -, e45, e46, -⟩ := eqns_append A
  clear A
  simp only [RefLine.mainB, Eqns] at B
  obtain ⟨e47, -⟩ := B
  rw [raw_reshape e47, raw_unary e46, raw_reshape e45]
  clear e45 e46 e47
  generalize (V (Proc.devRef .tc main_v44) : Vec Ideal S4x96x36864x4 .f32) = u at hk ⊢
  pointwise
  exact hk

/-- The second result at an index. -/
theorem result1 (d : Dev nD) (E : Eqns V (RefLine.whole (F := Ideal) d).1) (b : Fin 4) (c : Fin 96) (r s : Fin 192) :
    (V (Proc.devRef .tc main_v50) : Vec Ideal S4x96x192x192 .f32) (ix4 b c r s)
      = pool (ent (V (Proc.devRef .tc main_arg0)) b c r s) := by
  obtain ⟨A, B⟩ := eqns_append E
  have hp := probs d A b c r s
  simp only [RefLine.mainB, Eqns] at B
  obtain ⟨-, e48, ec, e49, e50, -⟩ := B
  rw [raw_reshape e50, raw_binary e49, raw_nullary ec, raw_unary e48]
  clear e48 ec e49 e50
  generalize (V (Proc.devRef .tc main_v15) : Vec Ideal S4x96x36864x5 .f32) = u at hp ⊢
  pointwise
  rw [Fin.sum_univ_four, Spec.pool, ← hp 0, ← hp 1, ← hp 2, ← hp 3]
  rfl

/-- The third result at an index. -/
theorem result2 (d : Dev nD) (E : Eqns V (RefLine.whole (F := Ideal) d).1) (b : Fin 4) (c : Fin 96) (r s : Fin 192) :
    (V (Proc.devRef .tc main_v51) : IVec S4x96x192x192 32) (ix4 b c r s)
      = win (ent (V (Proc.devRef .tc main_arg0)) b c r s) (fun k => gum (ctr b c (rgn r s) k)) := by
  obtain ⟨A, B⟩ := eqns_append E
  have hw := winner d A b c r s
  simp only [RefLine.mainB, Eqns] at B
  obtain ⟨-, -, -, -, -, e51, -⟩ := B
  rw [raw_reshape e51]
  clear e51
  generalize (V (Proc.devRef .tc main_v37) : IVec S4x96x36864 32) = u at hw ⊢
  pointwise
  exact hw

end Cert.RefMain

end
-- ==== Proof.KernLaunch.lean ====
/-
  What a grid point finds in its blocks: its image's rows in pairs, the selection matrices, the lane counters and the key.
-/
module

public import proofs.«01_k».proof.Proof.KernEntry
public import proofs.«01_k».proof.Proof.KernGeom
public import proofs.«01_k».proof.Proof.RefMain

@[expose] public section

set_option maxRecDepth 65536
set_option maxHeartbeats 1000000

noncomputable section

namespace Cert.KernLaunch

open Idealize.ShloMosaic Idealize.ShloMosaic.StableHlo Idealize.ShloMosaic.TcCoe Idealize.SL.Sem Cert.Straight Cert.Threefry
  Cert.Spec Cert.KernSpan Cert.KernVals Cert.KernBlock Cert.KernEntry Cert.KernGeom Cert.KernelIdeal Cert.KernelIdeal.Gen

variable (m : (ℓ : Loc nD τ sig) → Buf (Elt Ideal) ℓ) (c : Dev nD)

/-- The argument. -/
def arg : Vec Ideal S4x96x384x384 .f32 := m ((c.tc : Thread nD τ).loc main_arg0)

/-- What the line before the grid has left once the key is made. -/
def mid : Valuation τ sig (Elt Ideal) := after front (fun b => m (c, b))

/-- It satisfies the equation of every operation up to there. -/
theorem mid_eqns : Eqns (mid m c) front := eqns_after front_span _

/-- It still holds the argument. -/
theorem mid_arg : mid m c (Proc.devRef .tc main_arg0) = arg m c :=
  after_low front_span _ (r := main_arg0) (Nat.lt_of_lt_of_le Nat.zero_lt_one le_rfl)

/-- A buffer the last three operations don't write. -/
theorem found (r : Ref sig .tc) (h9 : r ≠ main_call0_v9) (h10 : r ≠ main_call0_v10) (h11 : r ≠ main_call0_v11) :
    V m c r = mid m c (Proc.devRef .tc r) := by
  show after (List.flatten [hostOps0]) _ _ = _
  rw [after_eq]
  exact back_low _ r h9 h10 h11

/-- The key's words. -/
theorem words : word0 c (tbl m 0) = key.1 ∧ word1 c (tbl m 0) = key.2 := by
  obtain ⟨h0, h1⟩ := table (mid_eqns m (0 : Dev nD))
  have e : (V m (0 : Dev nD) main_call0_v9 : IVec S2 32) = mid m (0 : Dev nD) (Proc.devRef .tc main_call0_v8) := by
    show after (List.flatten [hostOps0]) _ _ = _
    rw [after_eq]
    exact back_table _
  rw [← h0, ← h1, ← e]
  clear h0 h1 e
  show _ = (V m (0 : Dev nD) main_call0_v9 : IVec S2 32) (ix1 0) ∧ _ = (V m (0 : Dev nD) main_call0_v9 : IVec S2 32) (ix1 1)
  constructor
  · refine congrArg (V m (0 : Dev nD) main_call0_v9 : IVec S2 32) (funext fun a => Fin.ext ?_)
    match a with
    | ⟨0, _⟩ => rfl
  · refine congrArg (V m (0 : Dev nD) main_call0_v9 : IVec S2 32) (funext fun a => Fin.ext ?_)
    match a with
    | ⟨0, _⟩ => rfl

/-- The block of the image at a grid point. -/
def img (hO : Ok m) (t : Fin (cfgM m hO).N) : Vec Ideal S1x1x192x768 .f32 := iblk m hO c 0 t

variable {m} {hO : Ok m} {t : Fin (cfgM m hO).N} {b : Fin 4} {ch : Fin 96}

/-- The selection matrices. -/
theorem even_found (q : Fin 384) (s : Fin 192) :
    (iblk m hO c 1 t : FVec Ideal S384x192 .bf16) (ix2 q s) = if q = ev s then (1 : EReal) else 0 := by
  have e : (V m c main_call0_v10 : FVec Ideal S384x192 .bf16) = after back (mid m c) (Proc.devRef .tc main_call0_v10) := by
    show after (List.flatten [hostOps0]) _ _ = _
    rw [after_eq]
    rfl
  exact (even_block c q s).trans ((congrFun e _).trans ((back_even _ q s).trans (evens (mid_eqns m c) q s)))

/-- The second selection matrix, as the grid finds it. -/
theorem odd_found (q : Fin 384) (s : Fin 192) :
    (iblk m hO c 2 t : FVec Ideal S384x192 .bf16) (ix2 q s) = if q = od s then (1 : EReal) else 0 := by
  have e : (V m c main_call0_v11 : FVec Ideal S384x192 .bf16) = after back (mid m c) (Proc.devRef .tc main_call0_v11) := by
    show after (List.flatten [hostOps0]) _ _ = _
    rw [after_eq]
    rfl
  exact (odd_block c q s).trans ((congrFun e _).trans ((back_odd _ q s).trans (odds (mid_eqns m c) q s)))

/-- The lane counters. -/
theorem lane_found (k : Fin 5) (s : Fin 192) :
    (iblk m hO c 3 t : IVec S1x960 32) (ix2 0 (lane k s)) = BitVec.ofNat 32 (5 * s.val + k.val) := by
  rw [lane_block, found m c main_call0_c (by decide) (by decide) (by decide)]
  exact pattern (mid_eqns m c) k s

/-- The image's rows, in pairs. -/
theorem rows_found (h : On m hO t b ch) (r : Fin 192) (q : Fin 384) :
    img m c hO t (ix4 0 0 r (lo q))
        = arg m c (ix4 b ch (⟨2 * r.val, by omega⟩ : Fin 384) q)
      ∧ img m c hO t (ix4 0 0 r (hi q))
        = arg m c (ix4 b ch (⟨2 * r.val + 1, by omega⟩ : Fin 384) q) := by
  have h0 : img m c hO t (ix4 0 0 r (lo q)) = _ := image c h r (lo q)
  have h1 : img m c hO t (ix4 0 0 r (hi q)) = _ := image c h r (hi q)
  rw [h0, h1, found m c main_call0_v0 (by decide) (by decide) (by decide), ← mid_arg]
  exact rows (mid_eqns m c) b ch r q

/-- A region's entries. -/
theorem ent_found (h : On m hO t b ch) (r s : Fin 192) :
    KernVals.ent (img m c hO t) r s = RefMain.ent (arg m c) b ch r s := by
  obtain ⟨e0, e2⟩ := rows_found c h r (ev s)
  obtain ⟨e1, e3⟩ := rows_found c h r (od s)
  funext k
  match k with
  | ⟨0, _⟩ =>
    exact e0.trans (congrArg₂ (fun i j => arg m c (ix4 b ch i j))
      (Fin.ext (by show 2 * r.val = 2 * r.val + 0 / 2; omega)) (Fin.ext (by show 2 * s.val = 2 * s.val + 0 % 2; omega)))
  | ⟨1, _⟩ =>
    exact e1.trans (congrArg₂ (fun i j => arg m c (ix4 b ch i j))
      (Fin.ext (by show 2 * r.val = 2 * r.val + 1 / 2; omega)) (Fin.ext (by show 2 * s.val + 1 = 2 * s.val + 1 % 2; omega)))
  | ⟨2, _⟩ =>
    exact e2.trans (congrArg₂ (fun i j => arg m c (ix4 b ch i j))
      (Fin.ext (by show 2 * r.val + 1 = 2 * r.val + 2 / 2; omega)) (Fin.ext (by show 2 * s.val = 2 * s.val + 2 % 2; omega)))
  | ⟨3, _⟩ =>
    exact e3.trans (congrArg₂ (fun i j => arg m c (ix4 b ch i j))
      (Fin.ext (by show 2 * r.val + 1 = 2 * r.val + 3 / 2; omega)) (Fin.ext (by show 2 * s.val + 1 = 2 * s.val + 3 % 2; omega)))

/-- No entry of the block is plus infinity if none of the argument is. -/
theorem block_not_top (h : On m hO t b ch) (hx : ∀ i, arg m c i ≠ ⊤) (j : S1x1x192x768.Idx) :
    img m c hO t j ≠ (⊤ : EReal) := by
  obtain ⟨r, l, rfl⟩ := split (p := 192) (q := 768) j
  by_cases hl : l.val < 384
  · rw [show l = lo ⟨l.val, hl⟩ from rfl, (rows_found c h r _).1]
    exact hx _
  · rw [show l = hi ⟨l.val - 384, by omega⟩ from Fin.ext (by show l.val = 384 + (l.val - 384); omega), (rows_found c h r _).2]
    exact hx _

end Cert.KernLaunch

end
-- ==== Proof.KernRead.lean ====
/-
  What the kernel's body leaves in its three output blocks at a grid point, as its values of the point's input blocks.
-/
module

public import proofs.«01_k».proof.Proof.KernLaunch

@[expose] public section

set_option maxRecDepth 65536
set_option maxHeartbeats 400000

noncomputable section

namespace Cert.KernRead

open Idealize.ShloMosaic Idealize.ShloMosaic.TcCoe Idealize.SL.Sem Cert.KernVals Cert.KernBlock Cert.KernLaunch
  Cert.KernelIdeal Cert.KernelIdeal.Gen

variable (m : (ℓ : Loc nD τ sig) → Buf (Elt Ideal) ℓ) (c : Dev nD) (hO : Ok m) (t : Fin (cfgM m hO).N)

/-- The point's first selection matrix. -/
def evens : Vec Ideal S384x192 .bf16 := iblk m hO c 1 t

/-- Its second selection matrix. -/
def odds : Vec Ideal S384x192 .bf16 := iblk m hO c 2 t

/-- Its lane counters. -/
def lanes : Vec Ideal S1x960 .i32 := iblk m hO c 3 t

/-- What the run leaves in the kept values' block, at those. -/
theorem left4 : (outsAt0 m hO c t).1 = out0_A_4 c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (ms0_5 m hO t) (hs0_5 m hO t) (ms0_6 m hO t) (hs0_6 m hO t)
    (img m c hO t) (evens m c hO t) (odds m c hO t) (lanes m c hO t) (tbl m 0) := by
  unfold outsAt0
  dsimp only
  unfold img evens odds lanes
  with_reducible rfl

/-- The same of the pooled values' block. -/
theorem left5 : (outsAt0 m hO c t).2.1 = out0_A_5 c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (ms0_5 m hO t) (hs0_5 m hO t) (ms0_6 m hO t) (hs0_6 m hO t)
    (img m c hO t) (evens m c hO t) (odds m c hO t) (lanes m c hO t) (tbl m 0) := by
  unfold outsAt0
  dsimp only
  unfold img evens odds lanes
  with_reducible rfl

/-- The same of the winners' block. -/
theorem left6 : (outsAt0 m hO c t).2.2 = out0_A_6 c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (ms0_5 m hO t) (hs0_5 m hO t) (ms0_6 m hO t) (hs0_6 m hO t)
    (img m c hO t) (evens m c hO t) (odds m c hO t) (lanes m c hO t) (tbl m 0) := by
  unfold outsAt0
  dsimp only
  unfold img evens odds lanes
  with_reducible rfl

/-- The winners' block. -/
theorem read6 : (outsAt0 m hO c t).2.2
    = k0_pay2 (winners c (grid0.coords t) (img m c hO t) (evens m c hO t) (odds m c hO t) (lanes m c hO t) (tbl m 0)) :=
  (left6 m c hO t).trans (out6 c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (ms0_5 m hO t) (hs0_5 m hO t) (ms0_6 m hO t) (hs0_6 m hO t)
    (img m c hO t) (evens m c hO t) (odds m c hO t) (lanes m c hO t) (tbl m 0))

/-- The pooled values' block. -/
theorem read5 : (outsAt0 m hO c t).2.1
    = k0_pay1 (k0_pay75 (e0 (img m c hO t) (evens m c hO t) (odds m c hO t))
      (e1 (img m c hO t) (evens m c hO t) (odds m c hO t)) (e2 (img m c hO t) (evens m c hO t) (odds m c hO t))
      (e3 (img m c hO t) (evens m c hO t) (odds m c hO t)) (k0_pay66 (total (img m c hO t) (evens m c hO t) (odds m c hO t)) one)) :=
  (left5 m c hO t).trans (out5 c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (ms0_5 m hO t) (hs0_5 m hO t) (ms0_6 m hO t) (hs0_6 m hO t)
    (img m c hO t) (evens m c hO t) (odds m c hO t) (lanes m c hO t) (tbl m 0))

/-- The kept values' block, at the columns of each half. -/
theorem read4 (r : Fin 192) (q : Fin 384) :
    (outsAt0 m hO c t).1 (ix4 0 0 r (lo q))
        = part0 c (grid0.coords t) (img m c hO t) (evens m c hO t) (odds m c hO t) (lanes m c hO t) (tbl m 0) (ix4 0 0 r q)
      ∧ (outsAt0 m hO c t).1 (ix4 0 0 r (hi q))
        = part1 c (grid0.coords t) (img m c hO t) (evens m c hO t) (odds m c hO t) (lanes m c hO t) (tbl m 0) (ix4 0 0 r q) := by
  rw [left4]
  exact out4 c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (ms0_5 m hO t) (hs0_5 m hO t) (ms0_6 m hO t) (hs0_6 m hO t)
    (img m c hO t) (evens m c hO t) (odds m c hO t) (lanes m c hO t) (tbl m 0) r q

end Cert.KernRead

end
-- ==== Proof.KernOut.lean ====
/-
  The three results as functions of the argument, and what the kernel's grid leaves in its result arrays.
-/
module

public import proofs.«01_k».proof.Proof.KernRead

@[expose] public section

set_option maxRecDepth 65536
set_option maxHeartbeats 400000

noncomputable section

namespace Cert.KernOut

open Idealize.ShloMosaic Idealize.ShloMosaic.TcCoe Idealize.SL.Sem Cert.Threefry Cert.Spec Cert.KernVals Cert.KernBlock
  Cert.KernPoint Cert.KernGeom Cert.KernLaunch Cert.KernRead Cert.KernelIdeal Cert.KernelIdeal.Gen

/-- The noise of the region of row `r` and column `s`. -/
def noiseAt (b : Fin 4) (ch : Fin 96) (r s : Fin 192) (k : Fin 5) : EReal := gum (ctr b ch (RefMain.rgn r s) k)

/-- The first result: what each region keeps. -/
def sparse (x : Vec Ideal S4x96x384x384 .f32) : Vec Ideal S4x96x384x384 .f32 := fun i =>
  kept (RefMain.ent x (i 0) (i 1) (RefMain.half (i 2)) (RefMain.half (i 3)))
    (noiseAt (i 0) (i 1) (RefMain.half (i 2)) (RefMain.half (i 3))) (RefMain.quad (i 2) (i 3))

/-- The second: each region's pooled value. -/
def pooled (x : Vec Ideal S4x96x384x384 .f32) : Vec Ideal S4x96x192x192 .f32 := fun i =>
  Spec.pool (RefMain.ent x (i 0) (i 1) (i 2) (i 3))

/-- The third: each region's winner. -/
def winner (x : Vec Ideal S4x96x384x384 .f32) : Vec Ideal S4x96x192x192 .i32 := fun i =>
  win (RefMain.ent x (i 0) (i 1) (i 2) (i 3)) (noiseAt (i 0) (i 1) (i 2) (i 3))

/-- The first result with its rows in pairs, as the grid leaves it. -/
def pairs (x : Vec Ideal S4x96x384x384 .f32) : Vec Ideal S4x96x192x768 .f32 := fun i =>
  kept (RefMain.ent x (i 0) (i 1) (i 2) ⟨(i 3).val % 384 / 2, by omega⟩)
    (noiseAt (i 0) (i 1) (i 2) ⟨(i 3).val % 384 / 2, by omega⟩)
    ⟨(i 3).val / 384 * 2 + (i 3).val % 384 % 2, by have : (i 3).val < 768 := (i 3).isLt; omega⟩

section

variable (m : (ℓ : Loc nD τ sig) → Buf (Elt Ideal) ℓ) (c : Dev nD) (hO : Ok m) (t : Fin (cfgM m hO).N)

/-- The point's first selection matrix, entry by entry. -/
theorem evens_at (q : Fin 384) (s : Fin 192) : evens m c hO t (ix2 q s) = if q = ev s then (1 : EReal) else 0 :=
  even_found c q s

/-- Its second. -/
theorem odds_at (q : Fin 384) (s : Fin 192) : odds m c hO t (ix2 q s) = if q = od s then (1 : EReal) else 0 :=
  odd_found c q s

/-- Its lane counters. -/
theorem lanes_at (k : Fin 5) (s : Fin 192) : lanes m c hO t (ix2 0 (lane k s)) = BitVec.ofNat 32 (5 * s.val + k.val) :=
  lane_found c k s

end

variable {m : (ℓ : Loc nD τ sig) → Buf (Elt Ideal) ℓ} {hO : Ok m} (c : Dev nD) (hx : ∀ i, arg m c i ≠ (⊤ : EReal))
  {t : Fin (cfgM m hO).N} {b : Fin 4} {ch : Fin 96} (h : On m hO t b ch)

include hx h in
/-- The winners the kernel stores at a grid point are those of its batch and channel. -/
theorem at6 (r s : Fin 192) : (outsAt0 m hO c t).2.2 (ix4 0 0 r s) = winner (arg m c) (ix4 b ch r s) := by
  refine (congrFun (read6 m c hO t) _).trans ((winner_block (block_not_top c h hx) (evens_at m c hO t) (odds_at m c hO t) (lanes_at m c hO t)
    (words m c).1 (words m c).2 h.1 h.2.1 h.2.2 r s).trans ?_)
  rw [ent_found c h]
  rfl

include hx h in
/-- So are the pooled values. -/
theorem at5 (r s : Fin 192) : (outsAt0 m hO c t).2.1 (ix4 0 0 r s) = pooled (arg m c) (ix4 b ch r s) := by
  refine (congrFun (read5 m c hO t) _).trans ((pool_block (block_not_top c h hx) (evens_at m c hO t) (odds_at m c hO t) r s).trans ?_)
  rw [ent_found c h]
  rfl

include hx h in
/-- And the kept values, each pair of rows side by side. -/
theorem at4 (r : Fin 192) (l : Fin 768) : (outsAt0 m hO c t).1 (ix4 0 0 r l) = pairs (arg m c) (ix4 b ch r l) := by
  by_cases hl : l.val < 384
  · rw [show l = lo ⟨l.val, hl⟩ from rfl]
    refine (read4 m c hO t r _).1.trans ((part0_eq (block_not_top c h hx) (evens_at m c hO t) (odds_at m c hO t) (lanes_at m c hO t)
      (words m c).1 (words m c).2 h.1 h.2.1 h.2.2 r _).trans ?_)
    rw [ent_found c h]
    have hs : KernVals.half ⟨l.val, hl⟩ = ⟨l.val % 384 / 2, by omega⟩ := Fin.ext (show l.val / 2 = l.val % 384 / 2 by omega)
    have hk : (⟨l.val % 2, by omega⟩ : Fin 4) = ⟨l.val / 384 * 2 + l.val % 384 % 2, by omega⟩ := Fin.ext
      (show l.val % 2 = l.val / 384 * 2 + l.val % 384 % 2 by omega)
    show kept _ (noiseAt b ch r _) (⟨l.val % 2, _⟩ : Fin 4) = _
    rw [hs, hk]
    rfl
  · rw [show l = hi ⟨l.val - 384, by omega⟩ from Fin.ext (by show l.val = 384 + (l.val - 384); omega)]
    refine (read4 m c hO t r _).2.trans ((part1_eq (block_not_top c h hx) (evens_at m c hO t) (odds_at m c hO t) (lanes_at m c hO t)
      (words m c).1 (words m c).2 h.1 h.2.1 h.2.2 r _).trans ?_)
    rw [ent_found c h]
    have hs : KernVals.half ⟨l.val - 384, by omega⟩ = ⟨(384 + (l.val - 384)) % 384 / 2, by omega⟩ :=
      Fin.ext (show (l.val - 384) / 2 = (384 + (l.val - 384)) % 384 / 2 by omega)
    have hk : (⟨2 + (l.val - 384) % 2, by omega⟩ : Fin 4)
        = ⟨(384 + (l.val - 384)) / 384 * 2 + (384 + (l.val - 384)) % 384 % 2, by omega⟩ := Fin.ext
      (show 2 + (l.val - 384) % 2 = (384 + (l.val - 384)) / 384 * 2 + (384 + (l.val - 384)) % 384 % 2 by omega)
    show kept _ (noiseAt b ch r _) (⟨2 + (l.val - 384) % 2, _⟩ : Fin 4) = _
    rw [hs, hk]
    rfl

end Cert.KernOut

end
-- ==== Proof.KernRun.lean ====
/-
  The kernel's run over the extended reals: what it leaves in each of its three results.
-/
module

public import proofs.«01_k».proof.Proof.KernOut

@[expose] public section

set_option maxRecDepth 65536
set_option maxHeartbeats 400000

noncomputable section

namespace Cert.KernRun

open Idealize.ShloMosaic Idealize.ShloMosaic.TcCoe Idealize.SL.Sem Cert.Threefry Cert.Spec Cert.KernVals
  Cert.KernGeom Cert.KernLaunch Cert.KernOut Cert.KernelIdeal Cert.KernelIdeal.Gen

/-- Where the image's row and column stand when the rows are in pairs. -/
def side (i j : Fin 384) : Fin 768 := ⟨i.val % 2 * 384 + j.val, by omega⟩

/-- The paired rows hold, at that place, what the first result holds at the row and column. -/
theorem pairs_side (x : Vec Ideal S4x96x384x384 .f32) (b : Fin 4) (ch : Fin 96) (i j : Fin 384) :
    pairs x (ix4 b ch (RefMain.half i) (side i j)) = sparse x (ix4 b ch i j) := by
  have hs : (⟨(side i j).val % 384 / 2, by omega⟩ : Fin 192) = RefMain.half j :=
    Fin.ext (show (i.val % 2 * 384 + j.val) % 384 / 2 = j.val / 2 by omega)
  have hk : (⟨(side i j).val / 384 * 2 + (side i j).val % 384 % 2, by have : (side i j).val < 768 := (side i j).isLt; omega⟩ : Fin 4)
      = RefMain.quad i j :=
    Fin.ext (show (i.val % 2 * 384 + j.val) / 384 * 2 + (i.val % 2 * 384 + j.val) % 384 % 2 = i.val % 2 * 2 + j.val % 2 by omega)
  show kept (RefMain.ent x b ch (RefMain.half i) ⟨(side i j).val % 384 / 2, _⟩) (noiseAt b ch (RefMain.half i) ⟨(side i j).val % 384 / 2, _⟩)
    (⟨(side i j).val / 384 * 2 + (side i j).val % 384 % 2, _⟩ : Fin 4) = _
  rw [hs, hk]
  rfl

/-- Taking the pairs of rows apart reads an entry at its place in the pairs. -/
theorem apart (y : Vec Ideal S4x96x192x768 .f32) (hn : S4x96x192x768.ShapeCasts S4x96x384x384) (b : Fin 4) (ch : Fin 96)
    (i j : Fin 384) : shapeCast S4x96x384x384 y hn (ix4 b ch i j) = y (ix4 b ch (RefMain.half i) (side i j)) := by
  pointwise
  rfl

variable (m : (ℓ : Loc nD τ sig) → Buf (Elt Ideal) ℓ) (hO : Ok m)

/-- What the lines after the grid leave in the first result: the grid's first array, its rows taken apart. -/
theorem tail0 (c : Dev nD) (y : Vec Ideal S4x96x192x768 .f32) (h : (dats m hO 0 c).arrAt 4 (cfgM m hO).N = y) :
    Pipeline.afterTail pcfgs (fun _ => adm m hO) (dats m hO) 0 (V0 m) [hostOps1] c main_v0_0
      = shapeCast S4x96x384x384 y shapeCasts_S4x96x192x768_S4x96x384x384 := by
  unfold Pipeline.afterTail
  rw [List.flatten_cons, List.flatten_nil, List.append_nil, StableHlo.after_cons, StableHlo.after_nil]
  refine (StableHlo.reshape_result main_call0_v12_0 main_v0_0 _ _ _ _ _).trans ?_
  have e := (Pipeline.withArrays_arr spec0 winFacts0.arr_inj c (V0 m c) (fun w => (dats m hO 0 c).arrAt w (cfgM m hO).N) 4).trans h
  funext i
  show shapeCast S4x96x384x384 _ _ i = _
  exact congrArg (fun z : Vec Ideal S4x96x192x768 .f32 => shapeCast S4x96x384x384 z shapeCasts_S4x96x192x768_S4x96x384x384 i) e

include hO in
/-- From an argument without plus infinity, the kernel runs to the three results, and keeps its argument. -/
theorem run (ρ : Dev nD → PrngReg) (hx : ∀ c i, arg m c i ≠ (⊤ : EReal)) :
    θ_run (defs (F := Ideal)) (onTc (τ := τ) (main (F := Ideal))) ⟨m, fun _ => 0, ρ⟩ fun r => ∀ c : Dev nD,
      r.2.mem ((c.tc : Thread nD τ).loc main_v0_0) = sparse (arg m c)
      ∧ r.2.mem ((c.tc : Thread nD τ).loc main_v0_1) = pooled (arg m c)
      ∧ r.2.mem ((c.tc : Thread nD τ).loc main_v0_2) = winner (arg m c)
      ∧ r.2.mem ((c.tc : Thread nD τ).loc main_arg0) = m ((c.tc : Thread nD τ).loc main_arg0) := by
  refine (θ_run _ _ _).mono (fun r h c => ?_) (θ_run_and (run_main m ρ hO) (unchanged m ρ hO))
  refine ⟨?_, ?_, ?_, h.2 c⟩
  · refine ((h.1 c).2 main_v0_0 (by decide : main_v0_0 ∈ Pipeline.restRefs sig spec0)).trans ?_
    refine (tail0 m hO c (pairs (arg m c)) (final4 m hO c _ fun t b ch ht r l => at4 c (hx c) ht r l)).trans ?_
    funext i
    obtain ⟨b, ch, p, q, rfl⟩ := split_all i
    exact (apart _ _ b ch p q).trans (pairs_side _ b ch p q)
  · exact ((h.1 c).1 5).trans (final5 m hO c _ fun t b ch ht r s => at5 c (hx c) ht r s)
  · exact ((h.1 c).1 6).trans (final6 m hO c _ fun t b ch ht r s => at6 c (hx c) ht r s)

end Cert.KernRun

end
-- ==== Proof.PreFacts.lean ====
/-
  The side conditions the precondition states about its shapes, proved.
-/
module

public import proofs.«01_k».proof.Defs
public import Idealize.ShloMosaic.Init
public import Idealize.ShloMosaic.Lib.Tactic

@[expose] public section

set_option maxRecDepth 16384

namespace Cert.Side

open Idealize.ShloMosaic

/-- The precondition's side conditions. -/
instance preFacts : Cert.Pre_not_plus_infinity.Facts where
  bcast_S_S4x96x384x384 := by decide
  reducesTo_S4x96x384x384_S_d0_1_2_3 := by decide
  h_S_ := by decide

end Cert.Side

end
-- ==== Proof.PreValue.lean ====
/-
  What the precondition says: no entry of the argument is plus infinity.
-/
module

public import proofs.«01_k».proof.Proof.PreFacts
public import proofs.«01_k».proof.Proof.Spec
public import Idealize.ShloMosaic.Lib.ReduceAll

@[expose] public section

set_option maxRecDepth 65536
set_option maxHeartbeats 1000000

noncomputable section

namespace Cert.PreValue

open Idealize.ShloMosaic Cert.Pre_not_plus_infinity

/-- The comparison the precondition makes at an entry. -/
theorem below (y : EReal) (h : Ideal.cmp .olt y (Ideal.ofBits .f32 0x7F800000#32) = 1#1) : y ≠ ⊤ := by
  rintro rfl
  revert h
  pointwise
  rw [decide_eq_false not_top_lt]
  decide

/-- No entry is plus infinity. -/
theorem not_top (x : FVec Ideal S4x96x384x384 .f32) (h : fn (F := Ideal) x = fun _ => 1#1) (i) : x i ≠ ⊤ := by
  unfold fn at h
  dsimp only at h
  have e := congrFun h (fun a => a.elim0)
  have : Subsingleton S_.Idx := ⟨fun a b => funext fun k => k.elim0⟩
  exact below (x i) (Host.reduce_andi_all _ _ _ _ _ e i)

end Cert.PreValue

end
-- ==== Proof.Algebraic.lean ====
/-
  The values: from an argument without plus infinity, the kernel and the reference end with the same three results.
-/
module

public import proofs.«01_k».proof.Proof.KernRun
public import proofs.«01_k».proof.Proof.Frames
public import proofs.«01_k».proof.Proof.PreValue
public import proofs.«01_k».proof.Proof.PreFacts

@[expose] public section

set_option maxRecDepth 65536
set_option maxHeartbeats 400000

noncomputable section

namespace Cert.Algebraic

open Idealize.ShloMosaic Idealize.ShloMosaic.TcCoe Idealize.SL.Sem Cert.Straight Cert.KernGeom Cert.KernOut

/-- The reference's runs: from a memory whose argument is `x`, its three results are the kernel's functions of `x`. -/
theorem reference_run (m : (ℓ : Loc Cert.ReferenceIdeal.nD Cert.ReferenceIdeal.τ Cert.ReferenceIdeal.sig) → Buf (Elt Ideal) ℓ)
    (g : Dev Cert.ReferenceIdeal.nD → PrngReg) (x : Dev Cert.ReferenceIdeal.nD → Vec Ideal Cert.KernelIdeal.S4x96x384x384 .f32)
    (hx : ∀ c : Dev Cert.ReferenceIdeal.nD, m ((c.tc : Thread Cert.ReferenceIdeal.nD Cert.ReferenceIdeal.τ).loc Cert.ReferenceIdeal.main_arg0) = x c) :
    θ_run (Cert.ReferenceIdeal.defs (F := Ideal)) (onTc (τ := Cert.ReferenceIdeal.τ) (Cert.ReferenceIdeal.main (F := Ideal)))
      ⟨m, fun _ => 0, g⟩ fun r => ∀ c : Dev Cert.ReferenceIdeal.nD,
        r.2.mem ((c.tc : Thread Cert.ReferenceIdeal.nD Cert.ReferenceIdeal.τ).loc Cert.ReferenceIdeal.main_v47) = sparse (x c)
        ∧ r.2.mem ((c.tc : Thread Cert.ReferenceIdeal.nD Cert.ReferenceIdeal.τ).loc Cert.ReferenceIdeal.main_v50) = pooled (x c)
        ∧ r.2.mem ((c.tc : Thread Cert.ReferenceIdeal.nD Cert.ReferenceIdeal.τ).loc Cert.ReferenceIdeal.main_v51) = winner (x c)
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0) := by
  refine θ_run_mono (Frames.reference_run m g) fun r hr c => ?_
  have E := Frames.left_eqns m c
  have ha : Frames.left m c (Proc.devRef .tc Cert.ReferenceIdeal.main_arg0) = x c := (Frames.left_arg m c).trans (hx c)
  refine ⟨(hr c _).trans ?_, (hr c _).trans ?_, (hr c _).trans ?_, (hr c _).trans (Frames.left_arg m c)⟩
  · funext i
    obtain ⟨b, ch, p, q, rfl⟩ := split_all i
    refine (RefMain.result0 c E b ch p q).trans ?_
    rw [ha]
    rfl
  · funext i
    obtain ⟨b, ch, p, q, rfl⟩ := split_all i
    refine (RefMain.result1 c E b ch p q).trans ?_
    rw [ha]
    rfl
  · funext i
    obtain ⟨b, ch, p, q, rfl⟩ := split_all i
    refine (RefMain.result2 c E b ch p q).trans ?_
    rw [ha]
    rfl

/-- The kernel and the reference end with equal results. -/
theorem claim : Cert.algebraic_KernelIdeal_ReferenceIdeal_pre_not_plus_infinity := by
  intro m g m' g' hpre hm
  refine ⟨fun c => sparse (KernLaunch.arg m c), fun c => pooled (KernLaunch.arg m c), fun c => winner (KernLaunch.arg m c), ?_, ?_⟩
  · exact KernRun.run m (Frames.ideal_ok m) g fun c i => PreValue.not_top _ (hpre c) i
  · exact reference_run m' g' (fun c => KernLaunch.arg m c) hm

end Cert.Algebraic

end
-- ==== Proof.lean ====
/-
  The certificate's claim, put together from the frames of the three programs and their values.
-/
module

public import proofs.«01_k».proof.Defs
public import proofs.«01_k».proof.Proof.Frames
public import proofs.«01_k».proof.Proof.Algebraic

@[expose] public section

noncomputable section

namespace Cert.Proof

/-- The certificate's claim. -/
theorem claim : Cert.Claim :=
  ⟨Cert.Kernel.Gen.facts, Cert.KernelIdeal.Gen.facts, Cert.Side.refFacts, Cert.Side.preFacts, Cert.Frames.kernel,
    Cert.Frames.ideal, fun m g _ => Cert.Frames.ideal m g trivial, Cert.Frames.reference,
    fun m g _ => Cert.Frames.reference m g trivial, trivial, Cert.Algebraic.claim⟩

end Cert.Proof

end
